-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x256x65536 : Shape := ⟨3, ![1, 256, 65536]⟩
abbrev S0 : Shape := ⟨1, ![0]⟩
abbrev S1x256x256x256 : Shape := ⟨4, ![1, 256, 256, 256]⟩
abbrev S8x2048 : Shape := ⟨2, ![8, 2048]⟩
abbrev S8x8x256 : Shape := ⟨3, ![8, 8, 256]⟩
abbrev S_ : Shape := ⟨0, ![]⟩
abbrev S1x8x2048 : Shape := ⟨3, ![1, 8, 2048]⟩
abbrev S1x16 : Shape := ⟨2, ![1, 16]⟩
abbrev S16 : Shape := ⟨1, ![16]⟩
abbrev S1x1x16 : Shape := ⟨3, ![1, 1, 16]⟩
abbrev S1x8x8x256 : Shape := ⟨4, ![1, 8, 8, 256]⟩

abbrev nBuf : Table → Nat
  | .hbm => 4
  | .local .scVector .vmem => 4
  | _ => 0

abbrev bufTy : (tb : Table) → Fin (nBuf tb) → BufTy
  | .hbm, ⟨0, _⟩ => ⟨S1x256x65536, .f32⟩
  | .hbm, ⟨1, _⟩ => ⟨S0, .i32⟩
  | .hbm, ⟨2, _⟩ => ⟨S0, .f32⟩
  | .hbm, ⟨3, _⟩ => ⟨S1x256x256x256, .f32⟩
  | .local .scVector .vmem, ⟨0, _⟩ => ⟨S8x2048, .f32⟩
  | .local .scVector .vmem, ⟨1, _⟩ => ⟨S8x2048, .f32⟩
  | .local .scVector .vmem, ⟨2, _⟩ => ⟨S8x8x256, .f32⟩
  | .local .scVector .vmem, ⟨3, _⟩ => ⟨S8x8x256, .f32⟩
  | _, _ => ⟨S1x256x65536, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_arg0_scv : Ref sig .scVector := ⟨.hbm, 0, rfl⟩
abbrev main_v0_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c0_i32_0 : BitVec 32 := 0#32
  ![0, v2.toNat, 0]
def k0_off2 (i : grid0.Coords) : Fin 3 → Nat :=
  let c0_i32_2 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c2048_i32 : BitVec 32 := 2048#32
  ![0, v2.toNat, 2048]
@[reducible] def k0_t1_loop : Scf.Loop 32 :=
  let c0_i32_7 : BitVec 32 := 0#32
  let c1024_i32 : BitVec 32 := 1024#32
  let v15 : BitVec 32 := Scalar.addi c0_i32_7 c1024_i32
  let c1_i32 : BitVec 32 := 1#32
  ⟨c0_i32_7, v15, c1_i32⟩
def k0_mult1 (k0_t1 : Fin k0_t1_loop.trips) : BitVec 32 :=
  let c0_i32_577 : BitVec 32 := 0#32
  let c0_i32_7 : BitVec 32 := 0#32
  let c1_i32 : BitVec 32 := 1#32
  let arg12 : BitVec 32 := Scf.iv c0_i32_7 c1_i32 k0_t1
  let c16_i32_576 : BitVec 32 := 16#32
  let v547 : BitVec 32 := Scalar.muli arg12 c16_i32_576
  let v548 : BitVec 32 := Scalar.addi c0_i32_577 v547
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  v575
def k0_mult2 (k0_t1 : Fin k0_t1_loop.trips) : BitVec 32 :=
  let c0_i32_577 : BitVec 32 := 0#32
  let c0_i32_7 : BitVec 32 := 0#32
  let c1_i32 : BitVec 32 := 1#32
  let arg12 : BitVec 32 := Scf.iv c0_i32_7 c1_i32 k0_t1
  let c16_i32_576 : BitVec 32 := 16#32
  let v547 : BitVec 32 := Scalar.muli arg12 c16_i32_576
  let v548 : BitVec 32 := Scalar.addi c0_i32_577 v547
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  let v576 : BitVec 32 := v575
  let c256_i32_597 : BitVec 32 := 256#32
  let c0_i32_598 : BitVec 32 := 0#32
  let v594 : BitVec 1 := Scalar.cmpi .eq c256_i32_597 c0_i32_598
  let c1_i32_599 : BitVec 32 := 1#32
  let v595 : BitVec 32 := Scalar.select v594 c1_i32_599 c256_i32_597
  let v596 : BitVec 32 := Scalar.remsi v576 v595
  let c0_i32_601 : BitVec 32 := 0#32
  let v598 : BitVec 1 := Scalar.cmpi .slt v596 c0_i32_601
  let c0_i32_602 : BitVec 32 := 0#32
  let v599 : BitVec 1 := Scalar.cmpi .slt v595 c0_i32_602
  let v600 : BitVec 1 := Scalar.xori v598 v599
  let c0_i32_600 : BitVec 32 := 0#32
  let v597 : BitVec 1 := Scalar.cmpi .ne v596 c0_i32_600
  let v601 : BitVec 1 := Scalar.andi v600 v597
  let v602 : BitVec 32 := Scalar.addi v596 v595
  let v603 : BitVec 32 := Scalar.select v601 v602 v596
  v603
def k0_off3 (k0_t1 : Fin k0_t1_loop.trips) : Fin 2 → Nat :=
  let c0_i32_577 : BitVec 32 := 0#32
  let c0_i32_7 : BitVec 32 := 0#32
  let c1_i32 : BitVec 32 := 1#32
  let arg12 : BitVec 32 := Scf.iv c0_i32_7 c1_i32 k0_t1
  let c16_i32_576 : BitVec 32 := 16#32
  let v547 : BitVec 32 := Scalar.muli arg12 c16_i32_576
  let v548 : BitVec 32 := Scalar.addi c0_i32_577 v547
  let c0_i32_579 : BitVec 32 := 0#32
  let v550 : BitVec 1 := Scalar.cmpi .sgt v548 c0_i32_579
  let v551 : BitVec 32 := Scalar.extui v550
  let c0_i32_580 : BitVec 32 := 0#32
  let v552 : BitVec 1 := Scalar.cmpi .slt v548 c0_i32_580
  let v553 : BitVec 32 := Scalar.extui v552
  let v554 : BitVec 32 := Scalar.subi v551 v553
  let c2048_i32_578 : BitVec 32 := 2048#32
  let c0_i32_581 : BitVec 32 := 0#32
  let v555 : BitVec 1 := Scalar.cmpi .sgt c2048_i32_578 c0_i32_581
  let v556 : BitVec 32 := Scalar.extui v555
  let c0_i32_582 : BitVec 32 := 0#32
  let v557 : BitVec 1 := Scalar.cmpi .slt c2048_i32_578 c0_i32_582
  let v558 : BitVec 32 := Scalar.extui v557
  let v559 : BitVec 32 := Scalar.subi v556 v558
  let v560 : BitVec 1 := Scalar.cmpi .ne v554 v559
  let v561 : BitVec 32 := Scalar.remsi v548 c2048_i32_578
  let c0_i32_583 : BitVec 32 := 0#32
  let v562 : BitVec 1 := Scalar.cmpi .ne v561 c0_i32_583
  let v563 : BitVec 1 := Scalar.andi v560 v562
  let v549 : BitVec 32 := Scalar.divsi v548 c2048_i32_578
  let c1_i32_584 : BitVec 32 := 1#32
  let v564 : BitVec 32 := Scalar.subi v549 c1_i32_584
  let v565 : BitVec 32 := Scalar.select v563 v564 v549
  let v605 : Index := Scalar.indexCast v565
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  let v576 : BitVec 32 := v575
  let v606 : Index := Scalar.indexCast v576
  ![v605.toNat, v606.toNat]
def k0_off4 (k0_t1 : Fin k0_t1_loop.trips) : Fin 3 → Nat :=
  let c0_i32_577 : BitVec 32 := 0#32
  let c0_i32_7 : BitVec 32 := 0#32
  let c1_i32 : BitVec 32 := 1#32
  let arg12 : BitVec 32 := Scf.iv c0_i32_7 c1_i32 k0_t1
  let c16_i32_576 : BitVec 32 := 16#32
  let v547 : BitVec 32 := Scalar.muli arg12 c16_i32_576
  let v548 : BitVec 32 := Scalar.addi c0_i32_577 v547
  let c0_i32_579 : BitVec 32 := 0#32
  let v550 : BitVec 1 := Scalar.cmpi .sgt v548 c0_i32_579
  let v551 : BitVec 32 := Scalar.extui v550
  let c0_i32_580 : BitVec 32 := 0#32
  let v552 : BitVec 1 := Scalar.cmpi .slt v548 c0_i32_580
  let v553 : BitVec 32 := Scalar.extui v552
  let v554 : BitVec 32 := Scalar.subi v551 v553
  let c2048_i32_578 : BitVec 32 := 2048#32
  let c0_i32_581 : BitVec 32 := 0#32
  let v555 : BitVec 1 := Scalar.cmpi .sgt c2048_i32_578 c0_i32_581
  let v556 : BitVec 32 := Scalar.extui v555
  let c0_i32_582 : BitVec 32 := 0#32
  let v557 : BitVec 1 := Scalar.cmpi .slt c2048_i32_578 c0_i32_582
  let v558 : BitVec 32 := Scalar.extui v557
  let v559 : BitVec 32 := Scalar.subi v556 v558
  let v560 : BitVec 1 := Scalar.cmpi .ne v554 v559
  let v561 : BitVec 32 := Scalar.remsi v548 c2048_i32_578
  let c0_i32_583 : BitVec 32 := 0#32
  let v562 : BitVec 1 := Scalar.cmpi .ne v561 c0_i32_583
  let v563 : BitVec 1 := Scalar.andi v560 v562
  let v549 : BitVec 32 := Scalar.divsi v548 c2048_i32_578
  let c1_i32_584 : BitVec 32 := 1#32
  let v564 : BitVec 32 := Scalar.subi v549 c1_i32_584
  let v565 : BitVec 32 := Scalar.select v563 v564 v549
  let v613 : Index := Scalar.indexCast v565
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  let v576 : BitVec 32 := v575
  let c0_i32_591 : BitVec 32 := 0#32
  let v578 : BitVec 1 := Scalar.cmpi .sgt v576 c0_i32_591
  let v579 : BitVec 32 := Scalar.extui v578
  let c0_i32_592 : BitVec 32 := 0#32
  let v580 : BitVec 1 := Scalar.cmpi .slt v576 c0_i32_592
  let v581 : BitVec 32 := Scalar.extui v580
  let v582 : BitVec 32 := Scalar.subi v579 v581
  let c256_i32 : BitVec 32 := 256#32
  let c0_i32_593 : BitVec 32 := 0#32
  let v583 : BitVec 1 := Scalar.cmpi .sgt c256_i32 c0_i32_593
  let v584 : BitVec 32 := Scalar.extui v583
  let c0_i32_594 : BitVec 32 := 0#32
  let v585 : BitVec 1 := Scalar.cmpi .slt c256_i32 c0_i32_594
  let v586 : BitVec 32 := Scalar.extui v585
  let v587 : BitVec 32 := Scalar.subi v584 v586
  let v588 : BitVec 1 := Scalar.cmpi .ne v582 v587
  let v589 : BitVec 32 := Scalar.remsi v576 c256_i32
  let c0_i32_595 : BitVec 32 := 0#32
  let v590 : BitVec 1 := Scalar.cmpi .ne v589 c0_i32_595
  let v591 : BitVec 1 := Scalar.andi v588 v590
  let v577 : BitVec 32 := Scalar.divsi v576 c256_i32
  let c1_i32_596 : BitVec 32 := 1#32
  let v592 : BitVec 32 := Scalar.subi v577 c1_i32_596
  let v593 : BitVec 32 := Scalar.select v591 v592 v577
  let v614 : Index := Scalar.indexCast v593
  let c256_i32_597 : BitVec 32 := 256#32
  let c0_i32_598 : BitVec 32 := 0#32
  let v594 : BitVec 1 := Scalar.cmpi .eq c256_i32_597 c0_i32_598
  let c1_i32_599 : BitVec 32 := 1#32
  let v595 : BitVec 32 := Scalar.select v594 c1_i32_599 c256_i32_597
  let v596 : BitVec 32 := Scalar.remsi v576 v595
  let c0_i32_601 : BitVec 32 := 0#32
  let v598 : BitVec 1 := Scalar.cmpi .slt v596 c0_i32_601
  let c0_i32_602 : BitVec 32 := 0#32
  let v599 : BitVec 1 := Scalar.cmpi .slt v595 c0_i32_602
  let v600 : BitVec 1 := Scalar.xori v598 v599
  let c0_i32_600 : BitVec 32 := 0#32
  let v597 : BitVec 1 := Scalar.cmpi .ne v596 c0_i32_600
  let v601 : BitVec 1 := Scalar.andi v600 v597
  let v602 : BitVec 32 := Scalar.addi v596 v595
  let v603 : BitVec 32 := Scalar.select v601 v602 v596
  let v604 : BitVec 32 := v603
  let v615 : Index := Scalar.indexCast v604
  ![v613.toNat, v614.toNat, v615.toNat]
def k0_off5 (i : grid0.Coords) : Fin 4 → Nat :=
  let c0_i32_9 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c0_i32_10 : BitVec 32 := 0#32
  let c0_i32_11 : BitVec 32 := 0#32
  ![0, v2.toNat, 0, 0]
def k0_off6 (i : grid0.Coords) : Fin 3 → Nat :=
  let c0_i32_14 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c4096_i32 : BitVec 32 := 4096#32
  ![0, v2.toNat, 4096]
@[reducible] def k0_t2_loop : Scf.Loop 32 :=
  let c0_i32_19 : BitVec 32 := 0#32
  let c1024_i32_20 : BitVec 32 := 1024#32
  let v28 : BitVec 32 := Scalar.addi c0_i32_19 c1024_i32_20
  let c1_i32_21 : BitVec 32 := 1#32
  ⟨c0_i32_19, v28, c1_i32_21⟩
def k0_mult3 (k0_t2 : Fin k0_t2_loop.trips) : BitVec 32 :=
  let c0_i32_577 : BitVec 32 := 0#32
  let c0_i32_19 : BitVec 32 := 0#32
  let c1_i32_21 : BitVec 32 := 1#32
  let arg12 : BitVec 32 := Scf.iv c0_i32_19 c1_i32_21 k0_t2
  let c16_i32_576 : BitVec 32 := 16#32
  let v547 : BitVec 32 := Scalar.muli arg12 c16_i32_576
  let v548 : BitVec 32 := Scalar.addi c0_i32_577 v547
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  v575
def k0_mult4 (k0_t2 : Fin k0_t2_loop.trips) : BitVec 32 :=
  let c0_i32_577 : BitVec 32 := 0#32
  let c0_i32_19 : BitVec 32 := 0#32
  let c1_i32_21 : BitVec 32 := 1#32
  let arg12 : BitVec 32 := Scf.iv c0_i32_19 c1_i32_21 k0_t2
  let c16_i32_576 : BitVec 32 := 16#32
  let v547 : BitVec 32 := Scalar.muli arg12 c16_i32_576
  let v548 : BitVec 32 := Scalar.addi c0_i32_577 v547
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  let v576 : BitVec 32 := v575
  let c256_i32_597 : BitVec 32 := 256#32
  let c0_i32_598 : BitVec 32 := 0#32
  let v594 : BitVec 1 := Scalar.cmpi .eq c256_i32_597 c0_i32_598
  let c1_i32_599 : BitVec 32 := 1#32
  let v595 : BitVec 32 := Scalar.select v594 c1_i32_599 c256_i32_597
  let v596 : BitVec 32 := Scalar.remsi v576 v595
  let c0_i32_601 : BitVec 32 := 0#32
  let v598 : BitVec 1 := Scalar.cmpi .slt v596 c0_i32_601
  let c0_i32_602 : BitVec 32 := 0#32
  let v599 : BitVec 1 := Scalar.cmpi .slt v595 c0_i32_602
  let v600 : BitVec 1 := Scalar.xori v598 v599
  let c0_i32_600 : BitVec 32 := 0#32
  let v597 : BitVec 1 := Scalar.cmpi .ne v596 c0_i32_600
  let v601 : BitVec 1 := Scalar.andi v600 v597
  let v602 : BitVec 32 := Scalar.addi v596 v595
  let v603 : BitVec 32 := Scalar.select v601 v602 v596
  v603
def k0_off7 (k0_t2 : Fin k0_t2_loop.trips) : Fin 2 → Nat :=
  let c0_i32_577 : BitVec 32 := 0#32
  let c0_i32_19 : BitVec 32 := 0#32
  let c1_i32_21 : BitVec 32 := 1#32
  let arg12 : BitVec 32 := Scf.iv c0_i32_19 c1_i32_21 k0_t2
  let c16_i32_576 : BitVec 32 := 16#32
  let v547 : BitVec 32 := Scalar.muli arg12 c16_i32_576
  let v548 : BitVec 32 := Scalar.addi c0_i32_577 v547
  let c0_i32_579 : BitVec 32 := 0#32
  let v550 : BitVec 1 := Scalar.cmpi .sgt v548 c0_i32_579
  let v551 : BitVec 32 := Scalar.extui v550
  let c0_i32_580 : BitVec 32 := 0#32
  let v552 : BitVec 1 := Scalar.cmpi .slt v548 c0_i32_580
  let v553 : BitVec 32 := Scalar.extui v552
  let v554 : BitVec 32 := Scalar.subi v551 v553
  let c2048_i32_578 : BitVec 32 := 2048#32
  let c0_i32_581 : BitVec 32 := 0#32
  let v555 : BitVec 1 := Scalar.cmpi .sgt c2048_i32_578 c0_i32_581
  let v556 : BitVec 32 := Scalar.extui v555
  let c0_i32_582 : BitVec 32 := 0#32
  let v557 : BitVec 1 := Scalar.cmpi .slt c2048_i32_578 c0_i32_582
  let v558 : BitVec 32 := Scalar.extui v557
  let v559 : BitVec 32 := Scalar.subi v556 v558
  let v560 : BitVec 1 := Scalar.cmpi .ne v554 v559
  let v561 : BitVec 32 := Scalar.remsi v548 c2048_i32_578
  let c0_i32_583 : BitVec 32 := 0#32
  let v562 : BitVec 1 := Scalar.cmpi .ne v561 c0_i32_583
  let v563 : BitVec 1 := Scalar.andi v560 v562
  let v549 : BitVec 32 := Scalar.divsi v548 c2048_i32_578
  let c1_i32_584 : BitVec 32 := 1#32
  let v564 : BitVec 32 := Scalar.subi v549 c1_i32_584
  let v565 : BitVec 32 := Scalar.select v563 v564 v549
  let v605 : Index := Scalar.indexCast v565
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  let v576 : BitVec 32 := v575
  let v606 : Index := Scalar.indexCast v576
  ![v605.toNat, v606.toNat]
def k0_off8 (k0_t2 : Fin k0_t2_loop.trips) : Fin 3 → Nat :=
  let c0_i32_577 : BitVec 32 := 0#32
  let c0_i32_19 : BitVec 32 := 0#32
  let c1_i32_21 : BitVec 32 := 1#32
  let arg12 : BitVec 32 := Scf.iv c0_i32_19 c1_i32_21 k0_t2
  let c16_i32_576 : BitVec 32 := 16#32
  let v547 : BitVec 32 := Scalar.muli arg12 c16_i32_576
  let v548 : BitVec 32 := Scalar.addi c0_i32_577 v547
  let c0_i32_579 : BitVec 32 := 0#32
  let v550 : BitVec 1 := Scalar.cmpi .sgt v548 c0_i32_579
  let v551 : BitVec 32 := Scalar.extui v550
  let c0_i32_580 : BitVec 32 := 0#32
  let v552 : BitVec 1 := Scalar.cmpi .slt v548 c0_i32_580
  let v553 : BitVec 32 := Scalar.extui v552
  let v554 : BitVec 32 := Scalar.subi v551 v553
  let c2048_i32_578 : BitVec 32 := 2048#32
  let c0_i32_581 : BitVec 32 := 0#32
  let v555 : BitVec 1 := Scalar.cmpi .sgt c2048_i32_578 c0_i32_581
  let v556 : BitVec 32 := Scalar.extui v555
  let c0_i32_582 : BitVec 32 := 0#32
  let v557 : BitVec 1 := Scalar.cmpi .slt c2048_i32_578 c0_i32_582
  let v558 : BitVec 32 := Scalar.extui v557
  let v559 : BitVec 32 := Scalar.subi v556 v558
  let v560 : BitVec 1 := Scalar.cmpi .ne v554 v559
  let v561 : BitVec 32 := Scalar.remsi v548 c2048_i32_578
  let c0_i32_583 : BitVec 32 := 0#32
  let v562 : BitVec 1 := Scalar.cmpi .ne v561 c0_i32_583
  let v563 : BitVec 1 := Scalar.andi v560 v562
  let v549 : BitVec 32 := Scalar.divsi v548 c2048_i32_578
  let c1_i32_584 : BitVec 32 := 1#32
  let v564 : BitVec 32 := Scalar.subi v549 c1_i32_584
  let v565 : BitVec 32 := Scalar.select v563 v564 v549
  let v613 : Index := Scalar.indexCast v565
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  let v576 : BitVec 32 := v575
  let c0_i32_591 : BitVec 32 := 0#32
  let v578 : BitVec 1 := Scalar.cmpi .sgt v576 c0_i32_591
  let v579 : BitVec 32 := Scalar.extui v578
  let c0_i32_592 : BitVec 32 := 0#32
  let v580 : BitVec 1 := Scalar.cmpi .slt v576 c0_i32_592
  let v581 : BitVec 32 := Scalar.extui v580
  let v582 : BitVec 32 := Scalar.subi v579 v581
  let c256_i32 : BitVec 32 := 256#32
  let c0_i32_593 : BitVec 32 := 0#32
  let v583 : BitVec 1 := Scalar.cmpi .sgt c256_i32 c0_i32_593
  let v584 : BitVec 32 := Scalar.extui v583
  let c0_i32_594 : BitVec 32 := 0#32
  let v585 : BitVec 1 := Scalar.cmpi .slt c256_i32 c0_i32_594
  let v586 : BitVec 32 := Scalar.extui v585
  let v587 : BitVec 32 := Scalar.subi v584 v586
  let v588 : BitVec 1 := Scalar.cmpi .ne v582 v587
  let v589 : BitVec 32 := Scalar.remsi v576 c256_i32
  let c0_i32_595 : BitVec 32 := 0#32
  let v590 : BitVec 1 := Scalar.cmpi .ne v589 c0_i32_595
  let v591 : BitVec 1 := Scalar.andi v588 v590
  let v577 : BitVec 32 := Scalar.divsi v576 c256_i32
  let c1_i32_596 : BitVec 32 := 1#32
  let v592 : BitVec 32 := Scalar.subi v577 c1_i32_596
  let v593 : BitVec 32 := Scalar.select v591 v592 v577
  let v614 : Index := Scalar.indexCast v593
  let c256_i32_597 : BitVec 32 := 256#32
  let c0_i32_598 : BitVec 32 := 0#32
  let v594 : BitVec 1 := Scalar.cmpi .eq c256_i32_597 c0_i32_598
  let c1_i32_599 : BitVec 32 := 1#32
  let v595 : BitVec 32 := Scalar.select v594 c1_i32_599 c256_i32_597
  let v596 : BitVec 32 := Scalar.remsi v576 v595
  let c0_i32_601 : BitVec 32 := 0#32
  let v598 : BitVec 1 := Scalar.cmpi .slt v596 c0_i32_601
  let c0_i32_602 : BitVec 32 := 0#32
  let v599 : BitVec 1 := Scalar.cmpi .slt v595 c0_i32_602
  let v600 : BitVec 1 := Scalar.xori v598 v599
  let c0_i32_600 : BitVec 32 := 0#32
  let v597 : BitVec 1 := Scalar.cmpi .ne v596 c0_i32_600
  let v601 : BitVec 1 := Scalar.andi v600 v597
  let v602 : BitVec 32 := Scalar.addi v596 v595
  let v603 : BitVec 32 := Scalar.select v601 v602 v596
  let v604 : BitVec 32 := v603
  let v615 : Index := Scalar.indexCast v604
  ![v613.toNat, v614.toNat, v615.toNat]
def k0_off9 (i : grid0.Coords) : Fin 4 → Nat :=
  let c0_i32_23 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c8_i32_24 : BitVec 32 := 8#32
  let c0_i32_25 : BitVec 32 := 0#32
  ![0, v2.toNat, 8, 0]
def k0_off10 (i : grid0.Coords) : Fin 3 → Nat :=
  let c0_i32_28 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c6144_i32 : BitVec 32 := 6144#32
  ![0, v2.toNat, 6144]
@[reducible] def k0_t3_loop : Scf.Loop 32 :=
  let c0_i32_38 : BitVec 32 := 0#32
  let c1024_i32_39 : BitVec 32 := 1024#32
  let v45 : BitVec 32 := Scalar.addi c0_i32_38 c1024_i32_39
  let c1_i32_40 : BitVec 32 := 1#32
  ⟨c0_i32_38, v45, c1_i32_40⟩
def k0_mult5 (k0_t3 : Fin k0_t3_loop.trips) : BitVec 32 :=
  let c0_i32_577 : BitVec 32 := 0#32
  let c0_i32_38 : BitVec 32 := 0#32
  let c1_i32_40 : BitVec 32 := 1#32
  let arg12 : BitVec 32 := Scf.iv c0_i32_38 c1_i32_40 k0_t3
  let c16_i32_576 : BitVec 32 := 16#32
  let v547 : BitVec 32 := Scalar.muli arg12 c16_i32_576
  let v548 : BitVec 32 := Scalar.addi c0_i32_577 v547
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  v575
def k0_mult6 (k0_t3 : Fin k0_t3_loop.trips) : BitVec 32 :=
  let c0_i32_577 : BitVec 32 := 0#32
  let c0_i32_38 : BitVec 32 := 0#32
  let c1_i32_40 : BitVec 32 := 1#32
  let arg12 : BitVec 32 := Scf.iv c0_i32_38 c1_i32_40 k0_t3
  let c16_i32_576 : BitVec 32 := 16#32
  let v547 : BitVec 32 := Scalar.muli arg12 c16_i32_576
  let v548 : BitVec 32 := Scalar.addi c0_i32_577 v547
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  let v576 : BitVec 32 := v575
  let c256_i32_597 : BitVec 32 := 256#32
  let c0_i32_598 : BitVec 32 := 0#32
  let v594 : BitVec 1 := Scalar.cmpi .eq c256_i32_597 c0_i32_598
  let c1_i32_599 : BitVec 32 := 1#32
  let v595 : BitVec 32 := Scalar.select v594 c1_i32_599 c256_i32_597
  let v596 : BitVec 32 := Scalar.remsi v576 v595
  let c0_i32_601 : BitVec 32 := 0#32
  let v598 : BitVec 1 := Scalar.cmpi .slt v596 c0_i32_601
  let c0_i32_602 : BitVec 32 := 0#32
  let v599 : BitVec 1 := Scalar.cmpi .slt v595 c0_i32_602
  let v600 : BitVec 1 := Scalar.xori v598 v599
  let c0_i32_600 : BitVec 32 := 0#32
  let v597 : BitVec 1 := Scalar.cmpi .ne v596 c0_i32_600
  let v601 : BitVec 1 := Scalar.andi v600 v597
  let v602 : BitVec 32 := Scalar.addi v596 v595
  let v603 : BitVec 32 := Scalar.select v601 v602 v596
  v603
def k0_off11 (k0_t3 : Fin k0_t3_loop.trips) : Fin 2 → Nat :=
  let c0_i32_577 : BitVec 32 := 0#32
  let c0_i32_38 : BitVec 32 := 0#32
  let c1_i32_40 : BitVec 32 := 1#32
  let arg12 : BitVec 32 := Scf.iv c0_i32_38 c1_i32_40 k0_t3
  let c16_i32_576 : BitVec 32 := 16#32
  let v547 : BitVec 32 := Scalar.muli arg12 c16_i32_576
  let v548 : BitVec 32 := Scalar.addi c0_i32_577 v547
  let c0_i32_579 : BitVec 32 := 0#32
  let v550 : BitVec 1 := Scalar.cmpi .sgt v548 c0_i32_579
  let v551 : BitVec 32 := Scalar.extui v550
  let c0_i32_580 : BitVec 32 := 0#32
  let v552 : BitVec 1 := Scalar.cmpi .slt v548 c0_i32_580
  let v553 : BitVec 32 := Scalar.extui v552
  let v554 : BitVec 32 := Scalar.subi v551 v553
  let c2048_i32_578 : BitVec 32 := 2048#32
  let c0_i32_581 : BitVec 32 := 0#32
  let v555 : BitVec 1 := Scalar.cmpi .sgt c2048_i32_578 c0_i32_581
  let v556 : BitVec 32 := Scalar.extui v555
  let c0_i32_582 : BitVec 32 := 0#32
  let v557 : BitVec 1 := Scalar.cmpi .slt c2048_i32_578 c0_i32_582
  let v558 : BitVec 32 := Scalar.extui v557
  let v559 : BitVec 32 := Scalar.subi v556 v558
  let v560 : BitVec 1 := Scalar.cmpi .ne v554 v559
  let v561 : BitVec 32 := Scalar.remsi v548 c2048_i32_578
  let c0_i32_583 : BitVec 32 := 0#32
  let v562 : BitVec 1 := Scalar.cmpi .ne v561 c0_i32_583
  let v563 : BitVec 1 := Scalar.andi v560 v562
  let v549 : BitVec 32 := Scalar.divsi v548 c2048_i32_578
  let c1_i32_584 : BitVec 32 := 1#32
  let v564 : BitVec 32 := Scalar.subi v549 c1_i32_584
  let v565 : BitVec 32 := Scalar.select v563 v564 v549
  let v605 : Index := Scalar.indexCast v565
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  let v576 : BitVec 32 := v575
  let v606 : Index := Scalar.indexCast v576
  ![v605.toNat, v606.toNat]
def k0_off12 (k0_t3 : Fin k0_t3_loop.trips) : Fin 3 → Nat :=
  let c0_i32_577 : BitVec 32 := 0#32
  let c0_i32_38 : BitVec 32 := 0#32
  let c1_i32_40 : BitVec 32 := 1#32
  let arg12 : BitVec 32 := Scf.iv c0_i32_38 c1_i32_40 k0_t3
  let c16_i32_576 : BitVec 32 := 16#32
  let v547 : BitVec 32 := Scalar.muli arg12 c16_i32_576
  let v548 : BitVec 32 := Scalar.addi c0_i32_577 v547
  let c0_i32_579 : BitVec 32 := 0#32
  let v550 : BitVec 1 := Scalar.cmpi .sgt v548 c0_i32_579
  let v551 : BitVec 32 := Scalar.extui v550
  let c0_i32_580 : BitVec 32 := 0#32
  let v552 : BitVec 1 := Scalar.cmpi .slt v548 c0_i32_580
  let v553 : BitVec 32 := Scalar.extui v552
  let v554 : BitVec 32 := Scalar.subi v551 v553
  let c2048_i32_578 : BitVec 32 := 2048#32
  let c0_i32_581 : BitVec 32 := 0#32
  let v555 : BitVec 1 := Scalar.cmpi .sgt c2048_i32_578 c0_i32_581
  let v556 : BitVec 32 := Scalar.extui v555
  let c0_i32_582 : BitVec 32 := 0#32
  let v557 : BitVec 1 := Scalar.cmpi .slt c2048_i32_578 c0_i32_582
  let v558 : BitVec 32 := Scalar.extui v557
  let v559 : BitVec 32 := Scalar.subi v556 v558
  let v560 : BitVec 1 := Scalar.cmpi .ne v554 v559
  let v561 : BitVec 32 := Scalar.remsi v548 c2048_i32_578
  let c0_i32_583 : BitVec 32 := 0#32
  let v562 : BitVec 1 := Scalar.cmpi .ne v561 c0_i32_583
  let v563 : BitVec 1 := Scalar.andi v560 v562
  let v549 : BitVec 32 := Scalar.divsi v548 c2048_i32_578
  let c1_i32_584 : BitVec 32 := 1#32
  let v564 : BitVec 32 := Scalar.subi v549 c1_i32_584
  let v565 : BitVec 32 := Scalar.select v563 v564 v549
  let v613 : Index := Scalar.indexCast v565
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  let v576 : BitVec 32 := v575
  let c0_i32_591 : BitVec 32 := 0#32
  let v578 : BitVec 1 := Scalar.cmpi .sgt v576 c0_i32_591
  let v579 : BitVec 32 := Scalar.extui v578
  let c0_i32_592 : BitVec 32 := 0#32
  let v580 : BitVec 1 := Scalar.cmpi .slt v576 c0_i32_592
  let v581 : BitVec 32 := Scalar.extui v580
  let v582 : BitVec 32 := Scalar.subi v579 v581
  let c256_i32 : BitVec 32 := 256#32
  let c0_i32_593 : BitVec 32 := 0#32
  let v583 : BitVec 1 := Scalar.cmpi .sgt c256_i32 c0_i32_593
  let v584 : BitVec 32 := Scalar.extui v583
  let c0_i32_594 : BitVec 32 := 0#32
  let v585 : BitVec 1 := Scalar.cmpi .slt c256_i32 c0_i32_594
  let v586 : BitVec 32 := Scalar.extui v585
  let v587 : BitVec 32 := Scalar.subi v584 v586
  let v588 : BitVec 1 := Scalar.cmpi .ne v582 v587
  let v589 : BitVec 32 := Scalar.remsi v576 c256_i32
  let c0_i32_595 : BitVec 32 := 0#32
  let v590 : BitVec 1 := Scalar.cmpi .ne v589 c0_i32_595
  let v591 : BitVec 1 := Scalar.andi v588 v590
  let v577 : BitVec 32 := Scalar.divsi v576 c256_i32
  let c1_i32_596 : BitVec 32 := 1#32
  let v592 : BitVec 32 := Scalar.subi v577 c1_i32_596
  let v593 : BitVec 32 := Scalar.select v591 v592 v577
  let v614 : Index := Scalar.indexCast v593
  let c256_i32_597 : BitVec 32 := 256#32
  let c0_i32_598 : BitVec 32 := 0#32
  let v594 : BitVec 1 := Scalar.cmpi .eq c256_i32_597 c0_i32_598
  let c1_i32_599 : BitVec 32 := 1#32
  let v595 : BitVec 32 := Scalar.select v594 c1_i32_599 c256_i32_597
  let v596 : BitVec 32 := Scalar.remsi v576 v595
  let c0_i32_601 : BitVec 32 := 0#32
  let v598 : BitVec 1 := Scalar.cmpi .slt v596 c0_i32_601
  let c0_i32_602 : BitVec 32 := 0#32
  let v599 : BitVec 1 := Scalar.cmpi .slt v595 c0_i32_602
  let v600 : BitVec 1 := Scalar.xori v598 v599
  let c0_i32_600 : BitVec 32 := 0#32
  let v597 : BitVec 1 := Scalar.cmpi .ne v596 c0_i32_600
  let v601 : BitVec 1 := Scalar.andi v600 v597
  let v602 : BitVec 32 := Scalar.addi v596 v595
  let v603 : BitVec 32 := Scalar.select v601 v602 v596
  let v604 : BitVec 32 := v603
  let v615 : Index := Scalar.indexCast v604
  ![v613.toNat, v614.toNat, v615.toNat]
def k0_off13 (i : grid0.Coords) : Fin 4 → Nat :=
  let c0_i32_42 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c16_i32 : BitVec 32 := 16#32
  let c0_i32_43 : BitVec 32 := 0#32
  ![0, v2.toNat, 16, 0]
def k0_off14 (i : grid0.Coords) : Fin 3 → Nat :=
  let c0_i32_46 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c8192_i32 : BitVec 32 := 8192#32
  ![0, v2.toNat, 8192]
@[reducible] def k0_t4_loop : Scf.Loop 32 :=
  let c0_i32_56 : BitVec 32 := 0#32
  let c1024_i32_57 : BitVec 32 := 1024#32
  let v62 : BitVec 32 := Scalar.addi c0_i32_56 c1024_i32_57
  let c1_i32_58 : BitVec 32 := 1#32
  ⟨c0_i32_56, v62, c1_i32_58⟩
def k0_mult7 (k0_t4 : Fin k0_t4_loop.trips) : BitVec 32 :=
  let c0_i32_577 : BitVec 32 := 0#32
  let c0_i32_56 : BitVec 32 := 0#32
  let c1_i32_58 : BitVec 32 := 1#32
  let arg12 : BitVec 32 := Scf.iv c0_i32_56 c1_i32_58 k0_t4
  let c16_i32_576 : BitVec 32 := 16#32
  let v547 : BitVec 32 := Scalar.muli arg12 c16_i32_576
  let v548 : BitVec 32 := Scalar.addi c0_i32_577 v547
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  v575
def k0_mult8 (k0_t4 : Fin k0_t4_loop.trips) : BitVec 32 :=
  let c0_i32_577 : BitVec 32 := 0#32
  let c0_i32_56 : BitVec 32 := 0#32
  let c1_i32_58 : BitVec 32 := 1#32
  let arg12 : BitVec 32 := Scf.iv c0_i32_56 c1_i32_58 k0_t4
  let c16_i32_576 : BitVec 32 := 16#32
  let v547 : BitVec 32 := Scalar.muli arg12 c16_i32_576
  let v548 : BitVec 32 := Scalar.addi c0_i32_577 v547
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  let v576 : BitVec 32 := v575
  let c256_i32_597 : BitVec 32 := 256#32
  let c0_i32_598 : BitVec 32 := 0#32
  let v594 : BitVec 1 := Scalar.cmpi .eq c256_i32_597 c0_i32_598
  let c1_i32_599 : BitVec 32 := 1#32
  let v595 : BitVec 32 := Scalar.select v594 c1_i32_599 c256_i32_597
  let v596 : BitVec 32 := Scalar.remsi v576 v595
  let c0_i32_601 : BitVec 32 := 0#32
  let v598 : BitVec 1 := Scalar.cmpi .slt v596 c0_i32_601
  let c0_i32_602 : BitVec 32 := 0#32
  let v599 : BitVec 1 := Scalar.cmpi .slt v595 c0_i32_602
  let v600 : BitVec 1 := Scalar.xori v598 v599
  let c0_i32_600 : BitVec 32 := 0#32
  let v597 : BitVec 1 := Scalar.cmpi .ne v596 c0_i32_600
  let v601 : BitVec 1 := Scalar.andi v600 v597
  let v602 : BitVec 32 := Scalar.addi v596 v595
  let v603 : BitVec 32 := Scalar.select v601 v602 v596
  v603
def k0_off15 (k0_t4 : Fin k0_t4_loop.trips) : Fin 2 → Nat :=
  let c0_i32_577 : BitVec 32 := 0#32
  let c0_i32_56 : BitVec 32 := 0#32
  let c1_i32_58 : BitVec 32 := 1#32
  let arg12 : BitVec 32 := Scf.iv c0_i32_56 c1_i32_58 k0_t4
  let c16_i32_576 : BitVec 32 := 16#32
  let v547 : BitVec 32 := Scalar.muli arg12 c16_i32_576
  let v548 : BitVec 32 := Scalar.addi c0_i32_577 v547
  let c0_i32_579 : BitVec 32 := 0#32
  let v550 : BitVec 1 := Scalar.cmpi .sgt v548 c0_i32_579
  let v551 : BitVec 32 := Scalar.extui v550
  let c0_i32_580 : BitVec 32 := 0#32
  let v552 : BitVec 1 := Scalar.cmpi .slt v548 c0_i32_580
  let v553 : BitVec 32 := Scalar.extui v552
  let v554 : BitVec 32 := Scalar.subi v551 v553
  let c2048_i32_578 : BitVec 32 := 2048#32
  let c0_i32_581 : BitVec 32 := 0#32
  let v555 : BitVec 1 := Scalar.cmpi .sgt c2048_i32_578 c0_i32_581
  let v556 : BitVec 32 := Scalar.extui v555
  let c0_i32_582 : BitVec 32 := 0#32
  let v557 : BitVec 1 := Scalar.cmpi .slt c2048_i32_578 c0_i32_582
  let v558 : BitVec 32 := Scalar.extui v557
  let v559 : BitVec 32 := Scalar.subi v556 v558
  let v560 : BitVec 1 := Scalar.cmpi .ne v554 v559
  let v561 : BitVec 32 := Scalar.remsi v548 c2048_i32_578
  let c0_i32_583 : BitVec 32 := 0#32
  let v562 : BitVec 1 := Scalar.cmpi .ne v561 c0_i32_583
  let v563 : BitVec 1 := Scalar.andi v560 v562
  let v549 : BitVec 32 := Scalar.divsi v548 c2048_i32_578
  let c1_i32_584 : BitVec 32 := 1#32
  let v564 : BitVec 32 := Scalar.subi v549 c1_i32_584
  let v565 : BitVec 32 := Scalar.select v563 v564 v549
  let v605 : Index := Scalar.indexCast v565
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  let v576 : BitVec 32 := v575
  let v606 : Index := Scalar.indexCast v576
  ![v605.toNat, v606.toNat]
def k0_off16 (k0_t4 : Fin k0_t4_loop.trips) : Fin 3 → Nat :=
  let c0_i32_577 : BitVec 32 := 0#32
  let c0_i32_56 : BitVec 32 := 0#32
  let c1_i32_58 : BitVec 32 := 1#32
  let arg12 : BitVec 32 := Scf.iv c0_i32_56 c1_i32_58 k0_t4
  let c16_i32_576 : BitVec 32 := 16#32
  let v547 : BitVec 32 := Scalar.muli arg12 c16_i32_576
  let v548 : BitVec 32 := Scalar.addi c0_i32_577 v547
  let c0_i32_579 : BitVec 32 := 0#32
  let v550 : BitVec 1 := Scalar.cmpi .sgt v548 c0_i32_579
  let v551 : BitVec 32 := Scalar.extui v550
  let c0_i32_580 : BitVec 32 := 0#32
  let v552 : BitVec 1 := Scalar.cmpi .slt v548 c0_i32_580
  let v553 : BitVec 32 := Scalar.extui v552
  let v554 : BitVec 32 := Scalar.subi v551 v553
  let c2048_i32_578 : BitVec 32 := 2048#32
  let c0_i32_581 : BitVec 32 := 0#32
  let v555 : BitVec 1 := Scalar.cmpi .sgt c2048_i32_578 c0_i32_581
  let v556 : BitVec 32 := Scalar.extui v555
  let c0_i32_582 : BitVec 32 := 0#32
  let v557 : BitVec 1 := Scalar.cmpi .slt c2048_i32_578 c0_i32_582
  let v558 : BitVec 32 := Scalar.extui v557
  let v559 : BitVec 32 := Scalar.subi v556 v558
  let v560 : BitVec 1 := Scalar.cmpi .ne v554 v559
  let v561 : BitVec 32 := Scalar.remsi v548 c2048_i32_578
  let c0_i32_583 : BitVec 32 := 0#32
  let v562 : BitVec 1 := Scalar.cmpi .ne v561 c0_i32_583
  let v563 : BitVec 1 := Scalar.andi v560 v562
  let v549 : BitVec 32 := Scalar.divsi v548 c2048_i32_578
  let c1_i32_584 : BitVec 32 := 1#32
  let v564 : BitVec 32 := Scalar.subi v549 c1_i32_584
  let v565 : BitVec 32 := Scalar.select v563 v564 v549
  let v613 : Index := Scalar.indexCast v565
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  let v576 : BitVec 32 := v575
  let c0_i32_591 : BitVec 32 := 0#32
  let v578 : BitVec 1 := Scalar.cmpi .sgt v576 c0_i32_591
  let v579 : BitVec 32 := Scalar.extui v578
  let c0_i32_592 : BitVec 32 := 0#32
  let v580 : BitVec 1 := Scalar.cmpi .slt v576 c0_i32_592
  let v581 : BitVec 32 := Scalar.extui v580
  let v582 : BitVec 32 := Scalar.subi v579 v581
  let c256_i32 : BitVec 32 := 256#32
  let c0_i32_593 : BitVec 32 := 0#32
  let v583 : BitVec 1 := Scalar.cmpi .sgt c256_i32 c0_i32_593
  let v584 : BitVec 32 := Scalar.extui v583
  let c0_i32_594 : BitVec 32 := 0#32
  let v585 : BitVec 1 := Scalar.cmpi .slt c256_i32 c0_i32_594
  let v586 : BitVec 32 := Scalar.extui v585
  let v587 : BitVec 32 := Scalar.subi v584 v586
  let v588 : BitVec 1 := Scalar.cmpi .ne v582 v587
  let v589 : BitVec 32 := Scalar.remsi v576 c256_i32
  let c0_i32_595 : BitVec 32 := 0#32
  let v590 : BitVec 1 := Scalar.cmpi .ne v589 c0_i32_595
  let v591 : BitVec 1 := Scalar.andi v588 v590
  let v577 : BitVec 32 := Scalar.divsi v576 c256_i32
  let c1_i32_596 : BitVec 32 := 1#32
  let v592 : BitVec 32 := Scalar.subi v577 c1_i32_596
  let v593 : BitVec 32 := Scalar.select v591 v592 v577
  let v614 : Index := Scalar.indexCast v593
  let c256_i32_597 : BitVec 32 := 256#32
  let c0_i32_598 : BitVec 32 := 0#32
  let v594 : BitVec 1 := Scalar.cmpi .eq c256_i32_597 c0_i32_598
  let c1_i32_599 : BitVec 32 := 1#32
  let v595 : BitVec 32 := Scalar.select v594 c1_i32_599 c256_i32_597
  let v596 : BitVec 32 := Scalar.remsi v576 v595
  let c0_i32_601 : BitVec 32 := 0#32
  let v598 : BitVec 1 := Scalar.cmpi .slt v596 c0_i32_601
  let c0_i32_602 : BitVec 32 := 0#32
  let v599 : BitVec 1 := Scalar.cmpi .slt v595 c0_i32_602
  let v600 : BitVec 1 := Scalar.xori v598 v599
  let c0_i32_600 : BitVec 32 := 0#32
  let v597 : BitVec 1 := Scalar.cmpi .ne v596 c0_i32_600
  let v601 : BitVec 1 := Scalar.andi v600 v597
  let v602 : BitVec 32 := Scalar.addi v596 v595
  let v603 : BitVec 32 := Scalar.select v601 v602 v596
  let v604 : BitVec 32 := v603
  let v615 : Index := Scalar.indexCast v604
  ![v613.toNat, v614.toNat, v615.toNat]
def k0_off17 (i : grid0.Coords) : Fin 4 → Nat :=
  let c0_i32_60 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c24_i32 : BitVec 32 := 24#32
  let c0_i32_61 : BitVec 32 := 0#32
  ![0, v2.toNat, 24, 0]
def k0_off18 (i : grid0.Coords) : Fin 3 → Nat :=
  let c0_i32_64 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c10240_i32 : BitVec 32 := 10240#32
  ![0, v2.toNat, 10240]
@[reducible] def k0_t5_loop : Scf.Loop 32 :=
  let c0_i32_74 : BitVec 32 := 0#32
  let c1024_i32_75 : BitVec 32 := 1024#32
  let v79 : BitVec 32 := Scalar.addi c0_i32_74 c1024_i32_75
  let c1_i32_76 : BitVec 32 := 1#32
  ⟨c0_i32_74, v79, c1_i32_76⟩
def k0_mult9 (k0_t5 : Fin k0_t5_loop.trips) : BitVec 32 :=
  let c0_i32_577 : BitVec 32 := 0#32
  let c0_i32_74 : BitVec 32 := 0#32
  let c1_i32_76 : BitVec 32 := 1#32
  let arg12 : BitVec 32 := Scf.iv c0_i32_74 c1_i32_76 k0_t5
  let c16_i32_576 : BitVec 32 := 16#32
  let v547 : BitVec 32 := Scalar.muli arg12 c16_i32_576
  let v548 : BitVec 32 := Scalar.addi c0_i32_577 v547
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  v575
def k0_mult10 (k0_t5 : Fin k0_t5_loop.trips) : BitVec 32 :=
  let c0_i32_577 : BitVec 32 := 0#32
  let c0_i32_74 : BitVec 32 := 0#32
  let c1_i32_76 : BitVec 32 := 1#32
  let arg12 : BitVec 32 := Scf.iv c0_i32_74 c1_i32_76 k0_t5
  let c16_i32_576 : BitVec 32 := 16#32
  let v547 : BitVec 32 := Scalar.muli arg12 c16_i32_576
  let v548 : BitVec 32 := Scalar.addi c0_i32_577 v547
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  let v576 : BitVec 32 := v575
  let c256_i32_597 : BitVec 32 := 256#32
  let c0_i32_598 : BitVec 32 := 0#32
  let v594 : BitVec 1 := Scalar.cmpi .eq c256_i32_597 c0_i32_598
  let c1_i32_599 : BitVec 32 := 1#32
  let v595 : BitVec 32 := Scalar.select v594 c1_i32_599 c256_i32_597
  let v596 : BitVec 32 := Scalar.remsi v576 v595
  let c0_i32_601 : BitVec 32 := 0#32
  let v598 : BitVec 1 := Scalar.cmpi .slt v596 c0_i32_601
  let c0_i32_602 : BitVec 32 := 0#32
  let v599 : BitVec 1 := Scalar.cmpi .slt v595 c0_i32_602
  let v600 : BitVec 1 := Scalar.xori v598 v599
  let c0_i32_600 : BitVec 32 := 0#32
  let v597 : BitVec 1 := Scalar.cmpi .ne v596 c0_i32_600
  let v601 : BitVec 1 := Scalar.andi v600 v597
  let v602 : BitVec 32 := Scalar.addi v596 v595
  let v603 : BitVec 32 := Scalar.select v601 v602 v596
  v603
def k0_off19 (k0_t5 : Fin k0_t5_loop.trips) : Fin 2 → Nat :=
  let c0_i32_577 : BitVec 32 := 0#32
  let c0_i32_74 : BitVec 32 := 0#32
  let c1_i32_76 : BitVec 32 := 1#32
  let arg12 : BitVec 32 := Scf.iv c0_i32_74 c1_i32_76 k0_t5
  let c16_i32_576 : BitVec 32 := 16#32
  let v547 : BitVec 32 := Scalar.muli arg12 c16_i32_576
  let v548 : BitVec 32 := Scalar.addi c0_i32_577 v547
  let c0_i32_579 : BitVec 32 := 0#32
  let v550 : BitVec 1 := Scalar.cmpi .sgt v548 c0_i32_579
  let v551 : BitVec 32 := Scalar.extui v550
  let c0_i32_580 : BitVec 32 := 0#32
  let v552 : BitVec 1 := Scalar.cmpi .slt v548 c0_i32_580
  let v553 : BitVec 32 := Scalar.extui v552
  let v554 : BitVec 32 := Scalar.subi v551 v553
  let c2048_i32_578 : BitVec 32 := 2048#32
  let c0_i32_581 : BitVec 32 := 0#32
  let v555 : BitVec 1 := Scalar.cmpi .sgt c2048_i32_578 c0_i32_581
  let v556 : BitVec 32 := Scalar.extui v555
  let c0_i32_582 : BitVec 32 := 0#32
  let v557 : BitVec 1 := Scalar.cmpi .slt c2048_i32_578 c0_i32_582
  let v558 : BitVec 32 := Scalar.extui v557
  let v559 : BitVec 32 := Scalar.subi v556 v558
  let v560 : BitVec 1 := Scalar.cmpi .ne v554 v559
  let v561 : BitVec 32 := Scalar.remsi v548 c2048_i32_578
  let c0_i32_583 : BitVec 32 := 0#32
  let v562 : BitVec 1 := Scalar.cmpi .ne v561 c0_i32_583
  let v563 : BitVec 1 := Scalar.andi v560 v562
  let v549 : BitVec 32 := Scalar.divsi v548 c2048_i32_578
  let c1_i32_584 : BitVec 32 := 1#32
  let v564 : BitVec 32 := Scalar.subi v549 c1_i32_584
  let v565 : BitVec 32 := Scalar.select v563 v564 v549
  let v605 : Index := Scalar.indexCast v565
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  let v576 : BitVec 32 := v575
  let v606 : Index := Scalar.indexCast v576
  ![v605.toNat, v606.toNat]
def k0_off20 (k0_t5 : Fin k0_t5_loop.trips) : Fin 3 → Nat :=
  let c0_i32_577 : BitVec 32 := 0#32
  let c0_i32_74 : BitVec 32 := 0#32
  let c1_i32_76 : BitVec 32 := 1#32
  let arg12 : BitVec 32 := Scf.iv c0_i32_74 c1_i32_76 k0_t5
  let c16_i32_576 : BitVec 32 := 16#32
  let v547 : BitVec 32 := Scalar.muli arg12 c16_i32_576
  let v548 : BitVec 32 := Scalar.addi c0_i32_577 v547
  let c0_i32_579 : BitVec 32 := 0#32
  let v550 : BitVec 1 := Scalar.cmpi .sgt v548 c0_i32_579
  let v551 : BitVec 32 := Scalar.extui v550
  let c0_i32_580 : BitVec 32 := 0#32
  let v552 : BitVec 1 := Scalar.cmpi .slt v548 c0_i32_580
  let v553 : BitVec 32 := Scalar.extui v552
  let v554 : BitVec 32 := Scalar.subi v551 v553
  let c2048_i32_578 : BitVec 32 := 2048#32
  let c0_i32_581 : BitVec 32 := 0#32
  let v555 : BitVec 1 := Scalar.cmpi .sgt c2048_i32_578 c0_i32_581
  let v556 : BitVec 32 := Scalar.extui v555
  let c0_i32_582 : BitVec 32 := 0#32
  let v557 : BitVec 1 := Scalar.cmpi .slt c2048_i32_578 c0_i32_582
  let v558 : BitVec 32 := Scalar.extui v557
  let v559 : BitVec 32 := Scalar.subi v556 v558
  let v560 : BitVec 1 := Scalar.cmpi .ne v554 v559
  let v561 : BitVec 32 := Scalar.remsi v548 c2048_i32_578
  let c0_i32_583 : BitVec 32 := 0#32
  let v562 : BitVec 1 := Scalar.cmpi .ne v561 c0_i32_583
  let v563 : BitVec 1 := Scalar.andi v560 v562
  let v549 : BitVec 32 := Scalar.divsi v548 c2048_i32_578
  let c1_i32_584 : BitVec 32 := 1#32
  let v564 : BitVec 32 := Scalar.subi v549 c1_i32_584
  let v565 : BitVec 32 := Scalar.select v563 v564 v549
  let v613 : Index := Scalar.indexCast v565
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  let v576 : BitVec 32 := v575
  let c0_i32_591 : BitVec 32 := 0#32
  let v578 : BitVec 1 := Scalar.cmpi .sgt v576 c0_i32_591
  let v579 : BitVec 32 := Scalar.extui v578
  let c0_i32_592 : BitVec 32 := 0#32
  let v580 : BitVec 1 := Scalar.cmpi .slt v576 c0_i32_592
  let v581 : BitVec 32 := Scalar.extui v580
  let v582 : BitVec 32 := Scalar.subi v579 v581
  let c256_i32 : BitVec 32 := 256#32
  let c0_i32_593 : BitVec 32 := 0#32
  let v583 : BitVec 1 := Scalar.cmpi .sgt c256_i32 c0_i32_593
  let v584 : BitVec 32 := Scalar.extui v583
  let c0_i32_594 : BitVec 32 := 0#32
  let v585 : BitVec 1 := Scalar.cmpi .slt c256_i32 c0_i32_594
  let v586 : BitVec 32 := Scalar.extui v585
  let v587 : BitVec 32 := Scalar.subi v584 v586
  let v588 : BitVec 1 := Scalar.cmpi .ne v582 v587
  let v589 : BitVec 32 := Scalar.remsi v576 c256_i32
  let c0_i32_595 : BitVec 32 := 0#32
  let v590 : BitVec 1 := Scalar.cmpi .ne v589 c0_i32_595
  let v591 : BitVec 1 := Scalar.andi v588 v590
  let v577 : BitVec 32 := Scalar.divsi v576 c256_i32
  let c1_i32_596 : BitVec 32 := 1#32
  let v592 : BitVec 32 := Scalar.subi v577 c1_i32_596
  let v593 : BitVec 32 := Scalar.select v591 v592 v577
  let v614 : Index := Scalar.indexCast v593
  let c256_i32_597 : BitVec 32 := 256#32
  let c0_i32_598 : BitVec 32 := 0#32
  let v594 : BitVec 1 := Scalar.cmpi .eq c256_i32_597 c0_i32_598
  let c1_i32_599 : BitVec 32 := 1#32
  let v595 : BitVec 32 := Scalar.select v594 c1_i32_599 c256_i32_597
  let v596 : BitVec 32 := Scalar.remsi v576 v595
  let c0_i32_601 : BitVec 32 := 0#32
  let v598 : BitVec 1 := Scalar.cmpi .slt v596 c0_i32_601
  let c0_i32_602 : BitVec 32 := 0#32
  let v599 : BitVec 1 := Scalar.cmpi .slt v595 c0_i32_602
  let v600 : BitVec 1 := Scalar.xori v598 v599
  let c0_i32_600 : BitVec 32 := 0#32
  let v597 : BitVec 1 := Scalar.cmpi .ne v596 c0_i32_600
  let v601 : BitVec 1 := Scalar.andi v600 v597
  let v602 : BitVec 32 := Scalar.addi v596 v595
  let v603 : BitVec 32 := Scalar.select v601 v602 v596
  let v604 : BitVec 32 := v603
  let v615 : Index := Scalar.indexCast v604
  ![v613.toNat, v614.toNat, v615.toNat]
def k0_off21 (i : grid0.Coords) : Fin 4 → Nat :=
  let c0_i32_78 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c32_i32 : BitVec 32 := 32#32
  let c0_i32_79 : BitVec 32 := 0#32
  ![0, v2.toNat, 32, 0]
def k0_off22 (i : grid0.Coords) : Fin 3 → Nat :=
  let c0_i32_82 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c12288_i32 : BitVec 32 := 12288#32
  ![0, v2.toNat, 12288]
@[reducible] def k0_t6_loop : Scf.Loop 32 :=
  let c0_i32_92 : BitVec 32 := 0#32
  let c1024_i32_93 : BitVec 32 := 1024#32
  let v96 : BitVec 32 := Scalar.addi c0_i32_92 c1024_i32_93
  let c1_i32_94 : BitVec 32 := 1#32
  ⟨c0_i32_92, v96, c1_i32_94⟩
def k0_mult11 (k0_t6 : Fin k0_t6_loop.trips) : BitVec 32 :=
  let c0_i32_577 : BitVec 32 := 0#32
  let c0_i32_92 : BitVec 32 := 0#32
  let c1_i32_94 : BitVec 32 := 1#32
  let arg12 : BitVec 32 := Scf.iv c0_i32_92 c1_i32_94 k0_t6
  let c16_i32_576 : BitVec 32 := 16#32
  let v547 : BitVec 32 := Scalar.muli arg12 c16_i32_576
  let v548 : BitVec 32 := Scalar.addi c0_i32_577 v547
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  v575
def k0_mult12 (k0_t6 : Fin k0_t6_loop.trips) : BitVec 32 :=
  let c0_i32_577 : BitVec 32 := 0#32
  let c0_i32_92 : BitVec 32 := 0#32
  let c1_i32_94 : BitVec 32 := 1#32
  let arg12 : BitVec 32 := Scf.iv c0_i32_92 c1_i32_94 k0_t6
  let c16_i32_576 : BitVec 32 := 16#32
  let v547 : BitVec 32 := Scalar.muli arg12 c16_i32_576
  let v548 : BitVec 32 := Scalar.addi c0_i32_577 v547
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  let v576 : BitVec 32 := v575
  let c256_i32_597 : BitVec 32 := 256#32
  let c0_i32_598 : BitVec 32 := 0#32
  let v594 : BitVec 1 := Scalar.cmpi .eq c256_i32_597 c0_i32_598
  let c1_i32_599 : BitVec 32 := 1#32
  let v595 : BitVec 32 := Scalar.select v594 c1_i32_599 c256_i32_597
  let v596 : BitVec 32 := Scalar.remsi v576 v595
  let c0_i32_601 : BitVec 32 := 0#32
  let v598 : BitVec 1 := Scalar.cmpi .slt v596 c0_i32_601
  let c0_i32_602 : BitVec 32 := 0#32
  let v599 : BitVec 1 := Scalar.cmpi .slt v595 c0_i32_602
  let v600 : BitVec 1 := Scalar.xori v598 v599
  let c0_i32_600 : BitVec 32 := 0#32
  let v597 : BitVec 1 := Scalar.cmpi .ne v596 c0_i32_600
  let v601 : BitVec 1 := Scalar.andi v600 v597
  let v602 : BitVec 32 := Scalar.addi v596 v595
  let v603 : BitVec 32 := Scalar.select v601 v602 v596
  v603
def k0_off23 (k0_t6 : Fin k0_t6_loop.trips) : Fin 2 → Nat :=
  let c0_i32_577 : BitVec 32 := 0#32
  let c0_i32_92 : BitVec 32 := 0#32
  let c1_i32_94 : BitVec 32 := 1#32
  let arg12 : BitVec 32 := Scf.iv c0_i32_92 c1_i32_94 k0_t6
  let c16_i32_576 : BitVec 32 := 16#32
  let v547 : BitVec 32 := Scalar.muli arg12 c16_i32_576
  let v548 : BitVec 32 := Scalar.addi c0_i32_577 v547
  let c0_i32_579 : BitVec 32 := 0#32
  let v550 : BitVec 1 := Scalar.cmpi .sgt v548 c0_i32_579
  let v551 : BitVec 32 := Scalar.extui v550
  let c0_i32_580 : BitVec 32 := 0#32
  let v552 : BitVec 1 := Scalar.cmpi .slt v548 c0_i32_580
  let v553 : BitVec 32 := Scalar.extui v552
  let v554 : BitVec 32 := Scalar.subi v551 v553
  let c2048_i32_578 : BitVec 32 := 2048#32
  let c0_i32_581 : BitVec 32 := 0#32
  let v555 : BitVec 1 := Scalar.cmpi .sgt c2048_i32_578 c0_i32_581
  let v556 : BitVec 32 := Scalar.extui v555
  let c0_i32_582 : BitVec 32 := 0#32
  let v557 : BitVec 1 := Scalar.cmpi .slt c2048_i32_578 c0_i32_582
  let v558 : BitVec 32 := Scalar.extui v557
  let v559 : BitVec 32 := Scalar.subi v556 v558
  let v560 : BitVec 1 := Scalar.cmpi .ne v554 v559
  let v561 : BitVec 32 := Scalar.remsi v548 c2048_i32_578
  let c0_i32_583 : BitVec 32 := 0#32
  let v562 : BitVec 1 := Scalar.cmpi .ne v561 c0_i32_583
  let v563 : BitVec 1 := Scalar.andi v560 v562
  let v549 : BitVec 32 := Scalar.divsi v548 c2048_i32_578
  let c1_i32_584 : BitVec 32 := 1#32
  let v564 : BitVec 32 := Scalar.subi v549 c1_i32_584
  let v565 : BitVec 32 := Scalar.select v563 v564 v549
  let v605 : Index := Scalar.indexCast v565
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  let v576 : BitVec 32 := v575
  let v606 : Index := Scalar.indexCast v576
  ![v605.toNat, v606.toNat]
def k0_off24 (k0_t6 : Fin k0_t6_loop.trips) : Fin 3 → Nat :=
  let c0_i32_577 : BitVec 32 := 0#32
  let c0_i32_92 : BitVec 32 := 0#32
  let c1_i32_94 : BitVec 32 := 1#32
  let arg12 : BitVec 32 := Scf.iv c0_i32_92 c1_i32_94 k0_t6
  let c16_i32_576 : BitVec 32 := 16#32
  let v547 : BitVec 32 := Scalar.muli arg12 c16_i32_576
  let v548 : BitVec 32 := Scalar.addi c0_i32_577 v547
  let c0_i32_579 : BitVec 32 := 0#32
  let v550 : BitVec 1 := Scalar.cmpi .sgt v548 c0_i32_579
  let v551 : BitVec 32 := Scalar.extui v550
  let c0_i32_580 : BitVec 32 := 0#32
  let v552 : BitVec 1 := Scalar.cmpi .slt v548 c0_i32_580
  let v553 : BitVec 32 := Scalar.extui v552
  let v554 : BitVec 32 := Scalar.subi v551 v553
  let c2048_i32_578 : BitVec 32 := 2048#32
  let c0_i32_581 : BitVec 32 := 0#32
  let v555 : BitVec 1 := Scalar.cmpi .sgt c2048_i32_578 c0_i32_581
  let v556 : BitVec 32 := Scalar.extui v555
  let c0_i32_582 : BitVec 32 := 0#32
  let v557 : BitVec 1 := Scalar.cmpi .slt c2048_i32_578 c0_i32_582
  let v558 : BitVec 32 := Scalar.extui v557
  let v559 : BitVec 32 := Scalar.subi v556 v558
  let v560 : BitVec 1 := Scalar.cmpi .ne v554 v559
  let v561 : BitVec 32 := Scalar.remsi v548 c2048_i32_578
  let c0_i32_583 : BitVec 32 := 0#32
  let v562 : BitVec 1 := Scalar.cmpi .ne v561 c0_i32_583
  let v563 : BitVec 1 := Scalar.andi v560 v562
  let v549 : BitVec 32 := Scalar.divsi v548 c2048_i32_578
  let c1_i32_584 : BitVec 32 := 1#32
  let v564 : BitVec 32 := Scalar.subi v549 c1_i32_584
  let v565 : BitVec 32 := Scalar.select v563 v564 v549
  let v613 : Index := Scalar.indexCast v565
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  let v576 : BitVec 32 := v575
  let c0_i32_591 : BitVec 32 := 0#32
  let v578 : BitVec 1 := Scalar.cmpi .sgt v576 c0_i32_591
  let v579 : BitVec 32 := Scalar.extui v578
  let c0_i32_592 : BitVec 32 := 0#32
  let v580 : BitVec 1 := Scalar.cmpi .slt v576 c0_i32_592
  let v581 : BitVec 32 := Scalar.extui v580
  let v582 : BitVec 32 := Scalar.subi v579 v581
  let c256_i32 : BitVec 32 := 256#32
  let c0_i32_593 : BitVec 32 := 0#32
  let v583 : BitVec 1 := Scalar.cmpi .sgt c256_i32 c0_i32_593
  let v584 : BitVec 32 := Scalar.extui v583
  let c0_i32_594 : BitVec 32 := 0#32
  let v585 : BitVec 1 := Scalar.cmpi .slt c256_i32 c0_i32_594
  let v586 : BitVec 32 := Scalar.extui v585
  let v587 : BitVec 32 := Scalar.subi v584 v586
  let v588 : BitVec 1 := Scalar.cmpi .ne v582 v587
  let v589 : BitVec 32 := Scalar.remsi v576 c256_i32
  let c0_i32_595 : BitVec 32 := 0#32
  let v590 : BitVec 1 := Scalar.cmpi .ne v589 c0_i32_595
  let v591 : BitVec 1 := Scalar.andi v588 v590
  let v577 : BitVec 32 := Scalar.divsi v576 c256_i32
  let c1_i32_596 : BitVec 32 := 1#32
  let v592 : BitVec 32 := Scalar.subi v577 c1_i32_596
  let v593 : BitVec 32 := Scalar.select v591 v592 v577
  let v614 : Index := Scalar.indexCast v593
  let c256_i32_597 : BitVec 32 := 256#32
  let c0_i32_598 : BitVec 32 := 0#32
  let v594 : BitVec 1 := Scalar.cmpi .eq c256_i32_597 c0_i32_598
  let c1_i32_599 : BitVec 32 := 1#32
  let v595 : BitVec 32 := Scalar.select v594 c1_i32_599 c256_i32_597
  let v596 : BitVec 32 := Scalar.remsi v576 v595
  let c0_i32_601 : BitVec 32 := 0#32
  let v598 : BitVec 1 := Scalar.cmpi .slt v596 c0_i32_601
  let c0_i32_602 : BitVec 32 := 0#32
  let v599 : BitVec 1 := Scalar.cmpi .slt v595 c0_i32_602
  let v600 : BitVec 1 := Scalar.xori v598 v599
  let c0_i32_600 : BitVec 32 := 0#32
  let v597 : BitVec 1 := Scalar.cmpi .ne v596 c0_i32_600
  let v601 : BitVec 1 := Scalar.andi v600 v597
  let v602 : BitVec 32 := Scalar.addi v596 v595
  let v603 : BitVec 32 := Scalar.select v601 v602 v596
  let v604 : BitVec 32 := v603
  let v615 : Index := Scalar.indexCast v604
  ![v613.toNat, v614.toNat, v615.toNat]
def k0_off25 (i : grid0.Coords) : Fin 4 → Nat :=
  let c0_i32_96 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c40_i32 : BitVec 32 := 40#32
  let c0_i32_97 : BitVec 32 := 0#32
  ![0, v2.toNat, 40, 0]
def k0_off26 (i : grid0.Coords) : Fin 3 → Nat :=
  let c0_i32_100 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c14336_i32 : BitVec 32 := 14336#32
  ![0, v2.toNat, 14336]
@[reducible] def k0_t7_loop : Scf.Loop 32 :=
  let c0_i32_110 : BitVec 32 := 0#32
  let c1024_i32_111 : BitVec 32 := 1024#32
  let v113 : BitVec 32 := Scalar.addi c0_i32_110 c1024_i32_111
  let c1_i32_112 : BitVec 32 := 1#32
  ⟨c0_i32_110, v113, c1_i32_112⟩
def k0_mult13 (k0_t7 : Fin k0_t7_loop.trips) : BitVec 32 :=
  let c0_i32_577 : BitVec 32 := 0#32
  let c0_i32_110 : BitVec 32 := 0#32
  let c1_i32_112 : BitVec 32 := 1#32
  let arg12 : BitVec 32 := Scf.iv c0_i32_110 c1_i32_112 k0_t7
  let c16_i32_576 : BitVec 32 := 16#32
  let v547 : BitVec 32 := Scalar.muli arg12 c16_i32_576
  let v548 : BitVec 32 := Scalar.addi c0_i32_577 v547
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  v575
def k0_mult14 (k0_t7 : Fin k0_t7_loop.trips) : BitVec 32 :=
  let c0_i32_577 : BitVec 32 := 0#32
  let c0_i32_110 : BitVec 32 := 0#32
  let c1_i32_112 : BitVec 32 := 1#32
  let arg12 : BitVec 32 := Scf.iv c0_i32_110 c1_i32_112 k0_t7
  let c16_i32_576 : BitVec 32 := 16#32
  let v547 : BitVec 32 := Scalar.muli arg12 c16_i32_576
  let v548 : BitVec 32 := Scalar.addi c0_i32_577 v547
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  let v576 : BitVec 32 := v575
  let c256_i32_597 : BitVec 32 := 256#32
  let c0_i32_598 : BitVec 32 := 0#32
  let v594 : BitVec 1 := Scalar.cmpi .eq c256_i32_597 c0_i32_598
  let c1_i32_599 : BitVec 32 := 1#32
  let v595 : BitVec 32 := Scalar.select v594 c1_i32_599 c256_i32_597
  let v596 : BitVec 32 := Scalar.remsi v576 v595
  let c0_i32_601 : BitVec 32 := 0#32
  let v598 : BitVec 1 := Scalar.cmpi .slt v596 c0_i32_601
  let c0_i32_602 : BitVec 32 := 0#32
  let v599 : BitVec 1 := Scalar.cmpi .slt v595 c0_i32_602
  let v600 : BitVec 1 := Scalar.xori v598 v599
  let c0_i32_600 : BitVec 32 := 0#32
  let v597 : BitVec 1 := Scalar.cmpi .ne v596 c0_i32_600
  let v601 : BitVec 1 := Scalar.andi v600 v597
  let v602 : BitVec 32 := Scalar.addi v596 v595
  let v603 : BitVec 32 := Scalar.select v601 v602 v596
  v603
def k0_off27 (k0_t7 : Fin k0_t7_loop.trips) : Fin 2 → Nat :=
  let c0_i32_577 : BitVec 32 := 0#32
  let c0_i32_110 : BitVec 32 := 0#32
  let c1_i32_112 : BitVec 32 := 1#32
  let arg12 : BitVec 32 := Scf.iv c0_i32_110 c1_i32_112 k0_t7
  let c16_i32_576 : BitVec 32 := 16#32
  let v547 : BitVec 32 := Scalar.muli arg12 c16_i32_576
  let v548 : BitVec 32 := Scalar.addi c0_i32_577 v547
  let c0_i32_579 : BitVec 32 := 0#32
  let v550 : BitVec 1 := Scalar.cmpi .sgt v548 c0_i32_579
  let v551 : BitVec 32 := Scalar.extui v550
  let c0_i32_580 : BitVec 32 := 0#32
  let v552 : BitVec 1 := Scalar.cmpi .slt v548 c0_i32_580
  let v553 : BitVec 32 := Scalar.extui v552
  let v554 : BitVec 32 := Scalar.subi v551 v553
  let c2048_i32_578 : BitVec 32 := 2048#32
  let c0_i32_581 : BitVec 32 := 0#32
  let v555 : BitVec 1 := Scalar.cmpi .sgt c2048_i32_578 c0_i32_581
  let v556 : BitVec 32 := Scalar.extui v555
  let c0_i32_582 : BitVec 32 := 0#32
  let v557 : BitVec 1 := Scalar.cmpi .slt c2048_i32_578 c0_i32_582
  let v558 : BitVec 32 := Scalar.extui v557
  let v559 : BitVec 32 := Scalar.subi v556 v558
  let v560 : BitVec 1 := Scalar.cmpi .ne v554 v559
  let v561 : BitVec 32 := Scalar.remsi v548 c2048_i32_578
  let c0_i32_583 : BitVec 32 := 0#32
  let v562 : BitVec 1 := Scalar.cmpi .ne v561 c0_i32_583
  let v563 : BitVec 1 := Scalar.andi v560 v562
  let v549 : BitVec 32 := Scalar.divsi v548 c2048_i32_578
  let c1_i32_584 : BitVec 32 := 1#32
  let v564 : BitVec 32 := Scalar.subi v549 c1_i32_584
  let v565 : BitVec 32 := Scalar.select v563 v564 v549
  let v605 : Index := Scalar.indexCast v565
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  let v576 : BitVec 32 := v575
  let v606 : Index := Scalar.indexCast v576
  ![v605.toNat, v606.toNat]
def k0_off28 (k0_t7 : Fin k0_t7_loop.trips) : Fin 3 → Nat :=
  let c0_i32_577 : BitVec 32 := 0#32
  let c0_i32_110 : BitVec 32 := 0#32
  let c1_i32_112 : BitVec 32 := 1#32
  let arg12 : BitVec 32 := Scf.iv c0_i32_110 c1_i32_112 k0_t7
  let c16_i32_576 : BitVec 32 := 16#32
  let v547 : BitVec 32 := Scalar.muli arg12 c16_i32_576
  let v548 : BitVec 32 := Scalar.addi c0_i32_577 v547
  let c0_i32_579 : BitVec 32 := 0#32
  let v550 : BitVec 1 := Scalar.cmpi .sgt v548 c0_i32_579
  let v551 : BitVec 32 := Scalar.extui v550
  let c0_i32_580 : BitVec 32 := 0#32
  let v552 : BitVec 1 := Scalar.cmpi .slt v548 c0_i32_580
  let v553 : BitVec 32 := Scalar.extui v552
  let v554 : BitVec 32 := Scalar.subi v551 v553
  let c2048_i32_578 : BitVec 32 := 2048#32
  let c0_i32_581 : BitVec 32 := 0#32
  let v555 : BitVec 1 := Scalar.cmpi .sgt c2048_i32_578 c0_i32_581
  let v556 : BitVec 32 := Scalar.extui v555
  let c0_i32_582 : BitVec 32 := 0#32
  let v557 : BitVec 1 := Scalar.cmpi .slt c2048_i32_578 c0_i32_582
  let v558 : BitVec 32 := Scalar.extui v557
  let v559 : BitVec 32 := Scalar.subi v556 v558
  let v560 : BitVec 1 := Scalar.cmpi .ne v554 v559
  let v561 : BitVec 32 := Scalar.remsi v548 c2048_i32_578
  let c0_i32_583 : BitVec 32 := 0#32
  let v562 : BitVec 1 := Scalar.cmpi .ne v561 c0_i32_583
  let v563 : BitVec 1 := Scalar.andi v560 v562
  let v549 : BitVec 32 := Scalar.divsi v548 c2048_i32_578
  let c1_i32_584 : BitVec 32 := 1#32
  let v564 : BitVec 32 := Scalar.subi v549 c1_i32_584
  let v565 : BitVec 32 := Scalar.select v563 v564 v549
  let v613 : Index := Scalar.indexCast v565
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  let v576 : BitVec 32 := v575
  let c0_i32_591 : BitVec 32 := 0#32
  let v578 : BitVec 1 := Scalar.cmpi .sgt v576 c0_i32_591
  let v579 : BitVec 32 := Scalar.extui v578
  let c0_i32_592 : BitVec 32 := 0#32
  let v580 : BitVec 1 := Scalar.cmpi .slt v576 c0_i32_592
  let v581 : BitVec 32 := Scalar.extui v580
  let v582 : BitVec 32 := Scalar.subi v579 v581
  let c256_i32 : BitVec 32 := 256#32
  let c0_i32_593 : BitVec 32 := 0#32
  let v583 : BitVec 1 := Scalar.cmpi .sgt c256_i32 c0_i32_593
  let v584 : BitVec 32 := Scalar.extui v583
  let c0_i32_594 : BitVec 32 := 0#32
  let v585 : BitVec 1 := Scalar.cmpi .slt c256_i32 c0_i32_594
  let v586 : BitVec 32 := Scalar.extui v585
  let v587 : BitVec 32 := Scalar.subi v584 v586
  let v588 : BitVec 1 := Scalar.cmpi .ne v582 v587
  let v589 : BitVec 32 := Scalar.remsi v576 c256_i32
  let c0_i32_595 : BitVec 32 := 0#32
  let v590 : BitVec 1 := Scalar.cmpi .ne v589 c0_i32_595
  let v591 : BitVec 1 := Scalar.andi v588 v590
  let v577 : BitVec 32 := Scalar.divsi v576 c256_i32
  let c1_i32_596 : BitVec 32 := 1#32
  let v592 : BitVec 32 := Scalar.subi v577 c1_i32_596
  let v593 : BitVec 32 := Scalar.select v591 v592 v577
  let v614 : Index := Scalar.indexCast v593
  let c256_i32_597 : BitVec 32 := 256#32
  let c0_i32_598 : BitVec 32 := 0#32
  let v594 : BitVec 1 := Scalar.cmpi .eq c256_i32_597 c0_i32_598
  let c1_i32_599 : BitVec 32 := 1#32
  let v595 : BitVec 32 := Scalar.select v594 c1_i32_599 c256_i32_597
  let v596 : BitVec 32 := Scalar.remsi v576 v595
  let c0_i32_601 : BitVec 32 := 0#32
  let v598 : BitVec 1 := Scalar.cmpi .slt v596 c0_i32_601
  let c0_i32_602 : BitVec 32 := 0#32
  let v599 : BitVec 1 := Scalar.cmpi .slt v595 c0_i32_602
  let v600 : BitVec 1 := Scalar.xori v598 v599
  let c0_i32_600 : BitVec 32 := 0#32
  let v597 : BitVec 1 := Scalar.cmpi .ne v596 c0_i32_600
  let v601 : BitVec 1 := Scalar.andi v600 v597
  let v602 : BitVec 32 := Scalar.addi v596 v595
  let v603 : BitVec 32 := Scalar.select v601 v602 v596
  let v604 : BitVec 32 := v603
  let v615 : Index := Scalar.indexCast v604
  ![v613.toNat, v614.toNat, v615.toNat]
def k0_off29 (i : grid0.Coords) : Fin 4 → Nat :=
  let c0_i32_114 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c48_i32 : BitVec 32 := 48#32
  let c0_i32_115 : BitVec 32 := 0#32
  ![0, v2.toNat, 48, 0]
def k0_off30 (i : grid0.Coords) : Fin 3 → Nat :=
  let c0_i32_118 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c16384_i32 : BitVec 32 := 16384#32
  ![0, v2.toNat, 16384]
@[reducible] def k0_t8_loop : Scf.Loop 32 :=
  let c0_i32_128 : BitVec 32 := 0#32
  let c1024_i32_129 : BitVec 32 := 1024#32
  let v130 : BitVec 32 := Scalar.addi c0_i32_128 c1024_i32_129
  let c1_i32_130 : BitVec 32 := 1#32
  ⟨c0_i32_128, v130, c1_i32_130⟩
def k0_mult15 (k0_t8 : Fin k0_t8_loop.trips) : BitVec 32 :=
  let c0_i32_577 : BitVec 32 := 0#32
  let c0_i32_128 : BitVec 32 := 0#32
  let c1_i32_130 : BitVec 32 := 1#32
  let arg12 : BitVec 32 := Scf.iv c0_i32_128 c1_i32_130 k0_t8
  let c16_i32_576 : BitVec 32 := 16#32
  let v547 : BitVec 32 := Scalar.muli arg12 c16_i32_576
  let v548 : BitVec 32 := Scalar.addi c0_i32_577 v547
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  v575
def k0_mult16 (k0_t8 : Fin k0_t8_loop.trips) : BitVec 32 :=
  let c0_i32_577 : BitVec 32 := 0#32
  let c0_i32_128 : BitVec 32 := 0#32
  let c1_i32_130 : BitVec 32 := 1#32
  let arg12 : BitVec 32 := Scf.iv c0_i32_128 c1_i32_130 k0_t8
  let c16_i32_576 : BitVec 32 := 16#32
  let v547 : BitVec 32 := Scalar.muli arg12 c16_i32_576
  let v548 : BitVec 32 := Scalar.addi c0_i32_577 v547
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  let v576 : BitVec 32 := v575
  let c256_i32_597 : BitVec 32 := 256#32
  let c0_i32_598 : BitVec 32 := 0#32
  let v594 : BitVec 1 := Scalar.cmpi .eq c256_i32_597 c0_i32_598
  let c1_i32_599 : BitVec 32 := 1#32
  let v595 : BitVec 32 := Scalar.select v594 c1_i32_599 c256_i32_597
  let v596 : BitVec 32 := Scalar.remsi v576 v595
  let c0_i32_601 : BitVec 32 := 0#32
  let v598 : BitVec 1 := Scalar.cmpi .slt v596 c0_i32_601
  let c0_i32_602 : BitVec 32 := 0#32
  let v599 : BitVec 1 := Scalar.cmpi .slt v595 c0_i32_602
  let v600 : BitVec 1 := Scalar.xori v598 v599
  let c0_i32_600 : BitVec 32 := 0#32
  let v597 : BitVec 1 := Scalar.cmpi .ne v596 c0_i32_600
  let v601 : BitVec 1 := Scalar.andi v600 v597
  let v602 : BitVec 32 := Scalar.addi v596 v595
  let v603 : BitVec 32 := Scalar.select v601 v602 v596
  v603
def k0_off31 (k0_t8 : Fin k0_t8_loop.trips) : Fin 2 → Nat :=
  let c0_i32_577 : BitVec 32 := 0#32
  let c0_i32_128 : BitVec 32 := 0#32
  let c1_i32_130 : BitVec 32 := 1#32
  let arg12 : BitVec 32 := Scf.iv c0_i32_128 c1_i32_130 k0_t8
  let c16_i32_576 : BitVec 32 := 16#32
  let v547 : BitVec 32 := Scalar.muli arg12 c16_i32_576
  let v548 : BitVec 32 := Scalar.addi c0_i32_577 v547
  let c0_i32_579 : BitVec 32 := 0#32
  let v550 : BitVec 1 := Scalar.cmpi .sgt v548 c0_i32_579
  let v551 : BitVec 32 := Scalar.extui v550
  let c0_i32_580 : BitVec 32 := 0#32
  let v552 : BitVec 1 := Scalar.cmpi .slt v548 c0_i32_580
  let v553 : BitVec 32 := Scalar.extui v552
  let v554 : BitVec 32 := Scalar.subi v551 v553
  let c2048_i32_578 : BitVec 32 := 2048#32
  let c0_i32_581 : BitVec 32 := 0#32
  let v555 : BitVec 1 := Scalar.cmpi .sgt c2048_i32_578 c0_i32_581
  let v556 : BitVec 32 := Scalar.extui v555
  let c0_i32_582 : BitVec 32 := 0#32
  let v557 : BitVec 1 := Scalar.cmpi .slt c2048_i32_578 c0_i32_582
  let v558 : BitVec 32 := Scalar.extui v557
  let v559 : BitVec 32 := Scalar.subi v556 v558
  let v560 : BitVec 1 := Scalar.cmpi .ne v554 v559
  let v561 : BitVec 32 := Scalar.remsi v548 c2048_i32_578
  let c0_i32_583 : BitVec 32 := 0#32
  let v562 : BitVec 1 := Scalar.cmpi .ne v561 c0_i32_583
  let v563 : BitVec 1 := Scalar.andi v560 v562
  let v549 : BitVec 32 := Scalar.divsi v548 c2048_i32_578
  let c1_i32_584 : BitVec 32 := 1#32
  let v564 : BitVec 32 := Scalar.subi v549 c1_i32_584
  let v565 : BitVec 32 := Scalar.select v563 v564 v549
  let v605 : Index := Scalar.indexCast v565
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  let v576 : BitVec 32 := v575
  let v606 : Index := Scalar.indexCast v576
  ![v605.toNat, v606.toNat]
def k0_off32 (k0_t8 : Fin k0_t8_loop.trips) : Fin 3 → Nat :=
  let c0_i32_577 : BitVec 32 := 0#32
  let c0_i32_128 : BitVec 32 := 0#32
  let c1_i32_130 : BitVec 32 := 1#32
  let arg12 : BitVec 32 := Scf.iv c0_i32_128 c1_i32_130 k0_t8
  let c16_i32_576 : BitVec 32 := 16#32
  let v547 : BitVec 32 := Scalar.muli arg12 c16_i32_576
  let v548 : BitVec 32 := Scalar.addi c0_i32_577 v547
  let c0_i32_579 : BitVec 32 := 0#32
  let v550 : BitVec 1 := Scalar.cmpi .sgt v548 c0_i32_579
  let v551 : BitVec 32 := Scalar.extui v550
  let c0_i32_580 : BitVec 32 := 0#32
  let v552 : BitVec 1 := Scalar.cmpi .slt v548 c0_i32_580
  let v553 : BitVec 32 := Scalar.extui v552
  let v554 : BitVec 32 := Scalar.subi v551 v553
  let c2048_i32_578 : BitVec 32 := 2048#32
  let c0_i32_581 : BitVec 32 := 0#32
  let v555 : BitVec 1 := Scalar.cmpi .sgt c2048_i32_578 c0_i32_581
  let v556 : BitVec 32 := Scalar.extui v555
  let c0_i32_582 : BitVec 32 := 0#32
  let v557 : BitVec 1 := Scalar.cmpi .slt c2048_i32_578 c0_i32_582
  let v558 : BitVec 32 := Scalar.extui v557
  let v559 : BitVec 32 := Scalar.subi v556 v558
  let v560 : BitVec 1 := Scalar.cmpi .ne v554 v559
  let v561 : BitVec 32 := Scalar.remsi v548 c2048_i32_578
  let c0_i32_583 : BitVec 32 := 0#32
  let v562 : BitVec 1 := Scalar.cmpi .ne v561 c0_i32_583
  let v563 : BitVec 1 := Scalar.andi v560 v562
  let v549 : BitVec 32 := Scalar.divsi v548 c2048_i32_578
  let c1_i32_584 : BitVec 32 := 1#32
  let v564 : BitVec 32 := Scalar.subi v549 c1_i32_584
  let v565 : BitVec 32 := Scalar.select v563 v564 v549
  let v613 : Index := Scalar.indexCast v565
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  let v576 : BitVec 32 := v575
  let c0_i32_591 : BitVec 32 := 0#32
  let v578 : BitVec 1 := Scalar.cmpi .sgt v576 c0_i32_591
  let v579 : BitVec 32 := Scalar.extui v578
  let c0_i32_592 : BitVec 32 := 0#32
  let v580 : BitVec 1 := Scalar.cmpi .slt v576 c0_i32_592
  let v581 : BitVec 32 := Scalar.extui v580
  let v582 : BitVec 32 := Scalar.subi v579 v581
  let c256_i32 : BitVec 32 := 256#32
  let c0_i32_593 : BitVec 32 := 0#32
  let v583 : BitVec 1 := Scalar.cmpi .sgt c256_i32 c0_i32_593
  let v584 : BitVec 32 := Scalar.extui v583
  let c0_i32_594 : BitVec 32 := 0#32
  let v585 : BitVec 1 := Scalar.cmpi .slt c256_i32 c0_i32_594
  let v586 : BitVec 32 := Scalar.extui v585
  let v587 : BitVec 32 := Scalar.subi v584 v586
  let v588 : BitVec 1 := Scalar.cmpi .ne v582 v587
  let v589 : BitVec 32 := Scalar.remsi v576 c256_i32
  let c0_i32_595 : BitVec 32 := 0#32
  let v590 : BitVec 1 := Scalar.cmpi .ne v589 c0_i32_595
  let v591 : BitVec 1 := Scalar.andi v588 v590
  let v577 : BitVec 32 := Scalar.divsi v576 c256_i32
  let c1_i32_596 : BitVec 32 := 1#32
  let v592 : BitVec 32 := Scalar.subi v577 c1_i32_596
  let v593 : BitVec 32 := Scalar.select v591 v592 v577
  let v614 : Index := Scalar.indexCast v593
  let c256_i32_597 : BitVec 32 := 256#32
  let c0_i32_598 : BitVec 32 := 0#32
  let v594 : BitVec 1 := Scalar.cmpi .eq c256_i32_597 c0_i32_598
  let c1_i32_599 : BitVec 32 := 1#32
  let v595 : BitVec 32 := Scalar.select v594 c1_i32_599 c256_i32_597
  let v596 : BitVec 32 := Scalar.remsi v576 v595
  let c0_i32_601 : BitVec 32 := 0#32
  let v598 : BitVec 1 := Scalar.cmpi .slt v596 c0_i32_601
  let c0_i32_602 : BitVec 32 := 0#32
  let v599 : BitVec 1 := Scalar.cmpi .slt v595 c0_i32_602
  let v600 : BitVec 1 := Scalar.xori v598 v599
  let c0_i32_600 : BitVec 32 := 0#32
  let v597 : BitVec 1 := Scalar.cmpi .ne v596 c0_i32_600
  let v601 : BitVec 1 := Scalar.andi v600 v597
  let v602 : BitVec 32 := Scalar.addi v596 v595
  let v603 : BitVec 32 := Scalar.select v601 v602 v596
  let v604 : BitVec 32 := v603
  let v615 : Index := Scalar.indexCast v604
  ![v613.toNat, v614.toNat, v615.toNat]
def k0_off33 (i : grid0.Coords) : Fin 4 → Nat :=
  let c0_i32_132 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c56_i32 : BitVec 32 := 56#32
  let c0_i32_133 : BitVec 32 := 0#32
  ![0, v2.toNat, 56, 0]
def k0_off34 (i : grid0.Coords) : Fin 3 → Nat :=
  let c0_i32_136 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c18432_i32 : BitVec 32 := 18432#32
  ![0, v2.toNat, 18432]
@[reducible] def k0_t9_loop : Scf.Loop 32 :=
  let c0_i32_146 : BitVec 32 := 0#32
  let c1024_i32_147 : BitVec 32 := 1024#32
  let v147 : BitVec 32 := Scalar.addi c0_i32_146 c1024_i32_147
  let c1_i32_148 : BitVec 32 := 1#32
  ⟨c0_i32_146, v147, c1_i32_148⟩
def k0_mult17 (k0_t9 : Fin k0_t9_loop.trips) : BitVec 32 :=
  let c0_i32_577 : BitVec 32 := 0#32
  let c0_i32_146 : BitVec 32 := 0#32
  let c1_i32_148 : BitVec 32 := 1#32
  let arg12 : BitVec 32 := Scf.iv c0_i32_146 c1_i32_148 k0_t9
  let c16_i32_576 : BitVec 32 := 16#32
  let v547 : BitVec 32 := Scalar.muli arg12 c16_i32_576
  let v548 : BitVec 32 := Scalar.addi c0_i32_577 v547
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  v575
def k0_mult18 (k0_t9 : Fin k0_t9_loop.trips) : BitVec 32 :=
  let c0_i32_577 : BitVec 32 := 0#32
  let c0_i32_146 : BitVec 32 := 0#32
  let c1_i32_148 : BitVec 32 := 1#32
  let arg12 : BitVec 32 := Scf.iv c0_i32_146 c1_i32_148 k0_t9
  let c16_i32_576 : BitVec 32 := 16#32
  let v547 : BitVec 32 := Scalar.muli arg12 c16_i32_576
  let v548 : BitVec 32 := Scalar.addi c0_i32_577 v547
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  let v576 : BitVec 32 := v575
  let c256_i32_597 : BitVec 32 := 256#32
  let c0_i32_598 : BitVec 32 := 0#32
  let v594 : BitVec 1 := Scalar.cmpi .eq c256_i32_597 c0_i32_598
  let c1_i32_599 : BitVec 32 := 1#32
  let v595 : BitVec 32 := Scalar.select v594 c1_i32_599 c256_i32_597
  let v596 : BitVec 32 := Scalar.remsi v576 v595
  let c0_i32_601 : BitVec 32 := 0#32
  let v598 : BitVec 1 := Scalar.cmpi .slt v596 c0_i32_601
  let c0_i32_602 : BitVec 32 := 0#32
  let v599 : BitVec 1 := Scalar.cmpi .slt v595 c0_i32_602
  let v600 : BitVec 1 := Scalar.xori v598 v599
  let c0_i32_600 : BitVec 32 := 0#32
  let v597 : BitVec 1 := Scalar.cmpi .ne v596 c0_i32_600
  let v601 : BitVec 1 := Scalar.andi v600 v597
  let v602 : BitVec 32 := Scalar.addi v596 v595
  let v603 : BitVec 32 := Scalar.select v601 v602 v596
  v603
def k0_off35 (k0_t9 : Fin k0_t9_loop.trips) : Fin 2 → Nat :=
  let c0_i32_577 : BitVec 32 := 0#32
  let c0_i32_146 : BitVec 32 := 0#32
  let c1_i32_148 : BitVec 32 := 1#32
  let arg12 : BitVec 32 := Scf.iv c0_i32_146 c1_i32_148 k0_t9
  let c16_i32_576 : BitVec 32 := 16#32
  let v547 : BitVec 32 := Scalar.muli arg12 c16_i32_576
  let v548 : BitVec 32 := Scalar.addi c0_i32_577 v547
  let c0_i32_579 : BitVec 32 := 0#32
  let v550 : BitVec 1 := Scalar.cmpi .sgt v548 c0_i32_579
  let v551 : BitVec 32 := Scalar.extui v550
  let c0_i32_580 : BitVec 32 := 0#32
  let v552 : BitVec 1 := Scalar.cmpi .slt v548 c0_i32_580
  let v553 : BitVec 32 := Scalar.extui v552
  let v554 : BitVec 32 := Scalar.subi v551 v553
  let c2048_i32_578 : BitVec 32 := 2048#32
  let c0_i32_581 : BitVec 32 := 0#32
  let v555 : BitVec 1 := Scalar.cmpi .sgt c2048_i32_578 c0_i32_581
  let v556 : BitVec 32 := Scalar.extui v555
  let c0_i32_582 : BitVec 32 := 0#32
  let v557 : BitVec 1 := Scalar.cmpi .slt c2048_i32_578 c0_i32_582
  let v558 : BitVec 32 := Scalar.extui v557
  let v559 : BitVec 32 := Scalar.subi v556 v558
  let v560 : BitVec 1 := Scalar.cmpi .ne v554 v559
  let v561 : BitVec 32 := Scalar.remsi v548 c2048_i32_578
  let c0_i32_583 : BitVec 32 := 0#32
  let v562 : BitVec 1 := Scalar.cmpi .ne v561 c0_i32_583
  let v563 : BitVec 1 := Scalar.andi v560 v562
  let v549 : BitVec 32 := Scalar.divsi v548 c2048_i32_578
  let c1_i32_584 : BitVec 32 := 1#32
  let v564 : BitVec 32 := Scalar.subi v549 c1_i32_584
  let v565 : BitVec 32 := Scalar.select v563 v564 v549
  let v605 : Index := Scalar.indexCast v565
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  let v576 : BitVec 32 := v575
  let v606 : Index := Scalar.indexCast v576
  ![v605.toNat, v606.toNat]
def k0_off36 (k0_t9 : Fin k0_t9_loop.trips) : Fin 3 → Nat :=
  let c0_i32_577 : BitVec 32 := 0#32
  let c0_i32_146 : BitVec 32 := 0#32
  let c1_i32_148 : BitVec 32 := 1#32
  let arg12 : BitVec 32 := Scf.iv c0_i32_146 c1_i32_148 k0_t9
  let c16_i32_576 : BitVec 32 := 16#32
  let v547 : BitVec 32 := Scalar.muli arg12 c16_i32_576
  let v548 : BitVec 32 := Scalar.addi c0_i32_577 v547
  let c0_i32_579 : BitVec 32 := 0#32
  let v550 : BitVec 1 := Scalar.cmpi .sgt v548 c0_i32_579
  let v551 : BitVec 32 := Scalar.extui v550
  let c0_i32_580 : BitVec 32 := 0#32
  let v552 : BitVec 1 := Scalar.cmpi .slt v548 c0_i32_580
  let v553 : BitVec 32 := Scalar.extui v552
  let v554 : BitVec 32 := Scalar.subi v551 v553
  let c2048_i32_578 : BitVec 32 := 2048#32
  let c0_i32_581 : BitVec 32 := 0#32
  let v555 : BitVec 1 := Scalar.cmpi .sgt c2048_i32_578 c0_i32_581
  let v556 : BitVec 32 := Scalar.extui v555
  let c0_i32_582 : BitVec 32 := 0#32
  let v557 : BitVec 1 := Scalar.cmpi .slt c2048_i32_578 c0_i32_582
  let v558 : BitVec 32 := Scalar.extui v557
  let v559 : BitVec 32 := Scalar.subi v556 v558
  let v560 : BitVec 1 := Scalar.cmpi .ne v554 v559
  let v561 : BitVec 32 := Scalar.remsi v548 c2048_i32_578
  let c0_i32_583 : BitVec 32 := 0#32
  let v562 : BitVec 1 := Scalar.cmpi .ne v561 c0_i32_583
  let v563 : BitVec 1 := Scalar.andi v560 v562
  let v549 : BitVec 32 := Scalar.divsi v548 c2048_i32_578
  let c1_i32_584 : BitVec 32 := 1#32
  let v564 : BitVec 32 := Scalar.subi v549 c1_i32_584
  let v565 : BitVec 32 := Scalar.select v563 v564 v549
  let v613 : Index := Scalar.indexCast v565
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  let v576 : BitVec 32 := v575
  let c0_i32_591 : BitVec 32 := 0#32
  let v578 : BitVec 1 := Scalar.cmpi .sgt v576 c0_i32_591
  let v579 : BitVec 32 := Scalar.extui v578
  let c0_i32_592 : BitVec 32 := 0#32
  let v580 : BitVec 1 := Scalar.cmpi .slt v576 c0_i32_592
  let v581 : BitVec 32 := Scalar.extui v580
  let v582 : BitVec 32 := Scalar.subi v579 v581
  let c256_i32 : BitVec 32 := 256#32
  let c0_i32_593 : BitVec 32 := 0#32
  let v583 : BitVec 1 := Scalar.cmpi .sgt c256_i32 c0_i32_593
  let v584 : BitVec 32 := Scalar.extui v583
  let c0_i32_594 : BitVec 32 := 0#32
  let v585 : BitVec 1 := Scalar.cmpi .slt c256_i32 c0_i32_594
  let v586 : BitVec 32 := Scalar.extui v585
  let v587 : BitVec 32 := Scalar.subi v584 v586
  let v588 : BitVec 1 := Scalar.cmpi .ne v582 v587
  let v589 : BitVec 32 := Scalar.remsi v576 c256_i32
  let c0_i32_595 : BitVec 32 := 0#32
  let v590 : BitVec 1 := Scalar.cmpi .ne v589 c0_i32_595
  let v591 : BitVec 1 := Scalar.andi v588 v590
  let v577 : BitVec 32 := Scalar.divsi v576 c256_i32
  let c1_i32_596 : BitVec 32 := 1#32
  let v592 : BitVec 32 := Scalar.subi v577 c1_i32_596
  let v593 : BitVec 32 := Scalar.select v591 v592 v577
  let v614 : Index := Scalar.indexCast v593
  let c256_i32_597 : BitVec 32 := 256#32
  let c0_i32_598 : BitVec 32 := 0#32
  let v594 : BitVec 1 := Scalar.cmpi .eq c256_i32_597 c0_i32_598
  let c1_i32_599 : BitVec 32 := 1#32
  let v595 : BitVec 32 := Scalar.select v594 c1_i32_599 c256_i32_597
  let v596 : BitVec 32 := Scalar.remsi v576 v595
  let c0_i32_601 : BitVec 32 := 0#32
  let v598 : BitVec 1 := Scalar.cmpi .slt v596 c0_i32_601
  let c0_i32_602 : BitVec 32 := 0#32
  let v599 : BitVec 1 := Scalar.cmpi .slt v595 c0_i32_602
  let v600 : BitVec 1 := Scalar.xori v598 v599
  let c0_i32_600 : BitVec 32 := 0#32
  let v597 : BitVec 1 := Scalar.cmpi .ne v596 c0_i32_600
  let v601 : BitVec 1 := Scalar.andi v600 v597
  let v602 : BitVec 32 := Scalar.addi v596 v595
  let v603 : BitVec 32 := Scalar.select v601 v602 v596
  let v604 : BitVec 32 := v603
  let v615 : Index := Scalar.indexCast v604
  ![v613.toNat, v614.toNat, v615.toNat]
def k0_off37 (i : grid0.Coords) : Fin 4 → Nat :=
  let c0_i32_150 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c64_i32 : BitVec 32 := 64#32
  let c0_i32_151 : BitVec 32 := 0#32
  ![0, v2.toNat, 64, 0]
def k0_off38 (i : grid0.Coords) : Fin 3 → Nat :=
  let c0_i32_154 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c20480_i32 : BitVec 32 := 20480#32
  ![0, v2.toNat, 20480]
@[reducible] def k0_t10_loop : Scf.Loop 32 :=
  let c0_i32_164 : BitVec 32 := 0#32
  let c1024_i32_165 : BitVec 32 := 1024#32
  let v164 : BitVec 32 := Scalar.addi c0_i32_164 c1024_i32_165
  let c1_i32_166 : BitVec 32 := 1#32
  ⟨c0_i32_164, v164, c1_i32_166⟩
def k0_mult19 (k0_t10 : Fin k0_t10_loop.trips) : BitVec 32 :=
  let c0_i32_577 : BitVec 32 := 0#32
  let c0_i32_164 : BitVec 32 := 0#32
  let c1_i32_166 : BitVec 32 := 1#32
  let arg12 : BitVec 32 := Scf.iv c0_i32_164 c1_i32_166 k0_t10
  let c16_i32_576 : BitVec 32 := 16#32
  let v547 : BitVec 32 := Scalar.muli arg12 c16_i32_576
  let v548 : BitVec 32 := Scalar.addi c0_i32_577 v547
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  v575
def k0_mult20 (k0_t10 : Fin k0_t10_loop.trips) : BitVec 32 :=
  let c0_i32_577 : BitVec 32 := 0#32
  let c0_i32_164 : BitVec 32 := 0#32
  let c1_i32_166 : BitVec 32 := 1#32
  let arg12 : BitVec 32 := Scf.iv c0_i32_164 c1_i32_166 k0_t10
  let c16_i32_576 : BitVec 32 := 16#32
  let v547 : BitVec 32 := Scalar.muli arg12 c16_i32_576
  let v548 : BitVec 32 := Scalar.addi c0_i32_577 v547
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  let v576 : BitVec 32 := v575
  let c256_i32_597 : BitVec 32 := 256#32
  let c0_i32_598 : BitVec 32 := 0#32
  let v594 : BitVec 1 := Scalar.cmpi .eq c256_i32_597 c0_i32_598
  let c1_i32_599 : BitVec 32 := 1#32
  let v595 : BitVec 32 := Scalar.select v594 c1_i32_599 c256_i32_597
  let v596 : BitVec 32 := Scalar.remsi v576 v595
  let c0_i32_601 : BitVec 32 := 0#32
  let v598 : BitVec 1 := Scalar.cmpi .slt v596 c0_i32_601
  let c0_i32_602 : BitVec 32 := 0#32
  let v599 : BitVec 1 := Scalar.cmpi .slt v595 c0_i32_602
  let v600 : BitVec 1 := Scalar.xori v598 v599
  let c0_i32_600 : BitVec 32 := 0#32
  let v597 : BitVec 1 := Scalar.cmpi .ne v596 c0_i32_600
  let v601 : BitVec 1 := Scalar.andi v600 v597
  let v602 : BitVec 32 := Scalar.addi v596 v595
  let v603 : BitVec 32 := Scalar.select v601 v602 v596
  v603
def k0_off39 (k0_t10 : Fin k0_t10_loop.trips) : Fin 2 → Nat :=
  let c0_i32_577 : BitVec 32 := 0#32
  let c0_i32_164 : BitVec 32 := 0#32
  let c1_i32_166 : BitVec 32 := 1#32
  let arg12 : BitVec 32 := Scf.iv c0_i32_164 c1_i32_166 k0_t10
  let c16_i32_576 : BitVec 32 := 16#32
  let v547 : BitVec 32 := Scalar.muli arg12 c16_i32_576
  let v548 : BitVec 32 := Scalar.addi c0_i32_577 v547
  let c0_i32_579 : BitVec 32 := 0#32
  let v550 : BitVec 1 := Scalar.cmpi .sgt v548 c0_i32_579
  let v551 : BitVec 32 := Scalar.extui v550
  let c0_i32_580 : BitVec 32 := 0#32
  let v552 : BitVec 1 := Scalar.cmpi .slt v548 c0_i32_580
  let v553 : BitVec 32 := Scalar.extui v552
  let v554 : BitVec 32 := Scalar.subi v551 v553
  let c2048_i32_578 : BitVec 32 := 2048#32
  let c0_i32_581 : BitVec 32 := 0#32
  let v555 : BitVec 1 := Scalar.cmpi .sgt c2048_i32_578 c0_i32_581
  let v556 : BitVec 32 := Scalar.extui v555
  let c0_i32_582 : BitVec 32 := 0#32
  let v557 : BitVec 1 := Scalar.cmpi .slt c2048_i32_578 c0_i32_582
  let v558 : BitVec 32 := Scalar.extui v557
  let v559 : BitVec 32 := Scalar.subi v556 v558
  let v560 : BitVec 1 := Scalar.cmpi .ne v554 v559
  let v561 : BitVec 32 := Scalar.remsi v548 c2048_i32_578
  let c0_i32_583 : BitVec 32 := 0#32
  let v562 : BitVec 1 := Scalar.cmpi .ne v561 c0_i32_583
  let v563 : BitVec 1 := Scalar.andi v560 v562
  let v549 : BitVec 32 := Scalar.divsi v548 c2048_i32_578
  let c1_i32_584 : BitVec 32 := 1#32
  let v564 : BitVec 32 := Scalar.subi v549 c1_i32_584
  let v565 : BitVec 32 := Scalar.select v563 v564 v549
  let v605 : Index := Scalar.indexCast v565
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  let v576 : BitVec 32 := v575
  let v606 : Index := Scalar.indexCast v576
  ![v605.toNat, v606.toNat]
def k0_off40 (k0_t10 : Fin k0_t10_loop.trips) : Fin 3 → Nat :=
  let c0_i32_577 : BitVec 32 := 0#32
  let c0_i32_164 : BitVec 32 := 0#32
  let c1_i32_166 : BitVec 32 := 1#32
  let arg12 : BitVec 32 := Scf.iv c0_i32_164 c1_i32_166 k0_t10
  let c16_i32_576 : BitVec 32 := 16#32
  let v547 : BitVec 32 := Scalar.muli arg12 c16_i32_576
  let v548 : BitVec 32 := Scalar.addi c0_i32_577 v547
  let c0_i32_579 : BitVec 32 := 0#32
  let v550 : BitVec 1 := Scalar.cmpi .sgt v548 c0_i32_579
  let v551 : BitVec 32 := Scalar.extui v550
  let c0_i32_580 : BitVec 32 := 0#32
  let v552 : BitVec 1 := Scalar.cmpi .slt v548 c0_i32_580
  let v553 : BitVec 32 := Scalar.extui v552
  let v554 : BitVec 32 := Scalar.subi v551 v553
  let c2048_i32_578 : BitVec 32 := 2048#32
  let c0_i32_581 : BitVec 32 := 0#32
  let v555 : BitVec 1 := Scalar.cmpi .sgt c2048_i32_578 c0_i32_581
  let v556 : BitVec 32 := Scalar.extui v555
  let c0_i32_582 : BitVec 32 := 0#32
  let v557 : BitVec 1 := Scalar.cmpi .slt c2048_i32_578 c0_i32_582
  let v558 : BitVec 32 := Scalar.extui v557
  let v559 : BitVec 32 := Scalar.subi v556 v558
  let v560 : BitVec 1 := Scalar.cmpi .ne v554 v559
  let v561 : BitVec 32 := Scalar.remsi v548 c2048_i32_578
  let c0_i32_583 : BitVec 32 := 0#32
  let v562 : BitVec 1 := Scalar.cmpi .ne v561 c0_i32_583
  let v563 : BitVec 1 := Scalar.andi v560 v562
  let v549 : BitVec 32 := Scalar.divsi v548 c2048_i32_578
  let c1_i32_584 : BitVec 32 := 1#32
  let v564 : BitVec 32 := Scalar.subi v549 c1_i32_584
  let v565 : BitVec 32 := Scalar.select v563 v564 v549
  let v613 : Index := Scalar.indexCast v565
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  let v576 : BitVec 32 := v575
  let c0_i32_591 : BitVec 32 := 0#32
  let v578 : BitVec 1 := Scalar.cmpi .sgt v576 c0_i32_591
  let v579 : BitVec 32 := Scalar.extui v578
  let c0_i32_592 : BitVec 32 := 0#32
  let v580 : BitVec 1 := Scalar.cmpi .slt v576 c0_i32_592
  let v581 : BitVec 32 := Scalar.extui v580
  let v582 : BitVec 32 := Scalar.subi v579 v581
  let c256_i32 : BitVec 32 := 256#32
  let c0_i32_593 : BitVec 32 := 0#32
  let v583 : BitVec 1 := Scalar.cmpi .sgt c256_i32 c0_i32_593
  let v584 : BitVec 32 := Scalar.extui v583
  let c0_i32_594 : BitVec 32 := 0#32
  let v585 : BitVec 1 := Scalar.cmpi .slt c256_i32 c0_i32_594
  let v586 : BitVec 32 := Scalar.extui v585
  let v587 : BitVec 32 := Scalar.subi v584 v586
  let v588 : BitVec 1 := Scalar.cmpi .ne v582 v587
  let v589 : BitVec 32 := Scalar.remsi v576 c256_i32
  let c0_i32_595 : BitVec 32 := 0#32
  let v590 : BitVec 1 := Scalar.cmpi .ne v589 c0_i32_595
  let v591 : BitVec 1 := Scalar.andi v588 v590
  let v577 : BitVec 32 := Scalar.divsi v576 c256_i32
  let c1_i32_596 : BitVec 32 := 1#32
  let v592 : BitVec 32 := Scalar.subi v577 c1_i32_596
  let v593 : BitVec 32 := Scalar.select v591 v592 v577
  let v614 : Index := Scalar.indexCast v593
  let c256_i32_597 : BitVec 32 := 256#32
  let c0_i32_598 : BitVec 32 := 0#32
  let v594 : BitVec 1 := Scalar.cmpi .eq c256_i32_597 c0_i32_598
  let c1_i32_599 : BitVec 32 := 1#32
  let v595 : BitVec 32 := Scalar.select v594 c1_i32_599 c256_i32_597
  let v596 : BitVec 32 := Scalar.remsi v576 v595
  let c0_i32_601 : BitVec 32 := 0#32
  let v598 : BitVec 1 := Scalar.cmpi .slt v596 c0_i32_601
  let c0_i32_602 : BitVec 32 := 0#32
  let v599 : BitVec 1 := Scalar.cmpi .slt v595 c0_i32_602
  let v600 : BitVec 1 := Scalar.xori v598 v599
  let c0_i32_600 : BitVec 32 := 0#32
  let v597 : BitVec 1 := Scalar.cmpi .ne v596 c0_i32_600
  let v601 : BitVec 1 := Scalar.andi v600 v597
  let v602 : BitVec 32 := Scalar.addi v596 v595
  let v603 : BitVec 32 := Scalar.select v601 v602 v596
  let v604 : BitVec 32 := v603
  let v615 : Index := Scalar.indexCast v604
  ![v613.toNat, v614.toNat, v615.toNat]
def k0_off41 (i : grid0.Coords) : Fin 4 → Nat :=
  let c0_i32_168 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c72_i32 : BitVec 32 := 72#32
  let c0_i32_169 : BitVec 32 := 0#32
  ![0, v2.toNat, 72, 0]
def k0_off42 (i : grid0.Coords) : Fin 3 → Nat :=
  let c0_i32_172 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c22528_i32 : BitVec 32 := 22528#32
  ![0, v2.toNat, 22528]
@[reducible] def k0_t11_loop : Scf.Loop 32 :=
  let c0_i32_182 : BitVec 32 := 0#32
  let c1024_i32_183 : BitVec 32 := 1024#32
  let v181 : BitVec 32 := Scalar.addi c0_i32_182 c1024_i32_183
  let c1_i32_184 : BitVec 32 := 1#32
  ⟨c0_i32_182, v181, c1_i32_184⟩
def k0_mult21 (k0_t11 : Fin k0_t11_loop.trips) : BitVec 32 :=
  let c0_i32_577 : BitVec 32 := 0#32
  let c0_i32_182 : BitVec 32 := 0#32
  let c1_i32_184 : BitVec 32 := 1#32
  let arg12 : BitVec 32 := Scf.iv c0_i32_182 c1_i32_184 k0_t11
  let c16_i32_576 : BitVec 32 := 16#32
  let v547 : BitVec 32 := Scalar.muli arg12 c16_i32_576
  let v548 : BitVec 32 := Scalar.addi c0_i32_577 v547
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  v575
def k0_mult22 (k0_t11 : Fin k0_t11_loop.trips) : BitVec 32 :=
  let c0_i32_577 : BitVec 32 := 0#32
  let c0_i32_182 : BitVec 32 := 0#32
  let c1_i32_184 : BitVec 32 := 1#32
  let arg12 : BitVec 32 := Scf.iv c0_i32_182 c1_i32_184 k0_t11
  let c16_i32_576 : BitVec 32 := 16#32
  let v547 : BitVec 32 := Scalar.muli arg12 c16_i32_576
  let v548 : BitVec 32 := Scalar.addi c0_i32_577 v547
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  let v576 : BitVec 32 := v575
  let c256_i32_597 : BitVec 32 := 256#32
  let c0_i32_598 : BitVec 32 := 0#32
  let v594 : BitVec 1 := Scalar.cmpi .eq c256_i32_597 c0_i32_598
  let c1_i32_599 : BitVec 32 := 1#32
  let v595 : BitVec 32 := Scalar.select v594 c1_i32_599 c256_i32_597
  let v596 : BitVec 32 := Scalar.remsi v576 v595
  let c0_i32_601 : BitVec 32 := 0#32
  let v598 : BitVec 1 := Scalar.cmpi .slt v596 c0_i32_601
  let c0_i32_602 : BitVec 32 := 0#32
  let v599 : BitVec 1 := Scalar.cmpi .slt v595 c0_i32_602
  let v600 : BitVec 1 := Scalar.xori v598 v599
  let c0_i32_600 : BitVec 32 := 0#32
  let v597 : BitVec 1 := Scalar.cmpi .ne v596 c0_i32_600
  let v601 : BitVec 1 := Scalar.andi v600 v597
  let v602 : BitVec 32 := Scalar.addi v596 v595
  let v603 : BitVec 32 := Scalar.select v601 v602 v596
  v603
def k0_off43 (k0_t11 : Fin k0_t11_loop.trips) : Fin 2 → Nat :=
  let c0_i32_577 : BitVec 32 := 0#32
  let c0_i32_182 : BitVec 32 := 0#32
  let c1_i32_184 : BitVec 32 := 1#32
  let arg12 : BitVec 32 := Scf.iv c0_i32_182 c1_i32_184 k0_t11
  let c16_i32_576 : BitVec 32 := 16#32
  let v547 : BitVec 32 := Scalar.muli arg12 c16_i32_576
  let v548 : BitVec 32 := Scalar.addi c0_i32_577 v547
  let c0_i32_579 : BitVec 32 := 0#32
  let v550 : BitVec 1 := Scalar.cmpi .sgt v548 c0_i32_579
  let v551 : BitVec 32 := Scalar.extui v550
  let c0_i32_580 : BitVec 32 := 0#32
  let v552 : BitVec 1 := Scalar.cmpi .slt v548 c0_i32_580
  let v553 : BitVec 32 := Scalar.extui v552
  let v554 : BitVec 32 := Scalar.subi v551 v553
  let c2048_i32_578 : BitVec 32 := 2048#32
  let c0_i32_581 : BitVec 32 := 0#32
  let v555 : BitVec 1 := Scalar.cmpi .sgt c2048_i32_578 c0_i32_581
  let v556 : BitVec 32 := Scalar.extui v555
  let c0_i32_582 : BitVec 32 := 0#32
  let v557 : BitVec 1 := Scalar.cmpi .slt c2048_i32_578 c0_i32_582
  let v558 : BitVec 32 := Scalar.extui v557
  let v559 : BitVec 32 := Scalar.subi v556 v558
  let v560 : BitVec 1 := Scalar.cmpi .ne v554 v559
  let v561 : BitVec 32 := Scalar.remsi v548 c2048_i32_578
  let c0_i32_583 : BitVec 32 := 0#32
  let v562 : BitVec 1 := Scalar.cmpi .ne v561 c0_i32_583
  let v563 : BitVec 1 := Scalar.andi v560 v562
  let v549 : BitVec 32 := Scalar.divsi v548 c2048_i32_578
  let c1_i32_584 : BitVec 32 := 1#32
  let v564 : BitVec 32 := Scalar.subi v549 c1_i32_584
  let v565 : BitVec 32 := Scalar.select v563 v564 v549
  let v605 : Index := Scalar.indexCast v565
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  let v576 : BitVec 32 := v575
  let v606 : Index := Scalar.indexCast v576
  ![v605.toNat, v606.toNat]
def k0_off44 (k0_t11 : Fin k0_t11_loop.trips) : Fin 3 → Nat :=
  let c0_i32_577 : BitVec 32 := 0#32
  let c0_i32_182 : BitVec 32 := 0#32
  let c1_i32_184 : BitVec 32 := 1#32
  let arg12 : BitVec 32 := Scf.iv c0_i32_182 c1_i32_184 k0_t11
  let c16_i32_576 : BitVec 32 := 16#32
  let v547 : BitVec 32 := Scalar.muli arg12 c16_i32_576
  let v548 : BitVec 32 := Scalar.addi c0_i32_577 v547
  let c0_i32_579 : BitVec 32 := 0#32
  let v550 : BitVec 1 := Scalar.cmpi .sgt v548 c0_i32_579
  let v551 : BitVec 32 := Scalar.extui v550
  let c0_i32_580 : BitVec 32 := 0#32
  let v552 : BitVec 1 := Scalar.cmpi .slt v548 c0_i32_580
  let v553 : BitVec 32 := Scalar.extui v552
  let v554 : BitVec 32 := Scalar.subi v551 v553
  let c2048_i32_578 : BitVec 32 := 2048#32
  let c0_i32_581 : BitVec 32 := 0#32
  let v555 : BitVec 1 := Scalar.cmpi .sgt c2048_i32_578 c0_i32_581
  let v556 : BitVec 32 := Scalar.extui v555
  let c0_i32_582 : BitVec 32 := 0#32
  let v557 : BitVec 1 := Scalar.cmpi .slt c2048_i32_578 c0_i32_582
  let v558 : BitVec 32 := Scalar.extui v557
  let v559 : BitVec 32 := Scalar.subi v556 v558
  let v560 : BitVec 1 := Scalar.cmpi .ne v554 v559
  let v561 : BitVec 32 := Scalar.remsi v548 c2048_i32_578
  let c0_i32_583 : BitVec 32 := 0#32
  let v562 : BitVec 1 := Scalar.cmpi .ne v561 c0_i32_583
  let v563 : BitVec 1 := Scalar.andi v560 v562
  let v549 : BitVec 32 := Scalar.divsi v548 c2048_i32_578
  let c1_i32_584 : BitVec 32 := 1#32
  let v564 : BitVec 32 := Scalar.subi v549 c1_i32_584
  let v565 : BitVec 32 := Scalar.select v563 v564 v549
  let v613 : Index := Scalar.indexCast v565
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  let v576 : BitVec 32 := v575
  let c0_i32_591 : BitVec 32 := 0#32
  let v578 : BitVec 1 := Scalar.cmpi .sgt v576 c0_i32_591
  let v579 : BitVec 32 := Scalar.extui v578
  let c0_i32_592 : BitVec 32 := 0#32
  let v580 : BitVec 1 := Scalar.cmpi .slt v576 c0_i32_592
  let v581 : BitVec 32 := Scalar.extui v580
  let v582 : BitVec 32 := Scalar.subi v579 v581
  let c256_i32 : BitVec 32 := 256#32
  let c0_i32_593 : BitVec 32 := 0#32
  let v583 : BitVec 1 := Scalar.cmpi .sgt c256_i32 c0_i32_593
  let v584 : BitVec 32 := Scalar.extui v583
  let c0_i32_594 : BitVec 32 := 0#32
  let v585 : BitVec 1 := Scalar.cmpi .slt c256_i32 c0_i32_594
  let v586 : BitVec 32 := Scalar.extui v585
  let v587 : BitVec 32 := Scalar.subi v584 v586
  let v588 : BitVec 1 := Scalar.cmpi .ne v582 v587
  let v589 : BitVec 32 := Scalar.remsi v576 c256_i32
  let c0_i32_595 : BitVec 32 := 0#32
  let v590 : BitVec 1 := Scalar.cmpi .ne v589 c0_i32_595
  let v591 : BitVec 1 := Scalar.andi v588 v590
  let v577 : BitVec 32 := Scalar.divsi v576 c256_i32
  let c1_i32_596 : BitVec 32 := 1#32
  let v592 : BitVec 32 := Scalar.subi v577 c1_i32_596
  let v593 : BitVec 32 := Scalar.select v591 v592 v577
  let v614 : Index := Scalar.indexCast v593
  let c256_i32_597 : BitVec 32 := 256#32
  let c0_i32_598 : BitVec 32 := 0#32
  let v594 : BitVec 1 := Scalar.cmpi .eq c256_i32_597 c0_i32_598
  let c1_i32_599 : BitVec 32 := 1#32
  let v595 : BitVec 32 := Scalar.select v594 c1_i32_599 c256_i32_597
  let v596 : BitVec 32 := Scalar.remsi v576 v595
  let c0_i32_601 : BitVec 32 := 0#32
  let v598 : BitVec 1 := Scalar.cmpi .slt v596 c0_i32_601
  let c0_i32_602 : BitVec 32 := 0#32
  let v599 : BitVec 1 := Scalar.cmpi .slt v595 c0_i32_602
  let v600 : BitVec 1 := Scalar.xori v598 v599
  let c0_i32_600 : BitVec 32 := 0#32
  let v597 : BitVec 1 := Scalar.cmpi .ne v596 c0_i32_600
  let v601 : BitVec 1 := Scalar.andi v600 v597
  let v602 : BitVec 32 := Scalar.addi v596 v595
  let v603 : BitVec 32 := Scalar.select v601 v602 v596
  let v604 : BitVec 32 := v603
  let v615 : Index := Scalar.indexCast v604
  ![v613.toNat, v614.toNat, v615.toNat]
def k0_off45 (i : grid0.Coords) : Fin 4 → Nat :=
  let c0_i32_186 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c80_i32 : BitVec 32 := 80#32
  let c0_i32_187 : BitVec 32 := 0#32
  ![0, v2.toNat, 80, 0]
def k0_off46 (i : grid0.Coords) : Fin 3 → Nat :=
  let c0_i32_190 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c24576_i32 : BitVec 32 := 24576#32
  ![0, v2.toNat, 24576]
@[reducible] def k0_t12_loop : Scf.Loop 32 :=
  let c0_i32_200 : BitVec 32 := 0#32
  let c1024_i32_201 : BitVec 32 := 1024#32
  let v198 : BitVec 32 := Scalar.addi c0_i32_200 c1024_i32_201
  let c1_i32_202 : BitVec 32 := 1#32
  ⟨c0_i32_200, v198, c1_i32_202⟩
def k0_mult23 (k0_t12 : Fin k0_t12_loop.trips) : BitVec 32 :=
  let c0_i32_577 : BitVec 32 := 0#32
  let c0_i32_200 : BitVec 32 := 0#32
  let c1_i32_202 : BitVec 32 := 1#32
  let arg12 : BitVec 32 := Scf.iv c0_i32_200 c1_i32_202 k0_t12
  let c16_i32_576 : BitVec 32 := 16#32
  let v547 : BitVec 32 := Scalar.muli arg12 c16_i32_576
  let v548 : BitVec 32 := Scalar.addi c0_i32_577 v547
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  v575
def k0_mult24 (k0_t12 : Fin k0_t12_loop.trips) : BitVec 32 :=
  let c0_i32_577 : BitVec 32 := 0#32
  let c0_i32_200 : BitVec 32 := 0#32
  let c1_i32_202 : BitVec 32 := 1#32
  let arg12 : BitVec 32 := Scf.iv c0_i32_200 c1_i32_202 k0_t12
  let c16_i32_576 : BitVec 32 := 16#32
  let v547 : BitVec 32 := Scalar.muli arg12 c16_i32_576
  let v548 : BitVec 32 := Scalar.addi c0_i32_577 v547
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  let v576 : BitVec 32 := v575
  let c256_i32_597 : BitVec 32 := 256#32
  let c0_i32_598 : BitVec 32 := 0#32
  let v594 : BitVec 1 := Scalar.cmpi .eq c256_i32_597 c0_i32_598
  let c1_i32_599 : BitVec 32 := 1#32
  let v595 : BitVec 32 := Scalar.select v594 c1_i32_599 c256_i32_597
  let v596 : BitVec 32 := Scalar.remsi v576 v595
  let c0_i32_601 : BitVec 32 := 0#32
  let v598 : BitVec 1 := Scalar.cmpi .slt v596 c0_i32_601
  let c0_i32_602 : BitVec 32 := 0#32
  let v599 : BitVec 1 := Scalar.cmpi .slt v595 c0_i32_602
  let v600 : BitVec 1 := Scalar.xori v598 v599
  let c0_i32_600 : BitVec 32 := 0#32
  let v597 : BitVec 1 := Scalar.cmpi .ne v596 c0_i32_600
  let v601 : BitVec 1 := Scalar.andi v600 v597
  let v602 : BitVec 32 := Scalar.addi v596 v595
  let v603 : BitVec 32 := Scalar.select v601 v602 v596
  v603
def k0_off47 (k0_t12 : Fin k0_t12_loop.trips) : Fin 2 → Nat :=
  let c0_i32_577 : BitVec 32 := 0#32
  let c0_i32_200 : BitVec 32 := 0#32
  let c1_i32_202 : BitVec 32 := 1#32
  let arg12 : BitVec 32 := Scf.iv c0_i32_200 c1_i32_202 k0_t12
  let c16_i32_576 : BitVec 32 := 16#32
  let v547 : BitVec 32 := Scalar.muli arg12 c16_i32_576
  let v548 : BitVec 32 := Scalar.addi c0_i32_577 v547
  let c0_i32_579 : BitVec 32 := 0#32
  let v550 : BitVec 1 := Scalar.cmpi .sgt v548 c0_i32_579
  let v551 : BitVec 32 := Scalar.extui v550
  let c0_i32_580 : BitVec 32 := 0#32
  let v552 : BitVec 1 := Scalar.cmpi .slt v548 c0_i32_580
  let v553 : BitVec 32 := Scalar.extui v552
  let v554 : BitVec 32 := Scalar.subi v551 v553
  let c2048_i32_578 : BitVec 32 := 2048#32
  let c0_i32_581 : BitVec 32 := 0#32
  let v555 : BitVec 1 := Scalar.cmpi .sgt c2048_i32_578 c0_i32_581
  let v556 : BitVec 32 := Scalar.extui v555
  let c0_i32_582 : BitVec 32 := 0#32
  let v557 : BitVec 1 := Scalar.cmpi .slt c2048_i32_578 c0_i32_582
  let v558 : BitVec 32 := Scalar.extui v557
  let v559 : BitVec 32 := Scalar.subi v556 v558
  let v560 : BitVec 1 := Scalar.cmpi .ne v554 v559
  let v561 : BitVec 32 := Scalar.remsi v548 c2048_i32_578
  let c0_i32_583 : BitVec 32 := 0#32
  let v562 : BitVec 1 := Scalar.cmpi .ne v561 c0_i32_583
  let v563 : BitVec 1 := Scalar.andi v560 v562
  let v549 : BitVec 32 := Scalar.divsi v548 c2048_i32_578
  let c1_i32_584 : BitVec 32 := 1#32
  let v564 : BitVec 32 := Scalar.subi v549 c1_i32_584
  let v565 : BitVec 32 := Scalar.select v563 v564 v549
  let v605 : Index := Scalar.indexCast v565
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  let v576 : BitVec 32 := v575
  let v606 : Index := Scalar.indexCast v576
  ![v605.toNat, v606.toNat]
def k0_off48 (k0_t12 : Fin k0_t12_loop.trips) : Fin 3 → Nat :=
  let c0_i32_577 : BitVec 32 := 0#32
  let c0_i32_200 : BitVec 32 := 0#32
  let c1_i32_202 : BitVec 32 := 1#32
  let arg12 : BitVec 32 := Scf.iv c0_i32_200 c1_i32_202 k0_t12
  let c16_i32_576 : BitVec 32 := 16#32
  let v547 : BitVec 32 := Scalar.muli arg12 c16_i32_576
  let v548 : BitVec 32 := Scalar.addi c0_i32_577 v547
  let c0_i32_579 : BitVec 32 := 0#32
  let v550 : BitVec 1 := Scalar.cmpi .sgt v548 c0_i32_579
  let v551 : BitVec 32 := Scalar.extui v550
  let c0_i32_580 : BitVec 32 := 0#32
  let v552 : BitVec 1 := Scalar.cmpi .slt v548 c0_i32_580
  let v553 : BitVec 32 := Scalar.extui v552
  let v554 : BitVec 32 := Scalar.subi v551 v553
  let c2048_i32_578 : BitVec 32 := 2048#32
  let c0_i32_581 : BitVec 32 := 0#32
  let v555 : BitVec 1 := Scalar.cmpi .sgt c2048_i32_578 c0_i32_581
  let v556 : BitVec 32 := Scalar.extui v555
  let c0_i32_582 : BitVec 32 := 0#32
  let v557 : BitVec 1 := Scalar.cmpi .slt c2048_i32_578 c0_i32_582
  let v558 : BitVec 32 := Scalar.extui v557
  let v559 : BitVec 32 := Scalar.subi v556 v558
  let v560 : BitVec 1 := Scalar.cmpi .ne v554 v559
  let v561 : BitVec 32 := Scalar.remsi v548 c2048_i32_578
  let c0_i32_583 : BitVec 32 := 0#32
  let v562 : BitVec 1 := Scalar.cmpi .ne v561 c0_i32_583
  let v563 : BitVec 1 := Scalar.andi v560 v562
  let v549 : BitVec 32 := Scalar.divsi v548 c2048_i32_578
  let c1_i32_584 : BitVec 32 := 1#32
  let v564 : BitVec 32 := Scalar.subi v549 c1_i32_584
  let v565 : BitVec 32 := Scalar.select v563 v564 v549
  let v613 : Index := Scalar.indexCast v565
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  let v576 : BitVec 32 := v575
  let c0_i32_591 : BitVec 32 := 0#32
  let v578 : BitVec 1 := Scalar.cmpi .sgt v576 c0_i32_591
  let v579 : BitVec 32 := Scalar.extui v578
  let c0_i32_592 : BitVec 32 := 0#32
  let v580 : BitVec 1 := Scalar.cmpi .slt v576 c0_i32_592
  let v581 : BitVec 32 := Scalar.extui v580
  let v582 : BitVec 32 := Scalar.subi v579 v581
  let c256_i32 : BitVec 32 := 256#32
  let c0_i32_593 : BitVec 32 := 0#32
  let v583 : BitVec 1 := Scalar.cmpi .sgt c256_i32 c0_i32_593
  let v584 : BitVec 32 := Scalar.extui v583
  let c0_i32_594 : BitVec 32 := 0#32
  let v585 : BitVec 1 := Scalar.cmpi .slt c256_i32 c0_i32_594
  let v586 : BitVec 32 := Scalar.extui v585
  let v587 : BitVec 32 := Scalar.subi v584 v586
  let v588 : BitVec 1 := Scalar.cmpi .ne v582 v587
  let v589 : BitVec 32 := Scalar.remsi v576 c256_i32
  let c0_i32_595 : BitVec 32 := 0#32
  let v590 : BitVec 1 := Scalar.cmpi .ne v589 c0_i32_595
  let v591 : BitVec 1 := Scalar.andi v588 v590
  let v577 : BitVec 32 := Scalar.divsi v576 c256_i32
  let c1_i32_596 : BitVec 32 := 1#32
  let v592 : BitVec 32 := Scalar.subi v577 c1_i32_596
  let v593 : BitVec 32 := Scalar.select v591 v592 v577
  let v614 : Index := Scalar.indexCast v593
  let c256_i32_597 : BitVec 32 := 256#32
  let c0_i32_598 : BitVec 32 := 0#32
  let v594 : BitVec 1 := Scalar.cmpi .eq c256_i32_597 c0_i32_598
  let c1_i32_599 : BitVec 32 := 1#32
  let v595 : BitVec 32 := Scalar.select v594 c1_i32_599 c256_i32_597
  let v596 : BitVec 32 := Scalar.remsi v576 v595
  let c0_i32_601 : BitVec 32 := 0#32
  let v598 : BitVec 1 := Scalar.cmpi .slt v596 c0_i32_601
  let c0_i32_602 : BitVec 32 := 0#32
  let v599 : BitVec 1 := Scalar.cmpi .slt v595 c0_i32_602
  let v600 : BitVec 1 := Scalar.xori v598 v599
  let c0_i32_600 : BitVec 32 := 0#32
  let v597 : BitVec 1 := Scalar.cmpi .ne v596 c0_i32_600
  let v601 : BitVec 1 := Scalar.andi v600 v597
  let v602 : BitVec 32 := Scalar.addi v596 v595
  let v603 : BitVec 32 := Scalar.select v601 v602 v596
  let v604 : BitVec 32 := v603
  let v615 : Index := Scalar.indexCast v604
  ![v613.toNat, v614.toNat, v615.toNat]
def k0_off49 (i : grid0.Coords) : Fin 4 → Nat :=
  let c0_i32_204 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c88_i32 : BitVec 32 := 88#32
  let c0_i32_205 : BitVec 32 := 0#32
  ![0, v2.toNat, 88, 0]
def k0_off50 (i : grid0.Coords) : Fin 3 → Nat :=
  let c0_i32_208 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c26624_i32 : BitVec 32 := 26624#32
  ![0, v2.toNat, 26624]
@[reducible] def k0_t13_loop : Scf.Loop 32 :=
  let c0_i32_218 : BitVec 32 := 0#32
  let c1024_i32_219 : BitVec 32 := 1024#32
  let v215 : BitVec 32 := Scalar.addi c0_i32_218 c1024_i32_219
  let c1_i32_220 : BitVec 32 := 1#32
  ⟨c0_i32_218, v215, c1_i32_220⟩
def k0_mult25 (k0_t13 : Fin k0_t13_loop.trips) : BitVec 32 :=
  let c0_i32_577 : BitVec 32 := 0#32
  let c0_i32_218 : BitVec 32 := 0#32
  let c1_i32_220 : BitVec 32 := 1#32
  let arg12 : BitVec 32 := Scf.iv c0_i32_218 c1_i32_220 k0_t13
  let c16_i32_576 : BitVec 32 := 16#32
  let v547 : BitVec 32 := Scalar.muli arg12 c16_i32_576
  let v548 : BitVec 32 := Scalar.addi c0_i32_577 v547
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  v575
def k0_mult26 (k0_t13 : Fin k0_t13_loop.trips) : BitVec 32 :=
  let c0_i32_577 : BitVec 32 := 0#32
  let c0_i32_218 : BitVec 32 := 0#32
  let c1_i32_220 : BitVec 32 := 1#32
  let arg12 : BitVec 32 := Scf.iv c0_i32_218 c1_i32_220 k0_t13
  let c16_i32_576 : BitVec 32 := 16#32
  let v547 : BitVec 32 := Scalar.muli arg12 c16_i32_576
  let v548 : BitVec 32 := Scalar.addi c0_i32_577 v547
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  let v576 : BitVec 32 := v575
  let c256_i32_597 : BitVec 32 := 256#32
  let c0_i32_598 : BitVec 32 := 0#32
  let v594 : BitVec 1 := Scalar.cmpi .eq c256_i32_597 c0_i32_598
  let c1_i32_599 : BitVec 32 := 1#32
  let v595 : BitVec 32 := Scalar.select v594 c1_i32_599 c256_i32_597
  let v596 : BitVec 32 := Scalar.remsi v576 v595
  let c0_i32_601 : BitVec 32 := 0#32
  let v598 : BitVec 1 := Scalar.cmpi .slt v596 c0_i32_601
  let c0_i32_602 : BitVec 32 := 0#32
  let v599 : BitVec 1 := Scalar.cmpi .slt v595 c0_i32_602
  let v600 : BitVec 1 := Scalar.xori v598 v599
  let c0_i32_600 : BitVec 32 := 0#32
  let v597 : BitVec 1 := Scalar.cmpi .ne v596 c0_i32_600
  let v601 : BitVec 1 := Scalar.andi v600 v597
  let v602 : BitVec 32 := Scalar.addi v596 v595
  let v603 : BitVec 32 := Scalar.select v601 v602 v596
  v603
def k0_off51 (k0_t13 : Fin k0_t13_loop.trips) : Fin 2 → Nat :=
  let c0_i32_577 : BitVec 32 := 0#32
  let c0_i32_218 : BitVec 32 := 0#32
  let c1_i32_220 : BitVec 32 := 1#32
  let arg12 : BitVec 32 := Scf.iv c0_i32_218 c1_i32_220 k0_t13
  let c16_i32_576 : BitVec 32 := 16#32
  let v547 : BitVec 32 := Scalar.muli arg12 c16_i32_576
  let v548 : BitVec 32 := Scalar.addi c0_i32_577 v547
  let c0_i32_579 : BitVec 32 := 0#32
  let v550 : BitVec 1 := Scalar.cmpi .sgt v548 c0_i32_579
  let v551 : BitVec 32 := Scalar.extui v550
  let c0_i32_580 : BitVec 32 := 0#32
  let v552 : BitVec 1 := Scalar.cmpi .slt v548 c0_i32_580
  let v553 : BitVec 32 := Scalar.extui v552
  let v554 : BitVec 32 := Scalar.subi v551 v553
  let c2048_i32_578 : BitVec 32 := 2048#32
  let c0_i32_581 : BitVec 32 := 0#32
  let v555 : BitVec 1 := Scalar.cmpi .sgt c2048_i32_578 c0_i32_581
  let v556 : BitVec 32 := Scalar.extui v555
  let c0_i32_582 : BitVec 32 := 0#32
  let v557 : BitVec 1 := Scalar.cmpi .slt c2048_i32_578 c0_i32_582
  let v558 : BitVec 32 := Scalar.extui v557
  let v559 : BitVec 32 := Scalar.subi v556 v558
  let v560 : BitVec 1 := Scalar.cmpi .ne v554 v559
  let v561 : BitVec 32 := Scalar.remsi v548 c2048_i32_578
  let c0_i32_583 : BitVec 32 := 0#32
  let v562 : BitVec 1 := Scalar.cmpi .ne v561 c0_i32_583
  let v563 : BitVec 1 := Scalar.andi v560 v562
  let v549 : BitVec 32 := Scalar.divsi v548 c2048_i32_578
  let c1_i32_584 : BitVec 32 := 1#32
  let v564 : BitVec 32 := Scalar.subi v549 c1_i32_584
  let v565 : BitVec 32 := Scalar.select v563 v564 v549
  let v605 : Index := Scalar.indexCast v565
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  let v576 : BitVec 32 := v575
  let v606 : Index := Scalar.indexCast v576
  ![v605.toNat, v606.toNat]
def k0_off52 (k0_t13 : Fin k0_t13_loop.trips) : Fin 3 → Nat :=
  let c0_i32_577 : BitVec 32 := 0#32
  let c0_i32_218 : BitVec 32 := 0#32
  let c1_i32_220 : BitVec 32 := 1#32
  let arg12 : BitVec 32 := Scf.iv c0_i32_218 c1_i32_220 k0_t13
  let c16_i32_576 : BitVec 32 := 16#32
  let v547 : BitVec 32 := Scalar.muli arg12 c16_i32_576
  let v548 : BitVec 32 := Scalar.addi c0_i32_577 v547
  let c0_i32_579 : BitVec 32 := 0#32
  let v550 : BitVec 1 := Scalar.cmpi .sgt v548 c0_i32_579
  let v551 : BitVec 32 := Scalar.extui v550
  let c0_i32_580 : BitVec 32 := 0#32
  let v552 : BitVec 1 := Scalar.cmpi .slt v548 c0_i32_580
  let v553 : BitVec 32 := Scalar.extui v552
  let v554 : BitVec 32 := Scalar.subi v551 v553
  let c2048_i32_578 : BitVec 32 := 2048#32
  let c0_i32_581 : BitVec 32 := 0#32
  let v555 : BitVec 1 := Scalar.cmpi .sgt c2048_i32_578 c0_i32_581
  let v556 : BitVec 32 := Scalar.extui v555
  let c0_i32_582 : BitVec 32 := 0#32
  let v557 : BitVec 1 := Scalar.cmpi .slt c2048_i32_578 c0_i32_582
  let v558 : BitVec 32 := Scalar.extui v557
  let v559 : BitVec 32 := Scalar.subi v556 v558
  let v560 : BitVec 1 := Scalar.cmpi .ne v554 v559
  let v561 : BitVec 32 := Scalar.remsi v548 c2048_i32_578
  let c0_i32_583 : BitVec 32 := 0#32
  let v562 : BitVec 1 := Scalar.cmpi .ne v561 c0_i32_583
  let v563 : BitVec 1 := Scalar.andi v560 v562
  let v549 : BitVec 32 := Scalar.divsi v548 c2048_i32_578
  let c1_i32_584 : BitVec 32 := 1#32
  let v564 : BitVec 32 := Scalar.subi v549 c1_i32_584
  let v565 : BitVec 32 := Scalar.select v563 v564 v549
  let v613 : Index := Scalar.indexCast v565
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  let v576 : BitVec 32 := v575
  let c0_i32_591 : BitVec 32 := 0#32
  let v578 : BitVec 1 := Scalar.cmpi .sgt v576 c0_i32_591
  let v579 : BitVec 32 := Scalar.extui v578
  let c0_i32_592 : BitVec 32 := 0#32
  let v580 : BitVec 1 := Scalar.cmpi .slt v576 c0_i32_592
  let v581 : BitVec 32 := Scalar.extui v580
  let v582 : BitVec 32 := Scalar.subi v579 v581
  let c256_i32 : BitVec 32 := 256#32
  let c0_i32_593 : BitVec 32 := 0#32
  let v583 : BitVec 1 := Scalar.cmpi .sgt c256_i32 c0_i32_593
  let v584 : BitVec 32 := Scalar.extui v583
  let c0_i32_594 : BitVec 32 := 0#32
  let v585 : BitVec 1 := Scalar.cmpi .slt c256_i32 c0_i32_594
  let v586 : BitVec 32 := Scalar.extui v585
  let v587 : BitVec 32 := Scalar.subi v584 v586
  let v588 : BitVec 1 := Scalar.cmpi .ne v582 v587
  let v589 : BitVec 32 := Scalar.remsi v576 c256_i32
  let c0_i32_595 : BitVec 32 := 0#32
  let v590 : BitVec 1 := Scalar.cmpi .ne v589 c0_i32_595
  let v591 : BitVec 1 := Scalar.andi v588 v590
  let v577 : BitVec 32 := Scalar.divsi v576 c256_i32
  let c1_i32_596 : BitVec 32 := 1#32
  let v592 : BitVec 32 := Scalar.subi v577 c1_i32_596
  let v593 : BitVec 32 := Scalar.select v591 v592 v577
  let v614 : Index := Scalar.indexCast v593
  let c256_i32_597 : BitVec 32 := 256#32
  let c0_i32_598 : BitVec 32 := 0#32
  let v594 : BitVec 1 := Scalar.cmpi .eq c256_i32_597 c0_i32_598
  let c1_i32_599 : BitVec 32 := 1#32
  let v595 : BitVec 32 := Scalar.select v594 c1_i32_599 c256_i32_597
  let v596 : BitVec 32 := Scalar.remsi v576 v595
  let c0_i32_601 : BitVec 32 := 0#32
  let v598 : BitVec 1 := Scalar.cmpi .slt v596 c0_i32_601
  let c0_i32_602 : BitVec 32 := 0#32
  let v599 : BitVec 1 := Scalar.cmpi .slt v595 c0_i32_602
  let v600 : BitVec 1 := Scalar.xori v598 v599
  let c0_i32_600 : BitVec 32 := 0#32
  let v597 : BitVec 1 := Scalar.cmpi .ne v596 c0_i32_600
  let v601 : BitVec 1 := Scalar.andi v600 v597
  let v602 : BitVec 32 := Scalar.addi v596 v595
  let v603 : BitVec 32 := Scalar.select v601 v602 v596
  let v604 : BitVec 32 := v603
  let v615 : Index := Scalar.indexCast v604
  ![v613.toNat, v614.toNat, v615.toNat]
def k0_off53 (i : grid0.Coords) : Fin 4 → Nat :=
  let c0_i32_222 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c96_i32 : BitVec 32 := 96#32
  let c0_i32_223 : BitVec 32 := 0#32
  ![0, v2.toNat, 96, 0]
def k0_off54 (i : grid0.Coords) : Fin 3 → Nat :=
  let c0_i32_226 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c28672_i32 : BitVec 32 := 28672#32
  ![0, v2.toNat, 28672]
@[reducible] def k0_t14_loop : Scf.Loop 32 :=
  let c0_i32_236 : BitVec 32 := 0#32
  let c1024_i32_237 : BitVec 32 := 1024#32
  let v232 : BitVec 32 := Scalar.addi c0_i32_236 c1024_i32_237
  let c1_i32_238 : BitVec 32 := 1#32
  ⟨c0_i32_236, v232, c1_i32_238⟩
def k0_mult27 (k0_t14 : Fin k0_t14_loop.trips) : BitVec 32 :=
  let c0_i32_577 : BitVec 32 := 0#32
  let c0_i32_236 : BitVec 32 := 0#32
  let c1_i32_238 : BitVec 32 := 1#32
  let arg12 : BitVec 32 := Scf.iv c0_i32_236 c1_i32_238 k0_t14
  let c16_i32_576 : BitVec 32 := 16#32
  let v547 : BitVec 32 := Scalar.muli arg12 c16_i32_576
  let v548 : BitVec 32 := Scalar.addi c0_i32_577 v547
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  v575
def k0_mult28 (k0_t14 : Fin k0_t14_loop.trips) : BitVec 32 :=
  let c0_i32_577 : BitVec 32 := 0#32
  let c0_i32_236 : BitVec 32 := 0#32
  let c1_i32_238 : BitVec 32 := 1#32
  let arg12 : BitVec 32 := Scf.iv c0_i32_236 c1_i32_238 k0_t14
  let c16_i32_576 : BitVec 32 := 16#32
  let v547 : BitVec 32 := Scalar.muli arg12 c16_i32_576
  let v548 : BitVec 32 := Scalar.addi c0_i32_577 v547
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  let v576 : BitVec 32 := v575
  let c256_i32_597 : BitVec 32 := 256#32
  let c0_i32_598 : BitVec 32 := 0#32
  let v594 : BitVec 1 := Scalar.cmpi .eq c256_i32_597 c0_i32_598
  let c1_i32_599 : BitVec 32 := 1#32
  let v595 : BitVec 32 := Scalar.select v594 c1_i32_599 c256_i32_597
  let v596 : BitVec 32 := Scalar.remsi v576 v595
  let c0_i32_601 : BitVec 32 := 0#32
  let v598 : BitVec 1 := Scalar.cmpi .slt v596 c0_i32_601
  let c0_i32_602 : BitVec 32 := 0#32
  let v599 : BitVec 1 := Scalar.cmpi .slt v595 c0_i32_602
  let v600 : BitVec 1 := Scalar.xori v598 v599
  let c0_i32_600 : BitVec 32 := 0#32
  let v597 : BitVec 1 := Scalar.cmpi .ne v596 c0_i32_600
  let v601 : BitVec 1 := Scalar.andi v600 v597
  let v602 : BitVec 32 := Scalar.addi v596 v595
  let v603 : BitVec 32 := Scalar.select v601 v602 v596
  v603
def k0_off55 (k0_t14 : Fin k0_t14_loop.trips) : Fin 2 → Nat :=
  let c0_i32_577 : BitVec 32 := 0#32
  let c0_i32_236 : BitVec 32 := 0#32
  let c1_i32_238 : BitVec 32 := 1#32
  let arg12 : BitVec 32 := Scf.iv c0_i32_236 c1_i32_238 k0_t14
  let c16_i32_576 : BitVec 32 := 16#32
  let v547 : BitVec 32 := Scalar.muli arg12 c16_i32_576
  let v548 : BitVec 32 := Scalar.addi c0_i32_577 v547
  let c0_i32_579 : BitVec 32 := 0#32
  let v550 : BitVec 1 := Scalar.cmpi .sgt v548 c0_i32_579
  let v551 : BitVec 32 := Scalar.extui v550
  let c0_i32_580 : BitVec 32 := 0#32
  let v552 : BitVec 1 := Scalar.cmpi .slt v548 c0_i32_580
  let v553 : BitVec 32 := Scalar.extui v552
  let v554 : BitVec 32 := Scalar.subi v551 v553
  let c2048_i32_578 : BitVec 32 := 2048#32
  let c0_i32_581 : BitVec 32 := 0#32
  let v555 : BitVec 1 := Scalar.cmpi .sgt c2048_i32_578 c0_i32_581
  let v556 : BitVec 32 := Scalar.extui v555
  let c0_i32_582 : BitVec 32 := 0#32
  let v557 : BitVec 1 := Scalar.cmpi .slt c2048_i32_578 c0_i32_582
  let v558 : BitVec 32 := Scalar.extui v557
  let v559 : BitVec 32 := Scalar.subi v556 v558
  let v560 : BitVec 1 := Scalar.cmpi .ne v554 v559
  let v561 : BitVec 32 := Scalar.remsi v548 c2048_i32_578
  let c0_i32_583 : BitVec 32 := 0#32
  let v562 : BitVec 1 := Scalar.cmpi .ne v561 c0_i32_583
  let v563 : BitVec 1 := Scalar.andi v560 v562
  let v549 : BitVec 32 := Scalar.divsi v548 c2048_i32_578
  let c1_i32_584 : BitVec 32 := 1#32
  let v564 : BitVec 32 := Scalar.subi v549 c1_i32_584
  let v565 : BitVec 32 := Scalar.select v563 v564 v549
  let v605 : Index := Scalar.indexCast v565
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  let v576 : BitVec 32 := v575
  let v606 : Index := Scalar.indexCast v576
  ![v605.toNat, v606.toNat]
def k0_off56 (k0_t14 : Fin k0_t14_loop.trips) : Fin 3 → Nat :=
  let c0_i32_577 : BitVec 32 := 0#32
  let c0_i32_236 : BitVec 32 := 0#32
  let c1_i32_238 : BitVec 32 := 1#32
  let arg12 : BitVec 32 := Scf.iv c0_i32_236 c1_i32_238 k0_t14
  let c16_i32_576 : BitVec 32 := 16#32
  let v547 : BitVec 32 := Scalar.muli arg12 c16_i32_576
  let v548 : BitVec 32 := Scalar.addi c0_i32_577 v547
  let c0_i32_579 : BitVec 32 := 0#32
  let v550 : BitVec 1 := Scalar.cmpi .sgt v548 c0_i32_579
  let v551 : BitVec 32 := Scalar.extui v550
  let c0_i32_580 : BitVec 32 := 0#32
  let v552 : BitVec 1 := Scalar.cmpi .slt v548 c0_i32_580
  let v553 : BitVec 32 := Scalar.extui v552
  let v554 : BitVec 32 := Scalar.subi v551 v553
  let c2048_i32_578 : BitVec 32 := 2048#32
  let c0_i32_581 : BitVec 32 := 0#32
  let v555 : BitVec 1 := Scalar.cmpi .sgt c2048_i32_578 c0_i32_581
  let v556 : BitVec 32 := Scalar.extui v555
  let c0_i32_582 : BitVec 32 := 0#32
  let v557 : BitVec 1 := Scalar.cmpi .slt c2048_i32_578 c0_i32_582
  let v558 : BitVec 32 := Scalar.extui v557
  let v559 : BitVec 32 := Scalar.subi v556 v558
  let v560 : BitVec 1 := Scalar.cmpi .ne v554 v559
  let v561 : BitVec 32 := Scalar.remsi v548 c2048_i32_578
  let c0_i32_583 : BitVec 32 := 0#32
  let v562 : BitVec 1 := Scalar.cmpi .ne v561 c0_i32_583
  let v563 : BitVec 1 := Scalar.andi v560 v562
  let v549 : BitVec 32 := Scalar.divsi v548 c2048_i32_578
  let c1_i32_584 : BitVec 32 := 1#32
  let v564 : BitVec 32 := Scalar.subi v549 c1_i32_584
  let v565 : BitVec 32 := Scalar.select v563 v564 v549
  let v613 : Index := Scalar.indexCast v565
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  let v576 : BitVec 32 := v575
  let c0_i32_591 : BitVec 32 := 0#32
  let v578 : BitVec 1 := Scalar.cmpi .sgt v576 c0_i32_591
  let v579 : BitVec 32 := Scalar.extui v578
  let c0_i32_592 : BitVec 32 := 0#32
  let v580 : BitVec 1 := Scalar.cmpi .slt v576 c0_i32_592
  let v581 : BitVec 32 := Scalar.extui v580
  let v582 : BitVec 32 := Scalar.subi v579 v581
  let c256_i32 : BitVec 32 := 256#32
  let c0_i32_593 : BitVec 32 := 0#32
  let v583 : BitVec 1 := Scalar.cmpi .sgt c256_i32 c0_i32_593
  let v584 : BitVec 32 := Scalar.extui v583
  let c0_i32_594 : BitVec 32 := 0#32
  let v585 : BitVec 1 := Scalar.cmpi .slt c256_i32 c0_i32_594
  let v586 : BitVec 32 := Scalar.extui v585
  let v587 : BitVec 32 := Scalar.subi v584 v586
  let v588 : BitVec 1 := Scalar.cmpi .ne v582 v587
  let v589 : BitVec 32 := Scalar.remsi v576 c256_i32
  let c0_i32_595 : BitVec 32 := 0#32
  let v590 : BitVec 1 := Scalar.cmpi .ne v589 c0_i32_595
  let v591 : BitVec 1 := Scalar.andi v588 v590
  let v577 : BitVec 32 := Scalar.divsi v576 c256_i32
  let c1_i32_596 : BitVec 32 := 1#32
  let v592 : BitVec 32 := Scalar.subi v577 c1_i32_596
  let v593 : BitVec 32 := Scalar.select v591 v592 v577
  let v614 : Index := Scalar.indexCast v593
  let c256_i32_597 : BitVec 32 := 256#32
  let c0_i32_598 : BitVec 32 := 0#32
  let v594 : BitVec 1 := Scalar.cmpi .eq c256_i32_597 c0_i32_598
  let c1_i32_599 : BitVec 32 := 1#32
  let v595 : BitVec 32 := Scalar.select v594 c1_i32_599 c256_i32_597
  let v596 : BitVec 32 := Scalar.remsi v576 v595
  let c0_i32_601 : BitVec 32 := 0#32
  let v598 : BitVec 1 := Scalar.cmpi .slt v596 c0_i32_601
  let c0_i32_602 : BitVec 32 := 0#32
  let v599 : BitVec 1 := Scalar.cmpi .slt v595 c0_i32_602
  let v600 : BitVec 1 := Scalar.xori v598 v599
  let c0_i32_600 : BitVec 32 := 0#32
  let v597 : BitVec 1 := Scalar.cmpi .ne v596 c0_i32_600
  let v601 : BitVec 1 := Scalar.andi v600 v597
  let v602 : BitVec 32 := Scalar.addi v596 v595
  let v603 : BitVec 32 := Scalar.select v601 v602 v596
  let v604 : BitVec 32 := v603
  let v615 : Index := Scalar.indexCast v604
  ![v613.toNat, v614.toNat, v615.toNat]
def k0_off57 (i : grid0.Coords) : Fin 4 → Nat :=
  let c0_i32_240 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c104_i32 : BitVec 32 := 104#32
  let c0_i32_241 : BitVec 32 := 0#32
  ![0, v2.toNat, 104, 0]
def k0_off58 (i : grid0.Coords) : Fin 3 → Nat :=
  let c0_i32_244 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c30720_i32 : BitVec 32 := 30720#32
  ![0, v2.toNat, 30720]
@[reducible] def k0_t15_loop : Scf.Loop 32 :=
  let c0_i32_254 : BitVec 32 := 0#32
  let c1024_i32_255 : BitVec 32 := 1024#32
  let v249 : BitVec 32 := Scalar.addi c0_i32_254 c1024_i32_255
  let c1_i32_256 : BitVec 32 := 1#32
  ⟨c0_i32_254, v249, c1_i32_256⟩
def k0_mult29 (k0_t15 : Fin k0_t15_loop.trips) : BitVec 32 :=
  let c0_i32_577 : BitVec 32 := 0#32
  let c0_i32_254 : BitVec 32 := 0#32
  let c1_i32_256 : BitVec 32 := 1#32
  let arg12 : BitVec 32 := Scf.iv c0_i32_254 c1_i32_256 k0_t15
  let c16_i32_576 : BitVec 32 := 16#32
  let v547 : BitVec 32 := Scalar.muli arg12 c16_i32_576
  let v548 : BitVec 32 := Scalar.addi c0_i32_577 v547
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  v575
def k0_mult30 (k0_t15 : Fin k0_t15_loop.trips) : BitVec 32 :=
  let c0_i32_577 : BitVec 32 := 0#32
  let c0_i32_254 : BitVec 32 := 0#32
  let c1_i32_256 : BitVec 32 := 1#32
  let arg12 : BitVec 32 := Scf.iv c0_i32_254 c1_i32_256 k0_t15
  let c16_i32_576 : BitVec 32 := 16#32
  let v547 : BitVec 32 := Scalar.muli arg12 c16_i32_576
  let v548 : BitVec 32 := Scalar.addi c0_i32_577 v547
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  let v576 : BitVec 32 := v575
  let c256_i32_597 : BitVec 32 := 256#32
  let c0_i32_598 : BitVec 32 := 0#32
  let v594 : BitVec 1 := Scalar.cmpi .eq c256_i32_597 c0_i32_598
  let c1_i32_599 : BitVec 32 := 1#32
  let v595 : BitVec 32 := Scalar.select v594 c1_i32_599 c256_i32_597
  let v596 : BitVec 32 := Scalar.remsi v576 v595
  let c0_i32_601 : BitVec 32 := 0#32
  let v598 : BitVec 1 := Scalar.cmpi .slt v596 c0_i32_601
  let c0_i32_602 : BitVec 32 := 0#32
  let v599 : BitVec 1 := Scalar.cmpi .slt v595 c0_i32_602
  let v600 : BitVec 1 := Scalar.xori v598 v599
  let c0_i32_600 : BitVec 32 := 0#32
  let v597 : BitVec 1 := Scalar.cmpi .ne v596 c0_i32_600
  let v601 : BitVec 1 := Scalar.andi v600 v597
  let v602 : BitVec 32 := Scalar.addi v596 v595
  let v603 : BitVec 32 := Scalar.select v601 v602 v596
  v603
def k0_off59 (k0_t15 : Fin k0_t15_loop.trips) : Fin 2 → Nat :=
  let c0_i32_577 : BitVec 32 := 0#32
  let c0_i32_254 : BitVec 32 := 0#32
  let c1_i32_256 : BitVec 32 := 1#32
  let arg12 : BitVec 32 := Scf.iv c0_i32_254 c1_i32_256 k0_t15
  let c16_i32_576 : BitVec 32 := 16#32
  let v547 : BitVec 32 := Scalar.muli arg12 c16_i32_576
  let v548 : BitVec 32 := Scalar.addi c0_i32_577 v547
  let c0_i32_579 : BitVec 32 := 0#32
  let v550 : BitVec 1 := Scalar.cmpi .sgt v548 c0_i32_579
  let v551 : BitVec 32 := Scalar.extui v550
  let c0_i32_580 : BitVec 32 := 0#32
  let v552 : BitVec 1 := Scalar.cmpi .slt v548 c0_i32_580
  let v553 : BitVec 32 := Scalar.extui v552
  let v554 : BitVec 32 := Scalar.subi v551 v553
  let c2048_i32_578 : BitVec 32 := 2048#32
  let c0_i32_581 : BitVec 32 := 0#32
  let v555 : BitVec 1 := Scalar.cmpi .sgt c2048_i32_578 c0_i32_581
  let v556 : BitVec 32 := Scalar.extui v555
  let c0_i32_582 : BitVec 32 := 0#32
  let v557 : BitVec 1 := Scalar.cmpi .slt c2048_i32_578 c0_i32_582
  let v558 : BitVec 32 := Scalar.extui v557
  let v559 : BitVec 32 := Scalar.subi v556 v558
  let v560 : BitVec 1 := Scalar.cmpi .ne v554 v559
  let v561 : BitVec 32 := Scalar.remsi v548 c2048_i32_578
  let c0_i32_583 : BitVec 32 := 0#32
  let v562 : BitVec 1 := Scalar.cmpi .ne v561 c0_i32_583
  let v563 : BitVec 1 := Scalar.andi v560 v562
  let v549 : BitVec 32 := Scalar.divsi v548 c2048_i32_578
  let c1_i32_584 : BitVec 32 := 1#32
  let v564 : BitVec 32 := Scalar.subi v549 c1_i32_584
  let v565 : BitVec 32 := Scalar.select v563 v564 v549
  let v605 : Index := Scalar.indexCast v565
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  let v576 : BitVec 32 := v575
  let v606 : Index := Scalar.indexCast v576
  ![v605.toNat, v606.toNat]
def k0_off60 (k0_t15 : Fin k0_t15_loop.trips) : Fin 3 → Nat :=
  let c0_i32_577 : BitVec 32 := 0#32
  let c0_i32_254 : BitVec 32 := 0#32
  let c1_i32_256 : BitVec 32 := 1#32
  let arg12 : BitVec 32 := Scf.iv c0_i32_254 c1_i32_256 k0_t15
  let c16_i32_576 : BitVec 32 := 16#32
  let v547 : BitVec 32 := Scalar.muli arg12 c16_i32_576
  let v548 : BitVec 32 := Scalar.addi c0_i32_577 v547
  let c0_i32_579 : BitVec 32 := 0#32
  let v550 : BitVec 1 := Scalar.cmpi .sgt v548 c0_i32_579
  let v551 : BitVec 32 := Scalar.extui v550
  let c0_i32_580 : BitVec 32 := 0#32
  let v552 : BitVec 1 := Scalar.cmpi .slt v548 c0_i32_580
  let v553 : BitVec 32 := Scalar.extui v552
  let v554 : BitVec 32 := Scalar.subi v551 v553
  let c2048_i32_578 : BitVec 32 := 2048#32
  let c0_i32_581 : BitVec 32 := 0#32
  let v555 : BitVec 1 := Scalar.cmpi .sgt c2048_i32_578 c0_i32_581
  let v556 : BitVec 32 := Scalar.extui v555
  let c0_i32_582 : BitVec 32 := 0#32
  let v557 : BitVec 1 := Scalar.cmpi .slt c2048_i32_578 c0_i32_582
  let v558 : BitVec 32 := Scalar.extui v557
  let v559 : BitVec 32 := Scalar.subi v556 v558
  let v560 : BitVec 1 := Scalar.cmpi .ne v554 v559
  let v561 : BitVec 32 := Scalar.remsi v548 c2048_i32_578
  let c0_i32_583 : BitVec 32 := 0#32
  let v562 : BitVec 1 := Scalar.cmpi .ne v561 c0_i32_583
  let v563 : BitVec 1 := Scalar.andi v560 v562
  let v549 : BitVec 32 := Scalar.divsi v548 c2048_i32_578
  let c1_i32_584 : BitVec 32 := 1#32
  let v564 : BitVec 32 := Scalar.subi v549 c1_i32_584
  let v565 : BitVec 32 := Scalar.select v563 v564 v549
  let v613 : Index := Scalar.indexCast v565
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  let v576 : BitVec 32 := v575
  let c0_i32_591 : BitVec 32 := 0#32
  let v578 : BitVec 1 := Scalar.cmpi .sgt v576 c0_i32_591
  let v579 : BitVec 32 := Scalar.extui v578
  let c0_i32_592 : BitVec 32 := 0#32
  let v580 : BitVec 1 := Scalar.cmpi .slt v576 c0_i32_592
  let v581 : BitVec 32 := Scalar.extui v580
  let v582 : BitVec 32 := Scalar.subi v579 v581
  let c256_i32 : BitVec 32 := 256#32
  let c0_i32_593 : BitVec 32 := 0#32
  let v583 : BitVec 1 := Scalar.cmpi .sgt c256_i32 c0_i32_593
  let v584 : BitVec 32 := Scalar.extui v583
  let c0_i32_594 : BitVec 32 := 0#32
  let v585 : BitVec 1 := Scalar.cmpi .slt c256_i32 c0_i32_594
  let v586 : BitVec 32 := Scalar.extui v585
  let v587 : BitVec 32 := Scalar.subi v584 v586
  let v588 : BitVec 1 := Scalar.cmpi .ne v582 v587
  let v589 : BitVec 32 := Scalar.remsi v576 c256_i32
  let c0_i32_595 : BitVec 32 := 0#32
  let v590 : BitVec 1 := Scalar.cmpi .ne v589 c0_i32_595
  let v591 : BitVec 1 := Scalar.andi v588 v590
  let v577 : BitVec 32 := Scalar.divsi v576 c256_i32
  let c1_i32_596 : BitVec 32 := 1#32
  let v592 : BitVec 32 := Scalar.subi v577 c1_i32_596
  let v593 : BitVec 32 := Scalar.select v591 v592 v577
  let v614 : Index := Scalar.indexCast v593
  let c256_i32_597 : BitVec 32 := 256#32
  let c0_i32_598 : BitVec 32 := 0#32
  let v594 : BitVec 1 := Scalar.cmpi .eq c256_i32_597 c0_i32_598
  let c1_i32_599 : BitVec 32 := 1#32
  let v595 : BitVec 32 := Scalar.select v594 c1_i32_599 c256_i32_597
  let v596 : BitVec 32 := Scalar.remsi v576 v595
  let c0_i32_601 : BitVec 32 := 0#32
  let v598 : BitVec 1 := Scalar.cmpi .slt v596 c0_i32_601
  let c0_i32_602 : BitVec 32 := 0#32
  let v599 : BitVec 1 := Scalar.cmpi .slt v595 c0_i32_602
  let v600 : BitVec 1 := Scalar.xori v598 v599
  let c0_i32_600 : BitVec 32 := 0#32
  let v597 : BitVec 1 := Scalar.cmpi .ne v596 c0_i32_600
  let v601 : BitVec 1 := Scalar.andi v600 v597
  let v602 : BitVec 32 := Scalar.addi v596 v595
  let v603 : BitVec 32 := Scalar.select v601 v602 v596
  let v604 : BitVec 32 := v603
  let v615 : Index := Scalar.indexCast v604
  ![v613.toNat, v614.toNat, v615.toNat]
def k0_off61 (i : grid0.Coords) : Fin 4 → Nat :=
  let c0_i32_258 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c112_i32 : BitVec 32 := 112#32
  let c0_i32_259 : BitVec 32 := 0#32
  ![0, v2.toNat, 112, 0]
def k0_off62 (i : grid0.Coords) : Fin 3 → Nat :=
  let c0_i32_262 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c32768_i32 : BitVec 32 := 32768#32
  ![0, v2.toNat, 32768]
@[reducible] def k0_t16_loop : Scf.Loop 32 :=
  let c0_i32_272 : BitVec 32 := 0#32
  let c1024_i32_273 : BitVec 32 := 1024#32
  let v266 : BitVec 32 := Scalar.addi c0_i32_272 c1024_i32_273
  let c1_i32_274 : BitVec 32 := 1#32
  ⟨c0_i32_272, v266, c1_i32_274⟩
def k0_mult31 (k0_t16 : Fin k0_t16_loop.trips) : BitVec 32 :=
  let c0_i32_577 : BitVec 32 := 0#32
  let c0_i32_272 : BitVec 32 := 0#32
  let c1_i32_274 : BitVec 32 := 1#32
  let arg12 : BitVec 32 := Scf.iv c0_i32_272 c1_i32_274 k0_t16
  let c16_i32_576 : BitVec 32 := 16#32
  let v547 : BitVec 32 := Scalar.muli arg12 c16_i32_576
  let v548 : BitVec 32 := Scalar.addi c0_i32_577 v547
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  v575
def k0_mult32 (k0_t16 : Fin k0_t16_loop.trips) : BitVec 32 :=
  let c0_i32_577 : BitVec 32 := 0#32
  let c0_i32_272 : BitVec 32 := 0#32
  let c1_i32_274 : BitVec 32 := 1#32
  let arg12 : BitVec 32 := Scf.iv c0_i32_272 c1_i32_274 k0_t16
  let c16_i32_576 : BitVec 32 := 16#32
  let v547 : BitVec 32 := Scalar.muli arg12 c16_i32_576
  let v548 : BitVec 32 := Scalar.addi c0_i32_577 v547
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  let v576 : BitVec 32 := v575
  let c256_i32_597 : BitVec 32 := 256#32
  let c0_i32_598 : BitVec 32 := 0#32
  let v594 : BitVec 1 := Scalar.cmpi .eq c256_i32_597 c0_i32_598
  let c1_i32_599 : BitVec 32 := 1#32
  let v595 : BitVec 32 := Scalar.select v594 c1_i32_599 c256_i32_597
  let v596 : BitVec 32 := Scalar.remsi v576 v595
  let c0_i32_601 : BitVec 32 := 0#32
  let v598 : BitVec 1 := Scalar.cmpi .slt v596 c0_i32_601
  let c0_i32_602 : BitVec 32 := 0#32
  let v599 : BitVec 1 := Scalar.cmpi .slt v595 c0_i32_602
  let v600 : BitVec 1 := Scalar.xori v598 v599
  let c0_i32_600 : BitVec 32 := 0#32
  let v597 : BitVec 1 := Scalar.cmpi .ne v596 c0_i32_600
  let v601 : BitVec 1 := Scalar.andi v600 v597
  let v602 : BitVec 32 := Scalar.addi v596 v595
  let v603 : BitVec 32 := Scalar.select v601 v602 v596
  v603
def k0_off63 (k0_t16 : Fin k0_t16_loop.trips) : Fin 2 → Nat :=
  let c0_i32_577 : BitVec 32 := 0#32
  let c0_i32_272 : BitVec 32 := 0#32
  let c1_i32_274 : BitVec 32 := 1#32
  let arg12 : BitVec 32 := Scf.iv c0_i32_272 c1_i32_274 k0_t16
  let c16_i32_576 : BitVec 32 := 16#32
  let v547 : BitVec 32 := Scalar.muli arg12 c16_i32_576
  let v548 : BitVec 32 := Scalar.addi c0_i32_577 v547
  let c0_i32_579 : BitVec 32 := 0#32
  let v550 : BitVec 1 := Scalar.cmpi .sgt v548 c0_i32_579
  let v551 : BitVec 32 := Scalar.extui v550
  let c0_i32_580 : BitVec 32 := 0#32
  let v552 : BitVec 1 := Scalar.cmpi .slt v548 c0_i32_580
  let v553 : BitVec 32 := Scalar.extui v552
  let v554 : BitVec 32 := Scalar.subi v551 v553
  let c2048_i32_578 : BitVec 32 := 2048#32
  let c0_i32_581 : BitVec 32 := 0#32
  let v555 : BitVec 1 := Scalar.cmpi .sgt c2048_i32_578 c0_i32_581
  let v556 : BitVec 32 := Scalar.extui v555
  let c0_i32_582 : BitVec 32 := 0#32
  let v557 : BitVec 1 := Scalar.cmpi .slt c2048_i32_578 c0_i32_582
  let v558 : BitVec 32 := Scalar.extui v557
  let v559 : BitVec 32 := Scalar.subi v556 v558
  let v560 : BitVec 1 := Scalar.cmpi .ne v554 v559
  let v561 : BitVec 32 := Scalar.remsi v548 c2048_i32_578
  let c0_i32_583 : BitVec 32 := 0#32
  let v562 : BitVec 1 := Scalar.cmpi .ne v561 c0_i32_583
  let v563 : BitVec 1 := Scalar.andi v560 v562
  let v549 : BitVec 32 := Scalar.divsi v548 c2048_i32_578
  let c1_i32_584 : BitVec 32 := 1#32
  let v564 : BitVec 32 := Scalar.subi v549 c1_i32_584
  let v565 : BitVec 32 := Scalar.select v563 v564 v549
  let v605 : Index := Scalar.indexCast v565
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  let v576 : BitVec 32 := v575
  let v606 : Index := Scalar.indexCast v576
  ![v605.toNat, v606.toNat]
def k0_off64 (k0_t16 : Fin k0_t16_loop.trips) : Fin 3 → Nat :=
  let c0_i32_577 : BitVec 32 := 0#32
  let c0_i32_272 : BitVec 32 := 0#32
  let c1_i32_274 : BitVec 32 := 1#32
  let arg12 : BitVec 32 := Scf.iv c0_i32_272 c1_i32_274 k0_t16
  let c16_i32_576 : BitVec 32 := 16#32
  let v547 : BitVec 32 := Scalar.muli arg12 c16_i32_576
  let v548 : BitVec 32 := Scalar.addi c0_i32_577 v547
  let c0_i32_579 : BitVec 32 := 0#32
  let v550 : BitVec 1 := Scalar.cmpi .sgt v548 c0_i32_579
  let v551 : BitVec 32 := Scalar.extui v550
  let c0_i32_580 : BitVec 32 := 0#32
  let v552 : BitVec 1 := Scalar.cmpi .slt v548 c0_i32_580
  let v553 : BitVec 32 := Scalar.extui v552
  let v554 : BitVec 32 := Scalar.subi v551 v553
  let c2048_i32_578 : BitVec 32 := 2048#32
  let c0_i32_581 : BitVec 32 := 0#32
  let v555 : BitVec 1 := Scalar.cmpi .sgt c2048_i32_578 c0_i32_581
  let v556 : BitVec 32 := Scalar.extui v555
  let c0_i32_582 : BitVec 32 := 0#32
  let v557 : BitVec 1 := Scalar.cmpi .slt c2048_i32_578 c0_i32_582
  let v558 : BitVec 32 := Scalar.extui v557
  let v559 : BitVec 32 := Scalar.subi v556 v558
  let v560 : BitVec 1 := Scalar.cmpi .ne v554 v559
  let v561 : BitVec 32 := Scalar.remsi v548 c2048_i32_578
  let c0_i32_583 : BitVec 32 := 0#32
  let v562 : BitVec 1 := Scalar.cmpi .ne v561 c0_i32_583
  let v563 : BitVec 1 := Scalar.andi v560 v562
  let v549 : BitVec 32 := Scalar.divsi v548 c2048_i32_578
  let c1_i32_584 : BitVec 32 := 1#32
  let v564 : BitVec 32 := Scalar.subi v549 c1_i32_584
  let v565 : BitVec 32 := Scalar.select v563 v564 v549
  let v613 : Index := Scalar.indexCast v565
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  let v576 : BitVec 32 := v575
  let c0_i32_591 : BitVec 32 := 0#32
  let v578 : BitVec 1 := Scalar.cmpi .sgt v576 c0_i32_591
  let v579 : BitVec 32 := Scalar.extui v578
  let c0_i32_592 : BitVec 32 := 0#32
  let v580 : BitVec 1 := Scalar.cmpi .slt v576 c0_i32_592
  let v581 : BitVec 32 := Scalar.extui v580
  let v582 : BitVec 32 := Scalar.subi v579 v581
  let c256_i32 : BitVec 32 := 256#32
  let c0_i32_593 : BitVec 32 := 0#32
  let v583 : BitVec 1 := Scalar.cmpi .sgt c256_i32 c0_i32_593
  let v584 : BitVec 32 := Scalar.extui v583
  let c0_i32_594 : BitVec 32 := 0#32
  let v585 : BitVec 1 := Scalar.cmpi .slt c256_i32 c0_i32_594
  let v586 : BitVec 32 := Scalar.extui v585
  let v587 : BitVec 32 := Scalar.subi v584 v586
  let v588 : BitVec 1 := Scalar.cmpi .ne v582 v587
  let v589 : BitVec 32 := Scalar.remsi v576 c256_i32
  let c0_i32_595 : BitVec 32 := 0#32
  let v590 : BitVec 1 := Scalar.cmpi .ne v589 c0_i32_595
  let v591 : BitVec 1 := Scalar.andi v588 v590
  let v577 : BitVec 32 := Scalar.divsi v576 c256_i32
  let c1_i32_596 : BitVec 32 := 1#32
  let v592 : BitVec 32 := Scalar.subi v577 c1_i32_596
  let v593 : BitVec 32 := Scalar.select v591 v592 v577
  let v614 : Index := Scalar.indexCast v593
  let c256_i32_597 : BitVec 32 := 256#32
  let c0_i32_598 : BitVec 32 := 0#32
  let v594 : BitVec 1 := Scalar.cmpi .eq c256_i32_597 c0_i32_598
  let c1_i32_599 : BitVec 32 := 1#32
  let v595 : BitVec 32 := Scalar.select v594 c1_i32_599 c256_i32_597
  let v596 : BitVec 32 := Scalar.remsi v576 v595
  let c0_i32_601 : BitVec 32 := 0#32
  let v598 : BitVec 1 := Scalar.cmpi .slt v596 c0_i32_601
  let c0_i32_602 : BitVec 32 := 0#32
  let v599 : BitVec 1 := Scalar.cmpi .slt v595 c0_i32_602
  let v600 : BitVec 1 := Scalar.xori v598 v599
  let c0_i32_600 : BitVec 32 := 0#32
  let v597 : BitVec 1 := Scalar.cmpi .ne v596 c0_i32_600
  let v601 : BitVec 1 := Scalar.andi v600 v597
  let v602 : BitVec 32 := Scalar.addi v596 v595
  let v603 : BitVec 32 := Scalar.select v601 v602 v596
  let v604 : BitVec 32 := v603
  let v615 : Index := Scalar.indexCast v604
  ![v613.toNat, v614.toNat, v615.toNat]
def k0_off65 (i : grid0.Coords) : Fin 4 → Nat :=
  let c0_i32_276 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c120_i32 : BitVec 32 := 120#32
  let c0_i32_277 : BitVec 32 := 0#32
  ![0, v2.toNat, 120, 0]
def k0_off66 (i : grid0.Coords) : Fin 3 → Nat :=
  let c0_i32_280 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c34816_i32 : BitVec 32 := 34816#32
  ![0, v2.toNat, 34816]
@[reducible] def k0_t17_loop : Scf.Loop 32 :=
  let c0_i32_290 : BitVec 32 := 0#32
  let c1024_i32_291 : BitVec 32 := 1024#32
  let v283 : BitVec 32 := Scalar.addi c0_i32_290 c1024_i32_291
  let c1_i32_292 : BitVec 32 := 1#32
  ⟨c0_i32_290, v283, c1_i32_292⟩
def k0_mult33 (k0_t17 : Fin k0_t17_loop.trips) : BitVec 32 :=
  let c0_i32_577 : BitVec 32 := 0#32
  let c0_i32_290 : BitVec 32 := 0#32
  let c1_i32_292 : BitVec 32 := 1#32
  let arg12 : BitVec 32 := Scf.iv c0_i32_290 c1_i32_292 k0_t17
  let c16_i32_576 : BitVec 32 := 16#32
  let v547 : BitVec 32 := Scalar.muli arg12 c16_i32_576
  let v548 : BitVec 32 := Scalar.addi c0_i32_577 v547
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  v575
def k0_mult34 (k0_t17 : Fin k0_t17_loop.trips) : BitVec 32 :=
  let c0_i32_577 : BitVec 32 := 0#32
  let c0_i32_290 : BitVec 32 := 0#32
  let c1_i32_292 : BitVec 32 := 1#32
  let arg12 : BitVec 32 := Scf.iv c0_i32_290 c1_i32_292 k0_t17
  let c16_i32_576 : BitVec 32 := 16#32
  let v547 : BitVec 32 := Scalar.muli arg12 c16_i32_576
  let v548 : BitVec 32 := Scalar.addi c0_i32_577 v547
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  let v576 : BitVec 32 := v575
  let c256_i32_597 : BitVec 32 := 256#32
  let c0_i32_598 : BitVec 32 := 0#32
  let v594 : BitVec 1 := Scalar.cmpi .eq c256_i32_597 c0_i32_598
  let c1_i32_599 : BitVec 32 := 1#32
  let v595 : BitVec 32 := Scalar.select v594 c1_i32_599 c256_i32_597
  let v596 : BitVec 32 := Scalar.remsi v576 v595
  let c0_i32_601 : BitVec 32 := 0#32
  let v598 : BitVec 1 := Scalar.cmpi .slt v596 c0_i32_601
  let c0_i32_602 : BitVec 32 := 0#32
  let v599 : BitVec 1 := Scalar.cmpi .slt v595 c0_i32_602
  let v600 : BitVec 1 := Scalar.xori v598 v599
  let c0_i32_600 : BitVec 32 := 0#32
  let v597 : BitVec 1 := Scalar.cmpi .ne v596 c0_i32_600
  let v601 : BitVec 1 := Scalar.andi v600 v597
  let v602 : BitVec 32 := Scalar.addi v596 v595
  let v603 : BitVec 32 := Scalar.select v601 v602 v596
  v603
def k0_off67 (k0_t17 : Fin k0_t17_loop.trips) : Fin 2 → Nat :=
  let c0_i32_577 : BitVec 32 := 0#32
  let c0_i32_290 : BitVec 32 := 0#32
  let c1_i32_292 : BitVec 32 := 1#32
  let arg12 : BitVec 32 := Scf.iv c0_i32_290 c1_i32_292 k0_t17
  let c16_i32_576 : BitVec 32 := 16#32
  let v547 : BitVec 32 := Scalar.muli arg12 c16_i32_576
  let v548 : BitVec 32 := Scalar.addi c0_i32_577 v547
  let c0_i32_579 : BitVec 32 := 0#32
  let v550 : BitVec 1 := Scalar.cmpi .sgt v548 c0_i32_579
  let v551 : BitVec 32 := Scalar.extui v550
  let c0_i32_580 : BitVec 32 := 0#32
  let v552 : BitVec 1 := Scalar.cmpi .slt v548 c0_i32_580
  let v553 : BitVec 32 := Scalar.extui v552
  let v554 : BitVec 32 := Scalar.subi v551 v553
  let c2048_i32_578 : BitVec 32 := 2048#32
  let c0_i32_581 : BitVec 32 := 0#32
  let v555 : BitVec 1 := Scalar.cmpi .sgt c2048_i32_578 c0_i32_581
  let v556 : BitVec 32 := Scalar.extui v555
  let c0_i32_582 : BitVec 32 := 0#32
  let v557 : BitVec 1 := Scalar.cmpi .slt c2048_i32_578 c0_i32_582
  let v558 : BitVec 32 := Scalar.extui v557
  let v559 : BitVec 32 := Scalar.subi v556 v558
  let v560 : BitVec 1 := Scalar.cmpi .ne v554 v559
  let v561 : BitVec 32 := Scalar.remsi v548 c2048_i32_578
  let c0_i32_583 : BitVec 32 := 0#32
  let v562 : BitVec 1 := Scalar.cmpi .ne v561 c0_i32_583
  let v563 : BitVec 1 := Scalar.andi v560 v562
  let v549 : BitVec 32 := Scalar.divsi v548 c2048_i32_578
  let c1_i32_584 : BitVec 32 := 1#32
  let v564 : BitVec 32 := Scalar.subi v549 c1_i32_584
  let v565 : BitVec 32 := Scalar.select v563 v564 v549
  let v605 : Index := Scalar.indexCast v565
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  let v576 : BitVec 32 := v575
  let v606 : Index := Scalar.indexCast v576
  ![v605.toNat, v606.toNat]
def k0_off68 (k0_t17 : Fin k0_t17_loop.trips) : Fin 3 → Nat :=
  let c0_i32_577 : BitVec 32 := 0#32
  let c0_i32_290 : BitVec 32 := 0#32
  let c1_i32_292 : BitVec 32 := 1#32
  let arg12 : BitVec 32 := Scf.iv c0_i32_290 c1_i32_292 k0_t17
  let c16_i32_576 : BitVec 32 := 16#32
  let v547 : BitVec 32 := Scalar.muli arg12 c16_i32_576
  let v548 : BitVec 32 := Scalar.addi c0_i32_577 v547
  let c0_i32_579 : BitVec 32 := 0#32
  let v550 : BitVec 1 := Scalar.cmpi .sgt v548 c0_i32_579
  let v551 : BitVec 32 := Scalar.extui v550
  let c0_i32_580 : BitVec 32 := 0#32
  let v552 : BitVec 1 := Scalar.cmpi .slt v548 c0_i32_580
  let v553 : BitVec 32 := Scalar.extui v552
  let v554 : BitVec 32 := Scalar.subi v551 v553
  let c2048_i32_578 : BitVec 32 := 2048#32
  let c0_i32_581 : BitVec 32 := 0#32
  let v555 : BitVec 1 := Scalar.cmpi .sgt c2048_i32_578 c0_i32_581
  let v556 : BitVec 32 := Scalar.extui v555
  let c0_i32_582 : BitVec 32 := 0#32
  let v557 : BitVec 1 := Scalar.cmpi .slt c2048_i32_578 c0_i32_582
  let v558 : BitVec 32 := Scalar.extui v557
  let v559 : BitVec 32 := Scalar.subi v556 v558
  let v560 : BitVec 1 := Scalar.cmpi .ne v554 v559
  let v561 : BitVec 32 := Scalar.remsi v548 c2048_i32_578
  let c0_i32_583 : BitVec 32 := 0#32
  let v562 : BitVec 1 := Scalar.cmpi .ne v561 c0_i32_583
  let v563 : BitVec 1 := Scalar.andi v560 v562
  let v549 : BitVec 32 := Scalar.divsi v548 c2048_i32_578
  let c1_i32_584 : BitVec 32 := 1#32
  let v564 : BitVec 32 := Scalar.subi v549 c1_i32_584
  let v565 : BitVec 32 := Scalar.select v563 v564 v549
  let v613 : Index := Scalar.indexCast v565
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  let v576 : BitVec 32 := v575
  let c0_i32_591 : BitVec 32 := 0#32
  let v578 : BitVec 1 := Scalar.cmpi .sgt v576 c0_i32_591
  let v579 : BitVec 32 := Scalar.extui v578
  let c0_i32_592 : BitVec 32 := 0#32
  let v580 : BitVec 1 := Scalar.cmpi .slt v576 c0_i32_592
  let v581 : BitVec 32 := Scalar.extui v580
  let v582 : BitVec 32 := Scalar.subi v579 v581
  let c256_i32 : BitVec 32 := 256#32
  let c0_i32_593 : BitVec 32 := 0#32
  let v583 : BitVec 1 := Scalar.cmpi .sgt c256_i32 c0_i32_593
  let v584 : BitVec 32 := Scalar.extui v583
  let c0_i32_594 : BitVec 32 := 0#32
  let v585 : BitVec 1 := Scalar.cmpi .slt c256_i32 c0_i32_594
  let v586 : BitVec 32 := Scalar.extui v585
  let v587 : BitVec 32 := Scalar.subi v584 v586
  let v588 : BitVec 1 := Scalar.cmpi .ne v582 v587
  let v589 : BitVec 32 := Scalar.remsi v576 c256_i32
  let c0_i32_595 : BitVec 32 := 0#32
  let v590 : BitVec 1 := Scalar.cmpi .ne v589 c0_i32_595
  let v591 : BitVec 1 := Scalar.andi v588 v590
  let v577 : BitVec 32 := Scalar.divsi v576 c256_i32
  let c1_i32_596 : BitVec 32 := 1#32
  let v592 : BitVec 32 := Scalar.subi v577 c1_i32_596
  let v593 : BitVec 32 := Scalar.select v591 v592 v577
  let v614 : Index := Scalar.indexCast v593
  let c256_i32_597 : BitVec 32 := 256#32
  let c0_i32_598 : BitVec 32 := 0#32
  let v594 : BitVec 1 := Scalar.cmpi .eq c256_i32_597 c0_i32_598
  let c1_i32_599 : BitVec 32 := 1#32
  let v595 : BitVec 32 := Scalar.select v594 c1_i32_599 c256_i32_597
  let v596 : BitVec 32 := Scalar.remsi v576 v595
  let c0_i32_601 : BitVec 32 := 0#32
  let v598 : BitVec 1 := Scalar.cmpi .slt v596 c0_i32_601
  let c0_i32_602 : BitVec 32 := 0#32
  let v599 : BitVec 1 := Scalar.cmpi .slt v595 c0_i32_602
  let v600 : BitVec 1 := Scalar.xori v598 v599
  let c0_i32_600 : BitVec 32 := 0#32
  let v597 : BitVec 1 := Scalar.cmpi .ne v596 c0_i32_600
  let v601 : BitVec 1 := Scalar.andi v600 v597
  let v602 : BitVec 32 := Scalar.addi v596 v595
  let v603 : BitVec 32 := Scalar.select v601 v602 v596
  let v604 : BitVec 32 := v603
  let v615 : Index := Scalar.indexCast v604
  ![v613.toNat, v614.toNat, v615.toNat]
def k0_off69 (i : grid0.Coords) : Fin 4 → Nat :=
  let c0_i32_294 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c128_i32 : BitVec 32 := 128#32
  let c0_i32_295 : BitVec 32 := 0#32
  ![0, v2.toNat, 128, 0]
def k0_off70 (i : grid0.Coords) : Fin 3 → Nat :=
  let c0_i32_298 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c36864_i32 : BitVec 32 := 36864#32
  ![0, v2.toNat, 36864]
@[reducible] def k0_t18_loop : Scf.Loop 32 :=
  let c0_i32_308 : BitVec 32 := 0#32
  let c1024_i32_309 : BitVec 32 := 1024#32
  let v300 : BitVec 32 := Scalar.addi c0_i32_308 c1024_i32_309
  let c1_i32_310 : BitVec 32 := 1#32
  ⟨c0_i32_308, v300, c1_i32_310⟩
def k0_mult35 (k0_t18 : Fin k0_t18_loop.trips) : BitVec 32 :=
  let c0_i32_577 : BitVec 32 := 0#32
  let c0_i32_308 : BitVec 32 := 0#32
  let c1_i32_310 : BitVec 32 := 1#32
  let arg12 : BitVec 32 := Scf.iv c0_i32_308 c1_i32_310 k0_t18
  let c16_i32_576 : BitVec 32 := 16#32
  let v547 : BitVec 32 := Scalar.muli arg12 c16_i32_576
  let v548 : BitVec 32 := Scalar.addi c0_i32_577 v547
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  v575
def k0_mult36 (k0_t18 : Fin k0_t18_loop.trips) : BitVec 32 :=
  let c0_i32_577 : BitVec 32 := 0#32
  let c0_i32_308 : BitVec 32 := 0#32
  let c1_i32_310 : BitVec 32 := 1#32
  let arg12 : BitVec 32 := Scf.iv c0_i32_308 c1_i32_310 k0_t18
  let c16_i32_576 : BitVec 32 := 16#32
  let v547 : BitVec 32 := Scalar.muli arg12 c16_i32_576
  let v548 : BitVec 32 := Scalar.addi c0_i32_577 v547
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  let v576 : BitVec 32 := v575
  let c256_i32_597 : BitVec 32 := 256#32
  let c0_i32_598 : BitVec 32 := 0#32
  let v594 : BitVec 1 := Scalar.cmpi .eq c256_i32_597 c0_i32_598
  let c1_i32_599 : BitVec 32 := 1#32
  let v595 : BitVec 32 := Scalar.select v594 c1_i32_599 c256_i32_597
  let v596 : BitVec 32 := Scalar.remsi v576 v595
  let c0_i32_601 : BitVec 32 := 0#32
  let v598 : BitVec 1 := Scalar.cmpi .slt v596 c0_i32_601
  let c0_i32_602 : BitVec 32 := 0#32
  let v599 : BitVec 1 := Scalar.cmpi .slt v595 c0_i32_602
  let v600 : BitVec 1 := Scalar.xori v598 v599
  let c0_i32_600 : BitVec 32 := 0#32
  let v597 : BitVec 1 := Scalar.cmpi .ne v596 c0_i32_600
  let v601 : BitVec 1 := Scalar.andi v600 v597
  let v602 : BitVec 32 := Scalar.addi v596 v595
  let v603 : BitVec 32 := Scalar.select v601 v602 v596
  v603
def k0_off71 (k0_t18 : Fin k0_t18_loop.trips) : Fin 2 → Nat :=
  let c0_i32_577 : BitVec 32 := 0#32
  let c0_i32_308 : BitVec 32 := 0#32
  let c1_i32_310 : BitVec 32 := 1#32
  let arg12 : BitVec 32 := Scf.iv c0_i32_308 c1_i32_310 k0_t18
  let c16_i32_576 : BitVec 32 := 16#32
  let v547 : BitVec 32 := Scalar.muli arg12 c16_i32_576
  let v548 : BitVec 32 := Scalar.addi c0_i32_577 v547
  let c0_i32_579 : BitVec 32 := 0#32
  let v550 : BitVec 1 := Scalar.cmpi .sgt v548 c0_i32_579
  let v551 : BitVec 32 := Scalar.extui v550
  let c0_i32_580 : BitVec 32 := 0#32
  let v552 : BitVec 1 := Scalar.cmpi .slt v548 c0_i32_580
  let v553 : BitVec 32 := Scalar.extui v552
  let v554 : BitVec 32 := Scalar.subi v551 v553
  let c2048_i32_578 : BitVec 32 := 2048#32
  let c0_i32_581 : BitVec 32 := 0#32
  let v555 : BitVec 1 := Scalar.cmpi .sgt c2048_i32_578 c0_i32_581
  let v556 : BitVec 32 := Scalar.extui v555
  let c0_i32_582 : BitVec 32 := 0#32
  let v557 : BitVec 1 := Scalar.cmpi .slt c2048_i32_578 c0_i32_582
  let v558 : BitVec 32 := Scalar.extui v557
  let v559 : BitVec 32 := Scalar.subi v556 v558
  let v560 : BitVec 1 := Scalar.cmpi .ne v554 v559
  let v561 : BitVec 32 := Scalar.remsi v548 c2048_i32_578
  let c0_i32_583 : BitVec 32 := 0#32
  let v562 : BitVec 1 := Scalar.cmpi .ne v561 c0_i32_583
  let v563 : BitVec 1 := Scalar.andi v560 v562
  let v549 : BitVec 32 := Scalar.divsi v548 c2048_i32_578
  let c1_i32_584 : BitVec 32 := 1#32
  let v564 : BitVec 32 := Scalar.subi v549 c1_i32_584
  let v565 : BitVec 32 := Scalar.select v563 v564 v549
  let v605 : Index := Scalar.indexCast v565
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  let v576 : BitVec 32 := v575
  let v606 : Index := Scalar.indexCast v576
  ![v605.toNat, v606.toNat]
def k0_off72 (k0_t18 : Fin k0_t18_loop.trips) : Fin 3 → Nat :=
  let c0_i32_577 : BitVec 32 := 0#32
  let c0_i32_308 : BitVec 32 := 0#32
  let c1_i32_310 : BitVec 32 := 1#32
  let arg12 : BitVec 32 := Scf.iv c0_i32_308 c1_i32_310 k0_t18
  let c16_i32_576 : BitVec 32 := 16#32
  let v547 : BitVec 32 := Scalar.muli arg12 c16_i32_576
  let v548 : BitVec 32 := Scalar.addi c0_i32_577 v547
  let c0_i32_579 : BitVec 32 := 0#32
  let v550 : BitVec 1 := Scalar.cmpi .sgt v548 c0_i32_579
  let v551 : BitVec 32 := Scalar.extui v550
  let c0_i32_580 : BitVec 32 := 0#32
  let v552 : BitVec 1 := Scalar.cmpi .slt v548 c0_i32_580
  let v553 : BitVec 32 := Scalar.extui v552
  let v554 : BitVec 32 := Scalar.subi v551 v553
  let c2048_i32_578 : BitVec 32 := 2048#32
  let c0_i32_581 : BitVec 32 := 0#32
  let v555 : BitVec 1 := Scalar.cmpi .sgt c2048_i32_578 c0_i32_581
  let v556 : BitVec 32 := Scalar.extui v555
  let c0_i32_582 : BitVec 32 := 0#32
  let v557 : BitVec 1 := Scalar.cmpi .slt c2048_i32_578 c0_i32_582
  let v558 : BitVec 32 := Scalar.extui v557
  let v559 : BitVec 32 := Scalar.subi v556 v558
  let v560 : BitVec 1 := Scalar.cmpi .ne v554 v559
  let v561 : BitVec 32 := Scalar.remsi v548 c2048_i32_578
  let c0_i32_583 : BitVec 32 := 0#32
  let v562 : BitVec 1 := Scalar.cmpi .ne v561 c0_i32_583
  let v563 : BitVec 1 := Scalar.andi v560 v562
  let v549 : BitVec 32 := Scalar.divsi v548 c2048_i32_578
  let c1_i32_584 : BitVec 32 := 1#32
  let v564 : BitVec 32 := Scalar.subi v549 c1_i32_584
  let v565 : BitVec 32 := Scalar.select v563 v564 v549
  let v613 : Index := Scalar.indexCast v565
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  let v576 : BitVec 32 := v575
  let c0_i32_591 : BitVec 32 := 0#32
  let v578 : BitVec 1 := Scalar.cmpi .sgt v576 c0_i32_591
  let v579 : BitVec 32 := Scalar.extui v578
  let c0_i32_592 : BitVec 32 := 0#32
  let v580 : BitVec 1 := Scalar.cmpi .slt v576 c0_i32_592
  let v581 : BitVec 32 := Scalar.extui v580
  let v582 : BitVec 32 := Scalar.subi v579 v581
  let c256_i32 : BitVec 32 := 256#32
  let c0_i32_593 : BitVec 32 := 0#32
  let v583 : BitVec 1 := Scalar.cmpi .sgt c256_i32 c0_i32_593
  let v584 : BitVec 32 := Scalar.extui v583
  let c0_i32_594 : BitVec 32 := 0#32
  let v585 : BitVec 1 := Scalar.cmpi .slt c256_i32 c0_i32_594
  let v586 : BitVec 32 := Scalar.extui v585
  let v587 : BitVec 32 := Scalar.subi v584 v586
  let v588 : BitVec 1 := Scalar.cmpi .ne v582 v587
  let v589 : BitVec 32 := Scalar.remsi v576 c256_i32
  let c0_i32_595 : BitVec 32 := 0#32
  let v590 : BitVec 1 := Scalar.cmpi .ne v589 c0_i32_595
  let v591 : BitVec 1 := Scalar.andi v588 v590
  let v577 : BitVec 32 := Scalar.divsi v576 c256_i32
  let c1_i32_596 : BitVec 32 := 1#32
  let v592 : BitVec 32 := Scalar.subi v577 c1_i32_596
  let v593 : BitVec 32 := Scalar.select v591 v592 v577
  let v614 : Index := Scalar.indexCast v593
  let c256_i32_597 : BitVec 32 := 256#32
  let c0_i32_598 : BitVec 32 := 0#32
  let v594 : BitVec 1 := Scalar.cmpi .eq c256_i32_597 c0_i32_598
  let c1_i32_599 : BitVec 32 := 1#32
  let v595 : BitVec 32 := Scalar.select v594 c1_i32_599 c256_i32_597
  let v596 : BitVec 32 := Scalar.remsi v576 v595
  let c0_i32_601 : BitVec 32 := 0#32
  let v598 : BitVec 1 := Scalar.cmpi .slt v596 c0_i32_601
  let c0_i32_602 : BitVec 32 := 0#32
  let v599 : BitVec 1 := Scalar.cmpi .slt v595 c0_i32_602
  let v600 : BitVec 1 := Scalar.xori v598 v599
  let c0_i32_600 : BitVec 32 := 0#32
  let v597 : BitVec 1 := Scalar.cmpi .ne v596 c0_i32_600
  let v601 : BitVec 1 := Scalar.andi v600 v597
  let v602 : BitVec 32 := Scalar.addi v596 v595
  let v603 : BitVec 32 := Scalar.select v601 v602 v596
  let v604 : BitVec 32 := v603
  let v615 : Index := Scalar.indexCast v604
  ![v613.toNat, v614.toNat, v615.toNat]
def k0_off73 (i : grid0.Coords) : Fin 4 → Nat :=
  let c0_i32_312 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c136_i32 : BitVec 32 := 136#32
  let c0_i32_313 : BitVec 32 := 0#32
  ![0, v2.toNat, 136, 0]
def k0_off74 (i : grid0.Coords) : Fin 3 → Nat :=
  let c0_i32_316 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c38912_i32 : BitVec 32 := 38912#32
  ![0, v2.toNat, 38912]
@[reducible] def k0_t19_loop : Scf.Loop 32 :=
  let c0_i32_326 : BitVec 32 := 0#32
  let c1024_i32_327 : BitVec 32 := 1024#32
  let v317 : BitVec 32 := Scalar.addi c0_i32_326 c1024_i32_327
  let c1_i32_328 : BitVec 32 := 1#32
  ⟨c0_i32_326, v317, c1_i32_328⟩
def k0_mult37 (k0_t19 : Fin k0_t19_loop.trips) : BitVec 32 :=
  let c0_i32_577 : BitVec 32 := 0#32
  let c0_i32_326 : BitVec 32 := 0#32
  let c1_i32_328 : BitVec 32 := 1#32
  let arg12 : BitVec 32 := Scf.iv c0_i32_326 c1_i32_328 k0_t19
  let c16_i32_576 : BitVec 32 := 16#32
  let v547 : BitVec 32 := Scalar.muli arg12 c16_i32_576
  let v548 : BitVec 32 := Scalar.addi c0_i32_577 v547
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  v575
def k0_mult38 (k0_t19 : Fin k0_t19_loop.trips) : BitVec 32 :=
  let c0_i32_577 : BitVec 32 := 0#32
  let c0_i32_326 : BitVec 32 := 0#32
  let c1_i32_328 : BitVec 32 := 1#32
  let arg12 : BitVec 32 := Scf.iv c0_i32_326 c1_i32_328 k0_t19
  let c16_i32_576 : BitVec 32 := 16#32
  let v547 : BitVec 32 := Scalar.muli arg12 c16_i32_576
  let v548 : BitVec 32 := Scalar.addi c0_i32_577 v547
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  let v576 : BitVec 32 := v575
  let c256_i32_597 : BitVec 32 := 256#32
  let c0_i32_598 : BitVec 32 := 0#32
  let v594 : BitVec 1 := Scalar.cmpi .eq c256_i32_597 c0_i32_598
  let c1_i32_599 : BitVec 32 := 1#32
  let v595 : BitVec 32 := Scalar.select v594 c1_i32_599 c256_i32_597
  let v596 : BitVec 32 := Scalar.remsi v576 v595
  let c0_i32_601 : BitVec 32 := 0#32
  let v598 : BitVec 1 := Scalar.cmpi .slt v596 c0_i32_601
  let c0_i32_602 : BitVec 32 := 0#32
  let v599 : BitVec 1 := Scalar.cmpi .slt v595 c0_i32_602
  let v600 : BitVec 1 := Scalar.xori v598 v599
  let c0_i32_600 : BitVec 32 := 0#32
  let v597 : BitVec 1 := Scalar.cmpi .ne v596 c0_i32_600
  let v601 : BitVec 1 := Scalar.andi v600 v597
  let v602 : BitVec 32 := Scalar.addi v596 v595
  let v603 : BitVec 32 := Scalar.select v601 v602 v596
  v603
def k0_off75 (k0_t19 : Fin k0_t19_loop.trips) : Fin 2 → Nat :=
  let c0_i32_577 : BitVec 32 := 0#32
  let c0_i32_326 : BitVec 32 := 0#32
  let c1_i32_328 : BitVec 32 := 1#32
  let arg12 : BitVec 32 := Scf.iv c0_i32_326 c1_i32_328 k0_t19
  let c16_i32_576 : BitVec 32 := 16#32
  let v547 : BitVec 32 := Scalar.muli arg12 c16_i32_576
  let v548 : BitVec 32 := Scalar.addi c0_i32_577 v547
  let c0_i32_579 : BitVec 32 := 0#32
  let v550 : BitVec 1 := Scalar.cmpi .sgt v548 c0_i32_579
  let v551 : BitVec 32 := Scalar.extui v550
  let c0_i32_580 : BitVec 32 := 0#32
  let v552 : BitVec 1 := Scalar.cmpi .slt v548 c0_i32_580
  let v553 : BitVec 32 := Scalar.extui v552
  let v554 : BitVec 32 := Scalar.subi v551 v553
  let c2048_i32_578 : BitVec 32 := 2048#32
  let c0_i32_581 : BitVec 32 := 0#32
  let v555 : BitVec 1 := Scalar.cmpi .sgt c2048_i32_578 c0_i32_581
  let v556 : BitVec 32 := Scalar.extui v555
  let c0_i32_582 : BitVec 32 := 0#32
  let v557 : BitVec 1 := Scalar.cmpi .slt c2048_i32_578 c0_i32_582
  let v558 : BitVec 32 := Scalar.extui v557
  let v559 : BitVec 32 := Scalar.subi v556 v558
  let v560 : BitVec 1 := Scalar.cmpi .ne v554 v559
  let v561 : BitVec 32 := Scalar.remsi v548 c2048_i32_578
  let c0_i32_583 : BitVec 32 := 0#32
  let v562 : BitVec 1 := Scalar.cmpi .ne v561 c0_i32_583
  let v563 : BitVec 1 := Scalar.andi v560 v562
  let v549 : BitVec 32 := Scalar.divsi v548 c2048_i32_578
  let c1_i32_584 : BitVec 32 := 1#32
  let v564 : BitVec 32 := Scalar.subi v549 c1_i32_584
  let v565 : BitVec 32 := Scalar.select v563 v564 v549
  let v605 : Index := Scalar.indexCast v565
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  let v576 : BitVec 32 := v575
  let v606 : Index := Scalar.indexCast v576
  ![v605.toNat, v606.toNat]
def k0_off76 (k0_t19 : Fin k0_t19_loop.trips) : Fin 3 → Nat :=
  let c0_i32_577 : BitVec 32 := 0#32
  let c0_i32_326 : BitVec 32 := 0#32
  let c1_i32_328 : BitVec 32 := 1#32
  let arg12 : BitVec 32 := Scf.iv c0_i32_326 c1_i32_328 k0_t19
  let c16_i32_576 : BitVec 32 := 16#32
  let v547 : BitVec 32 := Scalar.muli arg12 c16_i32_576
  let v548 : BitVec 32 := Scalar.addi c0_i32_577 v547
  let c0_i32_579 : BitVec 32 := 0#32
  let v550 : BitVec 1 := Scalar.cmpi .sgt v548 c0_i32_579
  let v551 : BitVec 32 := Scalar.extui v550
  let c0_i32_580 : BitVec 32 := 0#32
  let v552 : BitVec 1 := Scalar.cmpi .slt v548 c0_i32_580
  let v553 : BitVec 32 := Scalar.extui v552
  let v554 : BitVec 32 := Scalar.subi v551 v553
  let c2048_i32_578 : BitVec 32 := 2048#32
  let c0_i32_581 : BitVec 32 := 0#32
  let v555 : BitVec 1 := Scalar.cmpi .sgt c2048_i32_578 c0_i32_581
  let v556 : BitVec 32 := Scalar.extui v555
  let c0_i32_582 : BitVec 32 := 0#32
  let v557 : BitVec 1 := Scalar.cmpi .slt c2048_i32_578 c0_i32_582
  let v558 : BitVec 32 := Scalar.extui v557
  let v559 : BitVec 32 := Scalar.subi v556 v558
  let v560 : BitVec 1 := Scalar.cmpi .ne v554 v559
  let v561 : BitVec 32 := Scalar.remsi v548 c2048_i32_578
  let c0_i32_583 : BitVec 32 := 0#32
  let v562 : BitVec 1 := Scalar.cmpi .ne v561 c0_i32_583
  let v563 : BitVec 1 := Scalar.andi v560 v562
  let v549 : BitVec 32 := Scalar.divsi v548 c2048_i32_578
  let c1_i32_584 : BitVec 32 := 1#32
  let v564 : BitVec 32 := Scalar.subi v549 c1_i32_584
  let v565 : BitVec 32 := Scalar.select v563 v564 v549
  let v613 : Index := Scalar.indexCast v565
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  let v576 : BitVec 32 := v575
  let c0_i32_591 : BitVec 32 := 0#32
  let v578 : BitVec 1 := Scalar.cmpi .sgt v576 c0_i32_591
  let v579 : BitVec 32 := Scalar.extui v578
  let c0_i32_592 : BitVec 32 := 0#32
  let v580 : BitVec 1 := Scalar.cmpi .slt v576 c0_i32_592
  let v581 : BitVec 32 := Scalar.extui v580
  let v582 : BitVec 32 := Scalar.subi v579 v581
  let c256_i32 : BitVec 32 := 256#32
  let c0_i32_593 : BitVec 32 := 0#32
  let v583 : BitVec 1 := Scalar.cmpi .sgt c256_i32 c0_i32_593
  let v584 : BitVec 32 := Scalar.extui v583
  let c0_i32_594 : BitVec 32 := 0#32
  let v585 : BitVec 1 := Scalar.cmpi .slt c256_i32 c0_i32_594
  let v586 : BitVec 32 := Scalar.extui v585
  let v587 : BitVec 32 := Scalar.subi v584 v586
  let v588 : BitVec 1 := Scalar.cmpi .ne v582 v587
  let v589 : BitVec 32 := Scalar.remsi v576 c256_i32
  let c0_i32_595 : BitVec 32 := 0#32
  let v590 : BitVec 1 := Scalar.cmpi .ne v589 c0_i32_595
  let v591 : BitVec 1 := Scalar.andi v588 v590
  let v577 : BitVec 32 := Scalar.divsi v576 c256_i32
  let c1_i32_596 : BitVec 32 := 1#32
  let v592 : BitVec 32 := Scalar.subi v577 c1_i32_596
  let v593 : BitVec 32 := Scalar.select v591 v592 v577
  let v614 : Index := Scalar.indexCast v593
  let c256_i32_597 : BitVec 32 := 256#32
  let c0_i32_598 : BitVec 32 := 0#32
  let v594 : BitVec 1 := Scalar.cmpi .eq c256_i32_597 c0_i32_598
  let c1_i32_599 : BitVec 32 := 1#32
  let v595 : BitVec 32 := Scalar.select v594 c1_i32_599 c256_i32_597
  let v596 : BitVec 32 := Scalar.remsi v576 v595
  let c0_i32_601 : BitVec 32 := 0#32
  let v598 : BitVec 1 := Scalar.cmpi .slt v596 c0_i32_601
  let c0_i32_602 : BitVec 32 := 0#32
  let v599 : BitVec 1 := Scalar.cmpi .slt v595 c0_i32_602
  let v600 : BitVec 1 := Scalar.xori v598 v599
  let c0_i32_600 : BitVec 32 := 0#32
  let v597 : BitVec 1 := Scalar.cmpi .ne v596 c0_i32_600
  let v601 : BitVec 1 := Scalar.andi v600 v597
  let v602 : BitVec 32 := Scalar.addi v596 v595
  let v603 : BitVec 32 := Scalar.select v601 v602 v596
  let v604 : BitVec 32 := v603
  let v615 : Index := Scalar.indexCast v604
  ![v613.toNat, v614.toNat, v615.toNat]
def k0_off77 (i : grid0.Coords) : Fin 4 → Nat :=
  let c0_i32_330 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c144_i32 : BitVec 32 := 144#32
  let c0_i32_331 : BitVec 32 := 0#32
  ![0, v2.toNat, 144, 0]
def k0_off78 (i : grid0.Coords) : Fin 3 → Nat :=
  let c0_i32_334 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c40960_i32 : BitVec 32 := 40960#32
  ![0, v2.toNat, 40960]
@[reducible] def k0_t20_loop : Scf.Loop 32 :=
  let c0_i32_344 : BitVec 32 := 0#32
  let c1024_i32_345 : BitVec 32 := 1024#32
  let v334 : BitVec 32 := Scalar.addi c0_i32_344 c1024_i32_345
  let c1_i32_346 : BitVec 32 := 1#32
  ⟨c0_i32_344, v334, c1_i32_346⟩
def k0_mult39 (k0_t20 : Fin k0_t20_loop.trips) : BitVec 32 :=
  let c0_i32_577 : BitVec 32 := 0#32
  let c0_i32_344 : BitVec 32 := 0#32
  let c1_i32_346 : BitVec 32 := 1#32
  let arg12 : BitVec 32 := Scf.iv c0_i32_344 c1_i32_346 k0_t20
  let c16_i32_576 : BitVec 32 := 16#32
  let v547 : BitVec 32 := Scalar.muli arg12 c16_i32_576
  let v548 : BitVec 32 := Scalar.addi c0_i32_577 v547
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  v575
def k0_mult40 (k0_t20 : Fin k0_t20_loop.trips) : BitVec 32 :=
  let c0_i32_577 : BitVec 32 := 0#32
  let c0_i32_344 : BitVec 32 := 0#32
  let c1_i32_346 : BitVec 32 := 1#32
  let arg12 : BitVec 32 := Scf.iv c0_i32_344 c1_i32_346 k0_t20
  let c16_i32_576 : BitVec 32 := 16#32
  let v547 : BitVec 32 := Scalar.muli arg12 c16_i32_576
  let v548 : BitVec 32 := Scalar.addi c0_i32_577 v547
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  let v576 : BitVec 32 := v575
  let c256_i32_597 : BitVec 32 := 256#32
  let c0_i32_598 : BitVec 32 := 0#32
  let v594 : BitVec 1 := Scalar.cmpi .eq c256_i32_597 c0_i32_598
  let c1_i32_599 : BitVec 32 := 1#32
  let v595 : BitVec 32 := Scalar.select v594 c1_i32_599 c256_i32_597
  let v596 : BitVec 32 := Scalar.remsi v576 v595
  let c0_i32_601 : BitVec 32 := 0#32
  let v598 : BitVec 1 := Scalar.cmpi .slt v596 c0_i32_601
  let c0_i32_602 : BitVec 32 := 0#32
  let v599 : BitVec 1 := Scalar.cmpi .slt v595 c0_i32_602
  let v600 : BitVec 1 := Scalar.xori v598 v599
  let c0_i32_600 : BitVec 32 := 0#32
  let v597 : BitVec 1 := Scalar.cmpi .ne v596 c0_i32_600
  let v601 : BitVec 1 := Scalar.andi v600 v597
  let v602 : BitVec 32 := Scalar.addi v596 v595
  let v603 : BitVec 32 := Scalar.select v601 v602 v596
  v603
def k0_off79 (k0_t20 : Fin k0_t20_loop.trips) : Fin 2 → Nat :=
  let c0_i32_577 : BitVec 32 := 0#32
  let c0_i32_344 : BitVec 32 := 0#32
  let c1_i32_346 : BitVec 32 := 1#32
  let arg12 : BitVec 32 := Scf.iv c0_i32_344 c1_i32_346 k0_t20
  let c16_i32_576 : BitVec 32 := 16#32
  let v547 : BitVec 32 := Scalar.muli arg12 c16_i32_576
  let v548 : BitVec 32 := Scalar.addi c0_i32_577 v547
  let c0_i32_579 : BitVec 32 := 0#32
  let v550 : BitVec 1 := Scalar.cmpi .sgt v548 c0_i32_579
  let v551 : BitVec 32 := Scalar.extui v550
  let c0_i32_580 : BitVec 32 := 0#32
  let v552 : BitVec 1 := Scalar.cmpi .slt v548 c0_i32_580
  let v553 : BitVec 32 := Scalar.extui v552
  let v554 : BitVec 32 := Scalar.subi v551 v553
  let c2048_i32_578 : BitVec 32 := 2048#32
  let c0_i32_581 : BitVec 32 := 0#32
  let v555 : BitVec 1 := Scalar.cmpi .sgt c2048_i32_578 c0_i32_581
  let v556 : BitVec 32 := Scalar.extui v555
  let c0_i32_582 : BitVec 32 := 0#32
  let v557 : BitVec 1 := Scalar.cmpi .slt c2048_i32_578 c0_i32_582
  let v558 : BitVec 32 := Scalar.extui v557
  let v559 : BitVec 32 := Scalar.subi v556 v558
  let v560 : BitVec 1 := Scalar.cmpi .ne v554 v559
  let v561 : BitVec 32 := Scalar.remsi v548 c2048_i32_578
  let c0_i32_583 : BitVec 32 := 0#32
  let v562 : BitVec 1 := Scalar.cmpi .ne v561 c0_i32_583
  let v563 : BitVec 1 := Scalar.andi v560 v562
  let v549 : BitVec 32 := Scalar.divsi v548 c2048_i32_578
  let c1_i32_584 : BitVec 32 := 1#32
  let v564 : BitVec 32 := Scalar.subi v549 c1_i32_584
  let v565 : BitVec 32 := Scalar.select v563 v564 v549
  let v605 : Index := Scalar.indexCast v565
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  let v576 : BitVec 32 := v575
  let v606 : Index := Scalar.indexCast v576
  ![v605.toNat, v606.toNat]
def k0_off80 (k0_t20 : Fin k0_t20_loop.trips) : Fin 3 → Nat :=
  let c0_i32_577 : BitVec 32 := 0#32
  let c0_i32_344 : BitVec 32 := 0#32
  let c1_i32_346 : BitVec 32 := 1#32
  let arg12 : BitVec 32 := Scf.iv c0_i32_344 c1_i32_346 k0_t20
  let c16_i32_576 : BitVec 32 := 16#32
  let v547 : BitVec 32 := Scalar.muli arg12 c16_i32_576
  let v548 : BitVec 32 := Scalar.addi c0_i32_577 v547
  let c0_i32_579 : BitVec 32 := 0#32
  let v550 : BitVec 1 := Scalar.cmpi .sgt v548 c0_i32_579
  let v551 : BitVec 32 := Scalar.extui v550
  let c0_i32_580 : BitVec 32 := 0#32
  let v552 : BitVec 1 := Scalar.cmpi .slt v548 c0_i32_580
  let v553 : BitVec 32 := Scalar.extui v552
  let v554 : BitVec 32 := Scalar.subi v551 v553
  let c2048_i32_578 : BitVec 32 := 2048#32
  let c0_i32_581 : BitVec 32 := 0#32
  let v555 : BitVec 1 := Scalar.cmpi .sgt c2048_i32_578 c0_i32_581
  let v556 : BitVec 32 := Scalar.extui v555
  let c0_i32_582 : BitVec 32 := 0#32
  let v557 : BitVec 1 := Scalar.cmpi .slt c2048_i32_578 c0_i32_582
  let v558 : BitVec 32 := Scalar.extui v557
  let v559 : BitVec 32 := Scalar.subi v556 v558
  let v560 : BitVec 1 := Scalar.cmpi .ne v554 v559
  let v561 : BitVec 32 := Scalar.remsi v548 c2048_i32_578
  let c0_i32_583 : BitVec 32 := 0#32
  let v562 : BitVec 1 := Scalar.cmpi .ne v561 c0_i32_583
  let v563 : BitVec 1 := Scalar.andi v560 v562
  let v549 : BitVec 32 := Scalar.divsi v548 c2048_i32_578
  let c1_i32_584 : BitVec 32 := 1#32
  let v564 : BitVec 32 := Scalar.subi v549 c1_i32_584
  let v565 : BitVec 32 := Scalar.select v563 v564 v549
  let v613 : Index := Scalar.indexCast v565
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  let v576 : BitVec 32 := v575
  let c0_i32_591 : BitVec 32 := 0#32
  let v578 : BitVec 1 := Scalar.cmpi .sgt v576 c0_i32_591
  let v579 : BitVec 32 := Scalar.extui v578
  let c0_i32_592 : BitVec 32 := 0#32
  let v580 : BitVec 1 := Scalar.cmpi .slt v576 c0_i32_592
  let v581 : BitVec 32 := Scalar.extui v580
  let v582 : BitVec 32 := Scalar.subi v579 v581
  let c256_i32 : BitVec 32 := 256#32
  let c0_i32_593 : BitVec 32 := 0#32
  let v583 : BitVec 1 := Scalar.cmpi .sgt c256_i32 c0_i32_593
  let v584 : BitVec 32 := Scalar.extui v583
  let c0_i32_594 : BitVec 32 := 0#32
  let v585 : BitVec 1 := Scalar.cmpi .slt c256_i32 c0_i32_594
  let v586 : BitVec 32 := Scalar.extui v585
  let v587 : BitVec 32 := Scalar.subi v584 v586
  let v588 : BitVec 1 := Scalar.cmpi .ne v582 v587
  let v589 : BitVec 32 := Scalar.remsi v576 c256_i32
  let c0_i32_595 : BitVec 32 := 0#32
  let v590 : BitVec 1 := Scalar.cmpi .ne v589 c0_i32_595
  let v591 : BitVec 1 := Scalar.andi v588 v590
  let v577 : BitVec 32 := Scalar.divsi v576 c256_i32
  let c1_i32_596 : BitVec 32 := 1#32
  let v592 : BitVec 32 := Scalar.subi v577 c1_i32_596
  let v593 : BitVec 32 := Scalar.select v591 v592 v577
  let v614 : Index := Scalar.indexCast v593
  let c256_i32_597 : BitVec 32 := 256#32
  let c0_i32_598 : BitVec 32 := 0#32
  let v594 : BitVec 1 := Scalar.cmpi .eq c256_i32_597 c0_i32_598
  let c1_i32_599 : BitVec 32 := 1#32
  let v595 : BitVec 32 := Scalar.select v594 c1_i32_599 c256_i32_597
  let v596 : BitVec 32 := Scalar.remsi v576 v595
  let c0_i32_601 : BitVec 32 := 0#32
  let v598 : BitVec 1 := Scalar.cmpi .slt v596 c0_i32_601
  let c0_i32_602 : BitVec 32 := 0#32
  let v599 : BitVec 1 := Scalar.cmpi .slt v595 c0_i32_602
  let v600 : BitVec 1 := Scalar.xori v598 v599
  let c0_i32_600 : BitVec 32 := 0#32
  let v597 : BitVec 1 := Scalar.cmpi .ne v596 c0_i32_600
  let v601 : BitVec 1 := Scalar.andi v600 v597
  let v602 : BitVec 32 := Scalar.addi v596 v595
  let v603 : BitVec 32 := Scalar.select v601 v602 v596
  let v604 : BitVec 32 := v603
  let v615 : Index := Scalar.indexCast v604
  ![v613.toNat, v614.toNat, v615.toNat]
def k0_off81 (i : grid0.Coords) : Fin 4 → Nat :=
  let c0_i32_348 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c152_i32 : BitVec 32 := 152#32
  let c0_i32_349 : BitVec 32 := 0#32
  ![0, v2.toNat, 152, 0]
def k0_off82 (i : grid0.Coords) : Fin 3 → Nat :=
  let c0_i32_352 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c43008_i32 : BitVec 32 := 43008#32
  ![0, v2.toNat, 43008]
@[reducible] def k0_t21_loop : Scf.Loop 32 :=
  let c0_i32_362 : BitVec 32 := 0#32
  let c1024_i32_363 : BitVec 32 := 1024#32
  let v351 : BitVec 32 := Scalar.addi c0_i32_362 c1024_i32_363
  let c1_i32_364 : BitVec 32 := 1#32
  ⟨c0_i32_362, v351, c1_i32_364⟩
def k0_mult41 (k0_t21 : Fin k0_t21_loop.trips) : BitVec 32 :=
  let c0_i32_577 : BitVec 32 := 0#32
  let c0_i32_362 : BitVec 32 := 0#32
  let c1_i32_364 : BitVec 32 := 1#32
  let arg12 : BitVec 32 := Scf.iv c0_i32_362 c1_i32_364 k0_t21
  let c16_i32_576 : BitVec 32 := 16#32
  let v547 : BitVec 32 := Scalar.muli arg12 c16_i32_576
  let v548 : BitVec 32 := Scalar.addi c0_i32_577 v547
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  v575
def k0_mult42 (k0_t21 : Fin k0_t21_loop.trips) : BitVec 32 :=
  let c0_i32_577 : BitVec 32 := 0#32
  let c0_i32_362 : BitVec 32 := 0#32
  let c1_i32_364 : BitVec 32 := 1#32
  let arg12 : BitVec 32 := Scf.iv c0_i32_362 c1_i32_364 k0_t21
  let c16_i32_576 : BitVec 32 := 16#32
  let v547 : BitVec 32 := Scalar.muli arg12 c16_i32_576
  let v548 : BitVec 32 := Scalar.addi c0_i32_577 v547
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  let v576 : BitVec 32 := v575
  let c256_i32_597 : BitVec 32 := 256#32
  let c0_i32_598 : BitVec 32 := 0#32
  let v594 : BitVec 1 := Scalar.cmpi .eq c256_i32_597 c0_i32_598
  let c1_i32_599 : BitVec 32 := 1#32
  let v595 : BitVec 32 := Scalar.select v594 c1_i32_599 c256_i32_597
  let v596 : BitVec 32 := Scalar.remsi v576 v595
  let c0_i32_601 : BitVec 32 := 0#32
  let v598 : BitVec 1 := Scalar.cmpi .slt v596 c0_i32_601
  let c0_i32_602 : BitVec 32 := 0#32
  let v599 : BitVec 1 := Scalar.cmpi .slt v595 c0_i32_602
  let v600 : BitVec 1 := Scalar.xori v598 v599
  let c0_i32_600 : BitVec 32 := 0#32
  let v597 : BitVec 1 := Scalar.cmpi .ne v596 c0_i32_600
  let v601 : BitVec 1 := Scalar.andi v600 v597
  let v602 : BitVec 32 := Scalar.addi v596 v595
  let v603 : BitVec 32 := Scalar.select v601 v602 v596
  v603
def k0_off83 (k0_t21 : Fin k0_t21_loop.trips) : Fin 2 → Nat :=
  let c0_i32_577 : BitVec 32 := 0#32
  let c0_i32_362 : BitVec 32 := 0#32
  let c1_i32_364 : BitVec 32 := 1#32
  let arg12 : BitVec 32 := Scf.iv c0_i32_362 c1_i32_364 k0_t21
  let c16_i32_576 : BitVec 32 := 16#32
  let v547 : BitVec 32 := Scalar.muli arg12 c16_i32_576
  let v548 : BitVec 32 := Scalar.addi c0_i32_577 v547
  let c0_i32_579 : BitVec 32 := 0#32
  let v550 : BitVec 1 := Scalar.cmpi .sgt v548 c0_i32_579
  let v551 : BitVec 32 := Scalar.extui v550
  let c0_i32_580 : BitVec 32 := 0#32
  let v552 : BitVec 1 := Scalar.cmpi .slt v548 c0_i32_580
  let v553 : BitVec 32 := Scalar.extui v552
  let v554 : BitVec 32 := Scalar.subi v551 v553
  let c2048_i32_578 : BitVec 32 := 2048#32
  let c0_i32_581 : BitVec 32 := 0#32
  let v555 : BitVec 1 := Scalar.cmpi .sgt c2048_i32_578 c0_i32_581
  let v556 : BitVec 32 := Scalar.extui v555
  let c0_i32_582 : BitVec 32 := 0#32
  let v557 : BitVec 1 := Scalar.cmpi .slt c2048_i32_578 c0_i32_582
  let v558 : BitVec 32 := Scalar.extui v557
  let v559 : BitVec 32 := Scalar.subi v556 v558
  let v560 : BitVec 1 := Scalar.cmpi .ne v554 v559
  let v561 : BitVec 32 := Scalar.remsi v548 c2048_i32_578
  let c0_i32_583 : BitVec 32 := 0#32
  let v562 : BitVec 1 := Scalar.cmpi .ne v561 c0_i32_583
  let v563 : BitVec 1 := Scalar.andi v560 v562
  let v549 : BitVec 32 := Scalar.divsi v548 c2048_i32_578
  let c1_i32_584 : BitVec 32 := 1#32
  let v564 : BitVec 32 := Scalar.subi v549 c1_i32_584
  let v565 : BitVec 32 := Scalar.select v563 v564 v549
  let v605 : Index := Scalar.indexCast v565
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  let v576 : BitVec 32 := v575
  let v606 : Index := Scalar.indexCast v576
  ![v605.toNat, v606.toNat]
def k0_off84 (k0_t21 : Fin k0_t21_loop.trips) : Fin 3 → Nat :=
  let c0_i32_577 : BitVec 32 := 0#32
  let c0_i32_362 : BitVec 32 := 0#32
  let c1_i32_364 : BitVec 32 := 1#32
  let arg12 : BitVec 32 := Scf.iv c0_i32_362 c1_i32_364 k0_t21
  let c16_i32_576 : BitVec 32 := 16#32
  let v547 : BitVec 32 := Scalar.muli arg12 c16_i32_576
  let v548 : BitVec 32 := Scalar.addi c0_i32_577 v547
  let c0_i32_579 : BitVec 32 := 0#32
  let v550 : BitVec 1 := Scalar.cmpi .sgt v548 c0_i32_579
  let v551 : BitVec 32 := Scalar.extui v550
  let c0_i32_580 : BitVec 32 := 0#32
  let v552 : BitVec 1 := Scalar.cmpi .slt v548 c0_i32_580
  let v553 : BitVec 32 := Scalar.extui v552
  let v554 : BitVec 32 := Scalar.subi v551 v553
  let c2048_i32_578 : BitVec 32 := 2048#32
  let c0_i32_581 : BitVec 32 := 0#32
  let v555 : BitVec 1 := Scalar.cmpi .sgt c2048_i32_578 c0_i32_581
  let v556 : BitVec 32 := Scalar.extui v555
  let c0_i32_582 : BitVec 32 := 0#32
  let v557 : BitVec 1 := Scalar.cmpi .slt c2048_i32_578 c0_i32_582
  let v558 : BitVec 32 := Scalar.extui v557
  let v559 : BitVec 32 := Scalar.subi v556 v558
  let v560 : BitVec 1 := Scalar.cmpi .ne v554 v559
  let v561 : BitVec 32 := Scalar.remsi v548 c2048_i32_578
  let c0_i32_583 : BitVec 32 := 0#32
  let v562 : BitVec 1 := Scalar.cmpi .ne v561 c0_i32_583
  let v563 : BitVec 1 := Scalar.andi v560 v562
  let v549 : BitVec 32 := Scalar.divsi v548 c2048_i32_578
  let c1_i32_584 : BitVec 32 := 1#32
  let v564 : BitVec 32 := Scalar.subi v549 c1_i32_584
  let v565 : BitVec 32 := Scalar.select v563 v564 v549
  let v613 : Index := Scalar.indexCast v565
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  let v576 : BitVec 32 := v575
  let c0_i32_591 : BitVec 32 := 0#32
  let v578 : BitVec 1 := Scalar.cmpi .sgt v576 c0_i32_591
  let v579 : BitVec 32 := Scalar.extui v578
  let c0_i32_592 : BitVec 32 := 0#32
  let v580 : BitVec 1 := Scalar.cmpi .slt v576 c0_i32_592
  let v581 : BitVec 32 := Scalar.extui v580
  let v582 : BitVec 32 := Scalar.subi v579 v581
  let c256_i32 : BitVec 32 := 256#32
  let c0_i32_593 : BitVec 32 := 0#32
  let v583 : BitVec 1 := Scalar.cmpi .sgt c256_i32 c0_i32_593
  let v584 : BitVec 32 := Scalar.extui v583
  let c0_i32_594 : BitVec 32 := 0#32
  let v585 : BitVec 1 := Scalar.cmpi .slt c256_i32 c0_i32_594
  let v586 : BitVec 32 := Scalar.extui v585
  let v587 : BitVec 32 := Scalar.subi v584 v586
  let v588 : BitVec 1 := Scalar.cmpi .ne v582 v587
  let v589 : BitVec 32 := Scalar.remsi v576 c256_i32
  let c0_i32_595 : BitVec 32 := 0#32
  let v590 : BitVec 1 := Scalar.cmpi .ne v589 c0_i32_595
  let v591 : BitVec 1 := Scalar.andi v588 v590
  let v577 : BitVec 32 := Scalar.divsi v576 c256_i32
  let c1_i32_596 : BitVec 32 := 1#32
  let v592 : BitVec 32 := Scalar.subi v577 c1_i32_596
  let v593 : BitVec 32 := Scalar.select v591 v592 v577
  let v614 : Index := Scalar.indexCast v593
  let c256_i32_597 : BitVec 32 := 256#32
  let c0_i32_598 : BitVec 32 := 0#32
  let v594 : BitVec 1 := Scalar.cmpi .eq c256_i32_597 c0_i32_598
  let c1_i32_599 : BitVec 32 := 1#32
  let v595 : BitVec 32 := Scalar.select v594 c1_i32_599 c256_i32_597
  let v596 : BitVec 32 := Scalar.remsi v576 v595
  let c0_i32_601 : BitVec 32 := 0#32
  let v598 : BitVec 1 := Scalar.cmpi .slt v596 c0_i32_601
  let c0_i32_602 : BitVec 32 := 0#32
  let v599 : BitVec 1 := Scalar.cmpi .slt v595 c0_i32_602
  let v600 : BitVec 1 := Scalar.xori v598 v599
  let c0_i32_600 : BitVec 32 := 0#32
  let v597 : BitVec 1 := Scalar.cmpi .ne v596 c0_i32_600
  let v601 : BitVec 1 := Scalar.andi v600 v597
  let v602 : BitVec 32 := Scalar.addi v596 v595
  let v603 : BitVec 32 := Scalar.select v601 v602 v596
  let v604 : BitVec 32 := v603
  let v615 : Index := Scalar.indexCast v604
  ![v613.toNat, v614.toNat, v615.toNat]
def k0_off85 (i : grid0.Coords) : Fin 4 → Nat :=
  let c0_i32_366 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c160_i32 : BitVec 32 := 160#32
  let c0_i32_367 : BitVec 32 := 0#32
  ![0, v2.toNat, 160, 0]
def k0_off86 (i : grid0.Coords) : Fin 3 → Nat :=
  let c0_i32_370 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c45056_i32 : BitVec 32 := 45056#32
  ![0, v2.toNat, 45056]
@[reducible] def k0_t22_loop : Scf.Loop 32 :=
  let c0_i32_380 : BitVec 32 := 0#32
  let c1024_i32_381 : BitVec 32 := 1024#32
  let v368 : BitVec 32 := Scalar.addi c0_i32_380 c1024_i32_381
  let c1_i32_382 : BitVec 32 := 1#32
  ⟨c0_i32_380, v368, c1_i32_382⟩
def k0_mult43 (k0_t22 : Fin k0_t22_loop.trips) : BitVec 32 :=
  let c0_i32_577 : BitVec 32 := 0#32
  let c0_i32_380 : BitVec 32 := 0#32
  let c1_i32_382 : BitVec 32 := 1#32
  let arg12 : BitVec 32 := Scf.iv c0_i32_380 c1_i32_382 k0_t22
  let c16_i32_576 : BitVec 32 := 16#32
  let v547 : BitVec 32 := Scalar.muli arg12 c16_i32_576
  let v548 : BitVec 32 := Scalar.addi c0_i32_577 v547
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  v575
def k0_mult44 (k0_t22 : Fin k0_t22_loop.trips) : BitVec 32 :=
  let c0_i32_577 : BitVec 32 := 0#32
  let c0_i32_380 : BitVec 32 := 0#32
  let c1_i32_382 : BitVec 32 := 1#32
  let arg12 : BitVec 32 := Scf.iv c0_i32_380 c1_i32_382 k0_t22
  let c16_i32_576 : BitVec 32 := 16#32
  let v547 : BitVec 32 := Scalar.muli arg12 c16_i32_576
  let v548 : BitVec 32 := Scalar.addi c0_i32_577 v547
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  let v576 : BitVec 32 := v575
  let c256_i32_597 : BitVec 32 := 256#32
  let c0_i32_598 : BitVec 32 := 0#32
  let v594 : BitVec 1 := Scalar.cmpi .eq c256_i32_597 c0_i32_598
  let c1_i32_599 : BitVec 32 := 1#32
  let v595 : BitVec 32 := Scalar.select v594 c1_i32_599 c256_i32_597
  let v596 : BitVec 32 := Scalar.remsi v576 v595
  let c0_i32_601 : BitVec 32 := 0#32
  let v598 : BitVec 1 := Scalar.cmpi .slt v596 c0_i32_601
  let c0_i32_602 : BitVec 32 := 0#32
  let v599 : BitVec 1 := Scalar.cmpi .slt v595 c0_i32_602
  let v600 : BitVec 1 := Scalar.xori v598 v599
  let c0_i32_600 : BitVec 32 := 0#32
  let v597 : BitVec 1 := Scalar.cmpi .ne v596 c0_i32_600
  let v601 : BitVec 1 := Scalar.andi v600 v597
  let v602 : BitVec 32 := Scalar.addi v596 v595
  let v603 : BitVec 32 := Scalar.select v601 v602 v596
  v603
def k0_off87 (k0_t22 : Fin k0_t22_loop.trips) : Fin 2 → Nat :=
  let c0_i32_577 : BitVec 32 := 0#32
  let c0_i32_380 : BitVec 32 := 0#32
  let c1_i32_382 : BitVec 32 := 1#32
  let arg12 : BitVec 32 := Scf.iv c0_i32_380 c1_i32_382 k0_t22
  let c16_i32_576 : BitVec 32 := 16#32
  let v547 : BitVec 32 := Scalar.muli arg12 c16_i32_576
  let v548 : BitVec 32 := Scalar.addi c0_i32_577 v547
  let c0_i32_579 : BitVec 32 := 0#32
  let v550 : BitVec 1 := Scalar.cmpi .sgt v548 c0_i32_579
  let v551 : BitVec 32 := Scalar.extui v550
  let c0_i32_580 : BitVec 32 := 0#32
  let v552 : BitVec 1 := Scalar.cmpi .slt v548 c0_i32_580
  let v553 : BitVec 32 := Scalar.extui v552
  let v554 : BitVec 32 := Scalar.subi v551 v553
  let c2048_i32_578 : BitVec 32 := 2048#32
  let c0_i32_581 : BitVec 32 := 0#32
  let v555 : BitVec 1 := Scalar.cmpi .sgt c2048_i32_578 c0_i32_581
  let v556 : BitVec 32 := Scalar.extui v555
  let c0_i32_582 : BitVec 32 := 0#32
  let v557 : BitVec 1 := Scalar.cmpi .slt c2048_i32_578 c0_i32_582
  let v558 : BitVec 32 := Scalar.extui v557
  let v559 : BitVec 32 := Scalar.subi v556 v558
  let v560 : BitVec 1 := Scalar.cmpi .ne v554 v559
  let v561 : BitVec 32 := Scalar.remsi v548 c2048_i32_578
  let c0_i32_583 : BitVec 32 := 0#32
  let v562 : BitVec 1 := Scalar.cmpi .ne v561 c0_i32_583
  let v563 : BitVec 1 := Scalar.andi v560 v562
  let v549 : BitVec 32 := Scalar.divsi v548 c2048_i32_578
  let c1_i32_584 : BitVec 32 := 1#32
  let v564 : BitVec 32 := Scalar.subi v549 c1_i32_584
  let v565 : BitVec 32 := Scalar.select v563 v564 v549
  let v605 : Index := Scalar.indexCast v565
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  let v576 : BitVec 32 := v575
  let v606 : Index := Scalar.indexCast v576
  ![v605.toNat, v606.toNat]
def k0_off88 (k0_t22 : Fin k0_t22_loop.trips) : Fin 3 → Nat :=
  let c0_i32_577 : BitVec 32 := 0#32
  let c0_i32_380 : BitVec 32 := 0#32
  let c1_i32_382 : BitVec 32 := 1#32
  let arg12 : BitVec 32 := Scf.iv c0_i32_380 c1_i32_382 k0_t22
  let c16_i32_576 : BitVec 32 := 16#32
  let v547 : BitVec 32 := Scalar.muli arg12 c16_i32_576
  let v548 : BitVec 32 := Scalar.addi c0_i32_577 v547
  let c0_i32_579 : BitVec 32 := 0#32
  let v550 : BitVec 1 := Scalar.cmpi .sgt v548 c0_i32_579
  let v551 : BitVec 32 := Scalar.extui v550
  let c0_i32_580 : BitVec 32 := 0#32
  let v552 : BitVec 1 := Scalar.cmpi .slt v548 c0_i32_580
  let v553 : BitVec 32 := Scalar.extui v552
  let v554 : BitVec 32 := Scalar.subi v551 v553
  let c2048_i32_578 : BitVec 32 := 2048#32
  let c0_i32_581 : BitVec 32 := 0#32
  let v555 : BitVec 1 := Scalar.cmpi .sgt c2048_i32_578 c0_i32_581
  let v556 : BitVec 32 := Scalar.extui v555
  let c0_i32_582 : BitVec 32 := 0#32
  let v557 : BitVec 1 := Scalar.cmpi .slt c2048_i32_578 c0_i32_582
  let v558 : BitVec 32 := Scalar.extui v557
  let v559 : BitVec 32 := Scalar.subi v556 v558
  let v560 : BitVec 1 := Scalar.cmpi .ne v554 v559
  let v561 : BitVec 32 := Scalar.remsi v548 c2048_i32_578
  let c0_i32_583 : BitVec 32 := 0#32
  let v562 : BitVec 1 := Scalar.cmpi .ne v561 c0_i32_583
  let v563 : BitVec 1 := Scalar.andi v560 v562
  let v549 : BitVec 32 := Scalar.divsi v548 c2048_i32_578
  let c1_i32_584 : BitVec 32 := 1#32
  let v564 : BitVec 32 := Scalar.subi v549 c1_i32_584
  let v565 : BitVec 32 := Scalar.select v563 v564 v549
  let v613 : Index := Scalar.indexCast v565
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  let v576 : BitVec 32 := v575
  let c0_i32_591 : BitVec 32 := 0#32
  let v578 : BitVec 1 := Scalar.cmpi .sgt v576 c0_i32_591
  let v579 : BitVec 32 := Scalar.extui v578
  let c0_i32_592 : BitVec 32 := 0#32
  let v580 : BitVec 1 := Scalar.cmpi .slt v576 c0_i32_592
  let v581 : BitVec 32 := Scalar.extui v580
  let v582 : BitVec 32 := Scalar.subi v579 v581
  let c256_i32 : BitVec 32 := 256#32
  let c0_i32_593 : BitVec 32 := 0#32
  let v583 : BitVec 1 := Scalar.cmpi .sgt c256_i32 c0_i32_593
  let v584 : BitVec 32 := Scalar.extui v583
  let c0_i32_594 : BitVec 32 := 0#32
  let v585 : BitVec 1 := Scalar.cmpi .slt c256_i32 c0_i32_594
  let v586 : BitVec 32 := Scalar.extui v585
  let v587 : BitVec 32 := Scalar.subi v584 v586
  let v588 : BitVec 1 := Scalar.cmpi .ne v582 v587
  let v589 : BitVec 32 := Scalar.remsi v576 c256_i32
  let c0_i32_595 : BitVec 32 := 0#32
  let v590 : BitVec 1 := Scalar.cmpi .ne v589 c0_i32_595
  let v591 : BitVec 1 := Scalar.andi v588 v590
  let v577 : BitVec 32 := Scalar.divsi v576 c256_i32
  let c1_i32_596 : BitVec 32 := 1#32
  let v592 : BitVec 32 := Scalar.subi v577 c1_i32_596
  let v593 : BitVec 32 := Scalar.select v591 v592 v577
  let v614 : Index := Scalar.indexCast v593
  let c256_i32_597 : BitVec 32 := 256#32
  let c0_i32_598 : BitVec 32 := 0#32
  let v594 : BitVec 1 := Scalar.cmpi .eq c256_i32_597 c0_i32_598
  let c1_i32_599 : BitVec 32 := 1#32
  let v595 : BitVec 32 := Scalar.select v594 c1_i32_599 c256_i32_597
  let v596 : BitVec 32 := Scalar.remsi v576 v595
  let c0_i32_601 : BitVec 32 := 0#32
  let v598 : BitVec 1 := Scalar.cmpi .slt v596 c0_i32_601
  let c0_i32_602 : BitVec 32 := 0#32
  let v599 : BitVec 1 := Scalar.cmpi .slt v595 c0_i32_602
  let v600 : BitVec 1 := Scalar.xori v598 v599
  let c0_i32_600 : BitVec 32 := 0#32
  let v597 : BitVec 1 := Scalar.cmpi .ne v596 c0_i32_600
  let v601 : BitVec 1 := Scalar.andi v600 v597
  let v602 : BitVec 32 := Scalar.addi v596 v595
  let v603 : BitVec 32 := Scalar.select v601 v602 v596
  let v604 : BitVec 32 := v603
  let v615 : Index := Scalar.indexCast v604
  ![v613.toNat, v614.toNat, v615.toNat]
def k0_off89 (i : grid0.Coords) : Fin 4 → Nat :=
  let c0_i32_384 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c168_i32 : BitVec 32 := 168#32
  let c0_i32_385 : BitVec 32 := 0#32
  ![0, v2.toNat, 168, 0]
def k0_off90 (i : grid0.Coords) : Fin 3 → Nat :=
  let c0_i32_388 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c47104_i32 : BitVec 32 := 47104#32
  ![0, v2.toNat, 47104]
@[reducible] def k0_t23_loop : Scf.Loop 32 :=
  let c0_i32_398 : BitVec 32 := 0#32
  let c1024_i32_399 : BitVec 32 := 1024#32
  let v385 : BitVec 32 := Scalar.addi c0_i32_398 c1024_i32_399
  let c1_i32_400 : BitVec 32 := 1#32
  ⟨c0_i32_398, v385, c1_i32_400⟩
def k0_mult45 (k0_t23 : Fin k0_t23_loop.trips) : BitVec 32 :=
  let c0_i32_577 : BitVec 32 := 0#32
  let c0_i32_398 : BitVec 32 := 0#32
  let c1_i32_400 : BitVec 32 := 1#32
  let arg12 : BitVec 32 := Scf.iv c0_i32_398 c1_i32_400 k0_t23
  let c16_i32_576 : BitVec 32 := 16#32
  let v547 : BitVec 32 := Scalar.muli arg12 c16_i32_576
  let v548 : BitVec 32 := Scalar.addi c0_i32_577 v547
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  v575
def k0_mult46 (k0_t23 : Fin k0_t23_loop.trips) : BitVec 32 :=
  let c0_i32_577 : BitVec 32 := 0#32
  let c0_i32_398 : BitVec 32 := 0#32
  let c1_i32_400 : BitVec 32 := 1#32
  let arg12 : BitVec 32 := Scf.iv c0_i32_398 c1_i32_400 k0_t23
  let c16_i32_576 : BitVec 32 := 16#32
  let v547 : BitVec 32 := Scalar.muli arg12 c16_i32_576
  let v548 : BitVec 32 := Scalar.addi c0_i32_577 v547
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  let v576 : BitVec 32 := v575
  let c256_i32_597 : BitVec 32 := 256#32
  let c0_i32_598 : BitVec 32 := 0#32
  let v594 : BitVec 1 := Scalar.cmpi .eq c256_i32_597 c0_i32_598
  let c1_i32_599 : BitVec 32 := 1#32
  let v595 : BitVec 32 := Scalar.select v594 c1_i32_599 c256_i32_597
  let v596 : BitVec 32 := Scalar.remsi v576 v595
  let c0_i32_601 : BitVec 32 := 0#32
  let v598 : BitVec 1 := Scalar.cmpi .slt v596 c0_i32_601
  let c0_i32_602 : BitVec 32 := 0#32
  let v599 : BitVec 1 := Scalar.cmpi .slt v595 c0_i32_602
  let v600 : BitVec 1 := Scalar.xori v598 v599
  let c0_i32_600 : BitVec 32 := 0#32
  let v597 : BitVec 1 := Scalar.cmpi .ne v596 c0_i32_600
  let v601 : BitVec 1 := Scalar.andi v600 v597
  let v602 : BitVec 32 := Scalar.addi v596 v595
  let v603 : BitVec 32 := Scalar.select v601 v602 v596
  v603
def k0_off91 (k0_t23 : Fin k0_t23_loop.trips) : Fin 2 → Nat :=
  let c0_i32_577 : BitVec 32 := 0#32
  let c0_i32_398 : BitVec 32 := 0#32
  let c1_i32_400 : BitVec 32 := 1#32
  let arg12 : BitVec 32 := Scf.iv c0_i32_398 c1_i32_400 k0_t23
  let c16_i32_576 : BitVec 32 := 16#32
  let v547 : BitVec 32 := Scalar.muli arg12 c16_i32_576
  let v548 : BitVec 32 := Scalar.addi c0_i32_577 v547
  let c0_i32_579 : BitVec 32 := 0#32
  let v550 : BitVec 1 := Scalar.cmpi .sgt v548 c0_i32_579
  let v551 : BitVec 32 := Scalar.extui v550
  let c0_i32_580 : BitVec 32 := 0#32
  let v552 : BitVec 1 := Scalar.cmpi .slt v548 c0_i32_580
  let v553 : BitVec 32 := Scalar.extui v552
  let v554 : BitVec 32 := Scalar.subi v551 v553
  let c2048_i32_578 : BitVec 32 := 2048#32
  let c0_i32_581 : BitVec 32 := 0#32
  let v555 : BitVec 1 := Scalar.cmpi .sgt c2048_i32_578 c0_i32_581
  let v556 : BitVec 32 := Scalar.extui v555
  let c0_i32_582 : BitVec 32 := 0#32
  let v557 : BitVec 1 := Scalar.cmpi .slt c2048_i32_578 c0_i32_582
  let v558 : BitVec 32 := Scalar.extui v557
  let v559 : BitVec 32 := Scalar.subi v556 v558
  let v560 : BitVec 1 := Scalar.cmpi .ne v554 v559
  let v561 : BitVec 32 := Scalar.remsi v548 c2048_i32_578
  let c0_i32_583 : BitVec 32 := 0#32
  let v562 : BitVec 1 := Scalar.cmpi .ne v561 c0_i32_583
  let v563 : BitVec 1 := Scalar.andi v560 v562
  let v549 : BitVec 32 := Scalar.divsi v548 c2048_i32_578
  let c1_i32_584 : BitVec 32 := 1#32
  let v564 : BitVec 32 := Scalar.subi v549 c1_i32_584
  let v565 : BitVec 32 := Scalar.select v563 v564 v549
  let v605 : Index := Scalar.indexCast v565
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  let v576 : BitVec 32 := v575
  let v606 : Index := Scalar.indexCast v576
  ![v605.toNat, v606.toNat]
def k0_off92 (k0_t23 : Fin k0_t23_loop.trips) : Fin 3 → Nat :=
  let c0_i32_577 : BitVec 32 := 0#32
  let c0_i32_398 : BitVec 32 := 0#32
  let c1_i32_400 : BitVec 32 := 1#32
  let arg12 : BitVec 32 := Scf.iv c0_i32_398 c1_i32_400 k0_t23
  let c16_i32_576 : BitVec 32 := 16#32
  let v547 : BitVec 32 := Scalar.muli arg12 c16_i32_576
  let v548 : BitVec 32 := Scalar.addi c0_i32_577 v547
  let c0_i32_579 : BitVec 32 := 0#32
  let v550 : BitVec 1 := Scalar.cmpi .sgt v548 c0_i32_579
  let v551 : BitVec 32 := Scalar.extui v550
  let c0_i32_580 : BitVec 32 := 0#32
  let v552 : BitVec 1 := Scalar.cmpi .slt v548 c0_i32_580
  let v553 : BitVec 32 := Scalar.extui v552
  let v554 : BitVec 32 := Scalar.subi v551 v553
  let c2048_i32_578 : BitVec 32 := 2048#32
  let c0_i32_581 : BitVec 32 := 0#32
  let v555 : BitVec 1 := Scalar.cmpi .sgt c2048_i32_578 c0_i32_581
  let v556 : BitVec 32 := Scalar.extui v555
  let c0_i32_582 : BitVec 32 := 0#32
  let v557 : BitVec 1 := Scalar.cmpi .slt c2048_i32_578 c0_i32_582
  let v558 : BitVec 32 := Scalar.extui v557
  let v559 : BitVec 32 := Scalar.subi v556 v558
  let v560 : BitVec 1 := Scalar.cmpi .ne v554 v559
  let v561 : BitVec 32 := Scalar.remsi v548 c2048_i32_578
  let c0_i32_583 : BitVec 32 := 0#32
  let v562 : BitVec 1 := Scalar.cmpi .ne v561 c0_i32_583
  let v563 : BitVec 1 := Scalar.andi v560 v562
  let v549 : BitVec 32 := Scalar.divsi v548 c2048_i32_578
  let c1_i32_584 : BitVec 32 := 1#32
  let v564 : BitVec 32 := Scalar.subi v549 c1_i32_584
  let v565 : BitVec 32 := Scalar.select v563 v564 v549
  let v613 : Index := Scalar.indexCast v565
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  let v576 : BitVec 32 := v575
  let c0_i32_591 : BitVec 32 := 0#32
  let v578 : BitVec 1 := Scalar.cmpi .sgt v576 c0_i32_591
  let v579 : BitVec 32 := Scalar.extui v578
  let c0_i32_592 : BitVec 32 := 0#32
  let v580 : BitVec 1 := Scalar.cmpi .slt v576 c0_i32_592
  let v581 : BitVec 32 := Scalar.extui v580
  let v582 : BitVec 32 := Scalar.subi v579 v581
  let c256_i32 : BitVec 32 := 256#32
  let c0_i32_593 : BitVec 32 := 0#32
  let v583 : BitVec 1 := Scalar.cmpi .sgt c256_i32 c0_i32_593
  let v584 : BitVec 32 := Scalar.extui v583
  let c0_i32_594 : BitVec 32 := 0#32
  let v585 : BitVec 1 := Scalar.cmpi .slt c256_i32 c0_i32_594
  let v586 : BitVec 32 := Scalar.extui v585
  let v587 : BitVec 32 := Scalar.subi v584 v586
  let v588 : BitVec 1 := Scalar.cmpi .ne v582 v587
  let v589 : BitVec 32 := Scalar.remsi v576 c256_i32
  let c0_i32_595 : BitVec 32 := 0#32
  let v590 : BitVec 1 := Scalar.cmpi .ne v589 c0_i32_595
  let v591 : BitVec 1 := Scalar.andi v588 v590
  let v577 : BitVec 32 := Scalar.divsi v576 c256_i32
  let c1_i32_596 : BitVec 32 := 1#32
  let v592 : BitVec 32 := Scalar.subi v577 c1_i32_596
  let v593 : BitVec 32 := Scalar.select v591 v592 v577
  let v614 : Index := Scalar.indexCast v593
  let c256_i32_597 : BitVec 32 := 256#32
  let c0_i32_598 : BitVec 32 := 0#32
  let v594 : BitVec 1 := Scalar.cmpi .eq c256_i32_597 c0_i32_598
  let c1_i32_599 : BitVec 32 := 1#32
  let v595 : BitVec 32 := Scalar.select v594 c1_i32_599 c256_i32_597
  let v596 : BitVec 32 := Scalar.remsi v576 v595
  let c0_i32_601 : BitVec 32 := 0#32
  let v598 : BitVec 1 := Scalar.cmpi .slt v596 c0_i32_601
  let c0_i32_602 : BitVec 32 := 0#32
  let v599 : BitVec 1 := Scalar.cmpi .slt v595 c0_i32_602
  let v600 : BitVec 1 := Scalar.xori v598 v599
  let c0_i32_600 : BitVec 32 := 0#32
  let v597 : BitVec 1 := Scalar.cmpi .ne v596 c0_i32_600
  let v601 : BitVec 1 := Scalar.andi v600 v597
  let v602 : BitVec 32 := Scalar.addi v596 v595
  let v603 : BitVec 32 := Scalar.select v601 v602 v596
  let v604 : BitVec 32 := v603
  let v615 : Index := Scalar.indexCast v604
  ![v613.toNat, v614.toNat, v615.toNat]
def k0_off93 (i : grid0.Coords) : Fin 4 → Nat :=
  let c0_i32_402 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c176_i32 : BitVec 32 := 176#32
  let c0_i32_403 : BitVec 32 := 0#32
  ![0, v2.toNat, 176, 0]
def k0_off94 (i : grid0.Coords) : Fin 3 → Nat :=
  let c0_i32_406 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c49152_i32 : BitVec 32 := 49152#32
  ![0, v2.toNat, 49152]
@[reducible] def k0_t24_loop : Scf.Loop 32 :=
  let c0_i32_416 : BitVec 32 := 0#32
  let c1024_i32_417 : BitVec 32 := 1024#32
  let v402 : BitVec 32 := Scalar.addi c0_i32_416 c1024_i32_417
  let c1_i32_418 : BitVec 32 := 1#32
  ⟨c0_i32_416, v402, c1_i32_418⟩
def k0_mult47 (k0_t24 : Fin k0_t24_loop.trips) : BitVec 32 :=
  let c0_i32_577 : BitVec 32 := 0#32
  let c0_i32_416 : BitVec 32 := 0#32
  let c1_i32_418 : BitVec 32 := 1#32
  let arg12 : BitVec 32 := Scf.iv c0_i32_416 c1_i32_418 k0_t24
  let c16_i32_576 : BitVec 32 := 16#32
  let v547 : BitVec 32 := Scalar.muli arg12 c16_i32_576
  let v548 : BitVec 32 := Scalar.addi c0_i32_577 v547
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  v575
def k0_mult48 (k0_t24 : Fin k0_t24_loop.trips) : BitVec 32 :=
  let c0_i32_577 : BitVec 32 := 0#32
  let c0_i32_416 : BitVec 32 := 0#32
  let c1_i32_418 : BitVec 32 := 1#32
  let arg12 : BitVec 32 := Scf.iv c0_i32_416 c1_i32_418 k0_t24
  let c16_i32_576 : BitVec 32 := 16#32
  let v547 : BitVec 32 := Scalar.muli arg12 c16_i32_576
  let v548 : BitVec 32 := Scalar.addi c0_i32_577 v547
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  let v576 : BitVec 32 := v575
  let c256_i32_597 : BitVec 32 := 256#32
  let c0_i32_598 : BitVec 32 := 0#32
  let v594 : BitVec 1 := Scalar.cmpi .eq c256_i32_597 c0_i32_598
  let c1_i32_599 : BitVec 32 := 1#32
  let v595 : BitVec 32 := Scalar.select v594 c1_i32_599 c256_i32_597
  let v596 : BitVec 32 := Scalar.remsi v576 v595
  let c0_i32_601 : BitVec 32 := 0#32
  let v598 : BitVec 1 := Scalar.cmpi .slt v596 c0_i32_601
  let c0_i32_602 : BitVec 32 := 0#32
  let v599 : BitVec 1 := Scalar.cmpi .slt v595 c0_i32_602
  let v600 : BitVec 1 := Scalar.xori v598 v599
  let c0_i32_600 : BitVec 32 := 0#32
  let v597 : BitVec 1 := Scalar.cmpi .ne v596 c0_i32_600
  let v601 : BitVec 1 := Scalar.andi v600 v597
  let v602 : BitVec 32 := Scalar.addi v596 v595
  let v603 : BitVec 32 := Scalar.select v601 v602 v596
  v603
def k0_off95 (k0_t24 : Fin k0_t24_loop.trips) : Fin 2 → Nat :=
  let c0_i32_577 : BitVec 32 := 0#32
  let c0_i32_416 : BitVec 32 := 0#32
  let c1_i32_418 : BitVec 32 := 1#32
  let arg12 : BitVec 32 := Scf.iv c0_i32_416 c1_i32_418 k0_t24
  let c16_i32_576 : BitVec 32 := 16#32
  let v547 : BitVec 32 := Scalar.muli arg12 c16_i32_576
  let v548 : BitVec 32 := Scalar.addi c0_i32_577 v547
  let c0_i32_579 : BitVec 32 := 0#32
  let v550 : BitVec 1 := Scalar.cmpi .sgt v548 c0_i32_579
  let v551 : BitVec 32 := Scalar.extui v550
  let c0_i32_580 : BitVec 32 := 0#32
  let v552 : BitVec 1 := Scalar.cmpi .slt v548 c0_i32_580
  let v553 : BitVec 32 := Scalar.extui v552
  let v554 : BitVec 32 := Scalar.subi v551 v553
  let c2048_i32_578 : BitVec 32 := 2048#32
  let c0_i32_581 : BitVec 32 := 0#32
  let v555 : BitVec 1 := Scalar.cmpi .sgt c2048_i32_578 c0_i32_581
  let v556 : BitVec 32 := Scalar.extui v555
  let c0_i32_582 : BitVec 32 := 0#32
  let v557 : BitVec 1 := Scalar.cmpi .slt c2048_i32_578 c0_i32_582
  let v558 : BitVec 32 := Scalar.extui v557
  let v559 : BitVec 32 := Scalar.subi v556 v558
  let v560 : BitVec 1 := Scalar.cmpi .ne v554 v559
  let v561 : BitVec 32 := Scalar.remsi v548 c2048_i32_578
  let c0_i32_583 : BitVec 32 := 0#32
  let v562 : BitVec 1 := Scalar.cmpi .ne v561 c0_i32_583
  let v563 : BitVec 1 := Scalar.andi v560 v562
  let v549 : BitVec 32 := Scalar.divsi v548 c2048_i32_578
  let c1_i32_584 : BitVec 32 := 1#32
  let v564 : BitVec 32 := Scalar.subi v549 c1_i32_584
  let v565 : BitVec 32 := Scalar.select v563 v564 v549
  let v605 : Index := Scalar.indexCast v565
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  let v576 : BitVec 32 := v575
  let v606 : Index := Scalar.indexCast v576
  ![v605.toNat, v606.toNat]
def k0_off96 (k0_t24 : Fin k0_t24_loop.trips) : Fin 3 → Nat :=
  let c0_i32_577 : BitVec 32 := 0#32
  let c0_i32_416 : BitVec 32 := 0#32
  let c1_i32_418 : BitVec 32 := 1#32
  let arg12 : BitVec 32 := Scf.iv c0_i32_416 c1_i32_418 k0_t24
  let c16_i32_576 : BitVec 32 := 16#32
  let v547 : BitVec 32 := Scalar.muli arg12 c16_i32_576
  let v548 : BitVec 32 := Scalar.addi c0_i32_577 v547
  let c0_i32_579 : BitVec 32 := 0#32
  let v550 : BitVec 1 := Scalar.cmpi .sgt v548 c0_i32_579
  let v551 : BitVec 32 := Scalar.extui v550
  let c0_i32_580 : BitVec 32 := 0#32
  let v552 : BitVec 1 := Scalar.cmpi .slt v548 c0_i32_580
  let v553 : BitVec 32 := Scalar.extui v552
  let v554 : BitVec 32 := Scalar.subi v551 v553
  let c2048_i32_578 : BitVec 32 := 2048#32
  let c0_i32_581 : BitVec 32 := 0#32
  let v555 : BitVec 1 := Scalar.cmpi .sgt c2048_i32_578 c0_i32_581
  let v556 : BitVec 32 := Scalar.extui v555
  let c0_i32_582 : BitVec 32 := 0#32
  let v557 : BitVec 1 := Scalar.cmpi .slt c2048_i32_578 c0_i32_582
  let v558 : BitVec 32 := Scalar.extui v557
  let v559 : BitVec 32 := Scalar.subi v556 v558
  let v560 : BitVec 1 := Scalar.cmpi .ne v554 v559
  let v561 : BitVec 32 := Scalar.remsi v548 c2048_i32_578
  let c0_i32_583 : BitVec 32 := 0#32
  let v562 : BitVec 1 := Scalar.cmpi .ne v561 c0_i32_583
  let v563 : BitVec 1 := Scalar.andi v560 v562
  let v549 : BitVec 32 := Scalar.divsi v548 c2048_i32_578
  let c1_i32_584 : BitVec 32 := 1#32
  let v564 : BitVec 32 := Scalar.subi v549 c1_i32_584
  let v565 : BitVec 32 := Scalar.select v563 v564 v549
  let v613 : Index := Scalar.indexCast v565
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  let v576 : BitVec 32 := v575
  let c0_i32_591 : BitVec 32 := 0#32
  let v578 : BitVec 1 := Scalar.cmpi .sgt v576 c0_i32_591
  let v579 : BitVec 32 := Scalar.extui v578
  let c0_i32_592 : BitVec 32 := 0#32
  let v580 : BitVec 1 := Scalar.cmpi .slt v576 c0_i32_592
  let v581 : BitVec 32 := Scalar.extui v580
  let v582 : BitVec 32 := Scalar.subi v579 v581
  let c256_i32 : BitVec 32 := 256#32
  let c0_i32_593 : BitVec 32 := 0#32
  let v583 : BitVec 1 := Scalar.cmpi .sgt c256_i32 c0_i32_593
  let v584 : BitVec 32 := Scalar.extui v583
  let c0_i32_594 : BitVec 32 := 0#32
  let v585 : BitVec 1 := Scalar.cmpi .slt c256_i32 c0_i32_594
  let v586 : BitVec 32 := Scalar.extui v585
  let v587 : BitVec 32 := Scalar.subi v584 v586
  let v588 : BitVec 1 := Scalar.cmpi .ne v582 v587
  let v589 : BitVec 32 := Scalar.remsi v576 c256_i32
  let c0_i32_595 : BitVec 32 := 0#32
  let v590 : BitVec 1 := Scalar.cmpi .ne v589 c0_i32_595
  let v591 : BitVec 1 := Scalar.andi v588 v590
  let v577 : BitVec 32 := Scalar.divsi v576 c256_i32
  let c1_i32_596 : BitVec 32 := 1#32
  let v592 : BitVec 32 := Scalar.subi v577 c1_i32_596
  let v593 : BitVec 32 := Scalar.select v591 v592 v577
  let v614 : Index := Scalar.indexCast v593
  let c256_i32_597 : BitVec 32 := 256#32
  let c0_i32_598 : BitVec 32 := 0#32
  let v594 : BitVec 1 := Scalar.cmpi .eq c256_i32_597 c0_i32_598
  let c1_i32_599 : BitVec 32 := 1#32
  let v595 : BitVec 32 := Scalar.select v594 c1_i32_599 c256_i32_597
  let v596 : BitVec 32 := Scalar.remsi v576 v595
  let c0_i32_601 : BitVec 32 := 0#32
  let v598 : BitVec 1 := Scalar.cmpi .slt v596 c0_i32_601
  let c0_i32_602 : BitVec 32 := 0#32
  let v599 : BitVec 1 := Scalar.cmpi .slt v595 c0_i32_602
  let v600 : BitVec 1 := Scalar.xori v598 v599
  let c0_i32_600 : BitVec 32 := 0#32
  let v597 : BitVec 1 := Scalar.cmpi .ne v596 c0_i32_600
  let v601 : BitVec 1 := Scalar.andi v600 v597
  let v602 : BitVec 32 := Scalar.addi v596 v595
  let v603 : BitVec 32 := Scalar.select v601 v602 v596
  let v604 : BitVec 32 := v603
  let v615 : Index := Scalar.indexCast v604
  ![v613.toNat, v614.toNat, v615.toNat]
def k0_off97 (i : grid0.Coords) : Fin 4 → Nat :=
  let c0_i32_420 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c184_i32 : BitVec 32 := 184#32
  let c0_i32_421 : BitVec 32 := 0#32
  ![0, v2.toNat, 184, 0]
def k0_off98 (i : grid0.Coords) : Fin 3 → Nat :=
  let c0_i32_424 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c51200_i32 : BitVec 32 := 51200#32
  ![0, v2.toNat, 51200]
@[reducible] def k0_t25_loop : Scf.Loop 32 :=
  let c0_i32_434 : BitVec 32 := 0#32
  let c1024_i32_435 : BitVec 32 := 1024#32
  let v419 : BitVec 32 := Scalar.addi c0_i32_434 c1024_i32_435
  let c1_i32_436 : BitVec 32 := 1#32
  ⟨c0_i32_434, v419, c1_i32_436⟩
def k0_mult49 (k0_t25 : Fin k0_t25_loop.trips) : BitVec 32 :=
  let c0_i32_577 : BitVec 32 := 0#32
  let c0_i32_434 : BitVec 32 := 0#32
  let c1_i32_436 : BitVec 32 := 1#32
  let arg12 : BitVec 32 := Scf.iv c0_i32_434 c1_i32_436 k0_t25
  let c16_i32_576 : BitVec 32 := 16#32
  let v547 : BitVec 32 := Scalar.muli arg12 c16_i32_576
  let v548 : BitVec 32 := Scalar.addi c0_i32_577 v547
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  v575
def k0_mult50 (k0_t25 : Fin k0_t25_loop.trips) : BitVec 32 :=
  let c0_i32_577 : BitVec 32 := 0#32
  let c0_i32_434 : BitVec 32 := 0#32
  let c1_i32_436 : BitVec 32 := 1#32
  let arg12 : BitVec 32 := Scf.iv c0_i32_434 c1_i32_436 k0_t25
  let c16_i32_576 : BitVec 32 := 16#32
  let v547 : BitVec 32 := Scalar.muli arg12 c16_i32_576
  let v548 : BitVec 32 := Scalar.addi c0_i32_577 v547
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  let v576 : BitVec 32 := v575
  let c256_i32_597 : BitVec 32 := 256#32
  let c0_i32_598 : BitVec 32 := 0#32
  let v594 : BitVec 1 := Scalar.cmpi .eq c256_i32_597 c0_i32_598
  let c1_i32_599 : BitVec 32 := 1#32
  let v595 : BitVec 32 := Scalar.select v594 c1_i32_599 c256_i32_597
  let v596 : BitVec 32 := Scalar.remsi v576 v595
  let c0_i32_601 : BitVec 32 := 0#32
  let v598 : BitVec 1 := Scalar.cmpi .slt v596 c0_i32_601
  let c0_i32_602 : BitVec 32 := 0#32
  let v599 : BitVec 1 := Scalar.cmpi .slt v595 c0_i32_602
  let v600 : BitVec 1 := Scalar.xori v598 v599
  let c0_i32_600 : BitVec 32 := 0#32
  let v597 : BitVec 1 := Scalar.cmpi .ne v596 c0_i32_600
  let v601 : BitVec 1 := Scalar.andi v600 v597
  let v602 : BitVec 32 := Scalar.addi v596 v595
  let v603 : BitVec 32 := Scalar.select v601 v602 v596
  v603
def k0_off99 (k0_t25 : Fin k0_t25_loop.trips) : Fin 2 → Nat :=
  let c0_i32_577 : BitVec 32 := 0#32
  let c0_i32_434 : BitVec 32 := 0#32
  let c1_i32_436 : BitVec 32 := 1#32
  let arg12 : BitVec 32 := Scf.iv c0_i32_434 c1_i32_436 k0_t25
  let c16_i32_576 : BitVec 32 := 16#32
  let v547 : BitVec 32 := Scalar.muli arg12 c16_i32_576
  let v548 : BitVec 32 := Scalar.addi c0_i32_577 v547
  let c0_i32_579 : BitVec 32 := 0#32
  let v550 : BitVec 1 := Scalar.cmpi .sgt v548 c0_i32_579
  let v551 : BitVec 32 := Scalar.extui v550
  let c0_i32_580 : BitVec 32 := 0#32
  let v552 : BitVec 1 := Scalar.cmpi .slt v548 c0_i32_580
  let v553 : BitVec 32 := Scalar.extui v552
  let v554 : BitVec 32 := Scalar.subi v551 v553
  let c2048_i32_578 : BitVec 32 := 2048#32
  let c0_i32_581 : BitVec 32 := 0#32
  let v555 : BitVec 1 := Scalar.cmpi .sgt c2048_i32_578 c0_i32_581
  let v556 : BitVec 32 := Scalar.extui v555
  let c0_i32_582 : BitVec 32 := 0#32
  let v557 : BitVec 1 := Scalar.cmpi .slt c2048_i32_578 c0_i32_582
  let v558 : BitVec 32 := Scalar.extui v557
  let v559 : BitVec 32 := Scalar.subi v556 v558
  let v560 : BitVec 1 := Scalar.cmpi .ne v554 v559
  let v561 : BitVec 32 := Scalar.remsi v548 c2048_i32_578
  let c0_i32_583 : BitVec 32 := 0#32
  let v562 : BitVec 1 := Scalar.cmpi .ne v561 c0_i32_583
  let v563 : BitVec 1 := Scalar.andi v560 v562
  let v549 : BitVec 32 := Scalar.divsi v548 c2048_i32_578
  let c1_i32_584 : BitVec 32 := 1#32
  let v564 : BitVec 32 := Scalar.subi v549 c1_i32_584
  let v565 : BitVec 32 := Scalar.select v563 v564 v549
  let v605 : Index := Scalar.indexCast v565
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  let v576 : BitVec 32 := v575
  let v606 : Index := Scalar.indexCast v576
  ![v605.toNat, v606.toNat]
def k0_off100 (k0_t25 : Fin k0_t25_loop.trips) : Fin 3 → Nat :=
  let c0_i32_577 : BitVec 32 := 0#32
  let c0_i32_434 : BitVec 32 := 0#32
  let c1_i32_436 : BitVec 32 := 1#32
  let arg12 : BitVec 32 := Scf.iv c0_i32_434 c1_i32_436 k0_t25
  let c16_i32_576 : BitVec 32 := 16#32
  let v547 : BitVec 32 := Scalar.muli arg12 c16_i32_576
  let v548 : BitVec 32 := Scalar.addi c0_i32_577 v547
  let c0_i32_579 : BitVec 32 := 0#32
  let v550 : BitVec 1 := Scalar.cmpi .sgt v548 c0_i32_579
  let v551 : BitVec 32 := Scalar.extui v550
  let c0_i32_580 : BitVec 32 := 0#32
  let v552 : BitVec 1 := Scalar.cmpi .slt v548 c0_i32_580
  let v553 : BitVec 32 := Scalar.extui v552
  let v554 : BitVec 32 := Scalar.subi v551 v553
  let c2048_i32_578 : BitVec 32 := 2048#32
  let c0_i32_581 : BitVec 32 := 0#32
  let v555 : BitVec 1 := Scalar.cmpi .sgt c2048_i32_578 c0_i32_581
  let v556 : BitVec 32 := Scalar.extui v555
  let c0_i32_582 : BitVec 32 := 0#32
  let v557 : BitVec 1 := Scalar.cmpi .slt c2048_i32_578 c0_i32_582
  let v558 : BitVec 32 := Scalar.extui v557
  let v559 : BitVec 32 := Scalar.subi v556 v558
  let v560 : BitVec 1 := Scalar.cmpi .ne v554 v559
  let v561 : BitVec 32 := Scalar.remsi v548 c2048_i32_578
  let c0_i32_583 : BitVec 32 := 0#32
  let v562 : BitVec 1 := Scalar.cmpi .ne v561 c0_i32_583
  let v563 : BitVec 1 := Scalar.andi v560 v562
  let v549 : BitVec 32 := Scalar.divsi v548 c2048_i32_578
  let c1_i32_584 : BitVec 32 := 1#32
  let v564 : BitVec 32 := Scalar.subi v549 c1_i32_584
  let v565 : BitVec 32 := Scalar.select v563 v564 v549
  let v613 : Index := Scalar.indexCast v565
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  let v576 : BitVec 32 := v575
  let c0_i32_591 : BitVec 32 := 0#32
  let v578 : BitVec 1 := Scalar.cmpi .sgt v576 c0_i32_591
  let v579 : BitVec 32 := Scalar.extui v578
  let c0_i32_592 : BitVec 32 := 0#32
  let v580 : BitVec 1 := Scalar.cmpi .slt v576 c0_i32_592
  let v581 : BitVec 32 := Scalar.extui v580
  let v582 : BitVec 32 := Scalar.subi v579 v581
  let c256_i32 : BitVec 32 := 256#32
  let c0_i32_593 : BitVec 32 := 0#32
  let v583 : BitVec 1 := Scalar.cmpi .sgt c256_i32 c0_i32_593
  let v584 : BitVec 32 := Scalar.extui v583
  let c0_i32_594 : BitVec 32 := 0#32
  let v585 : BitVec 1 := Scalar.cmpi .slt c256_i32 c0_i32_594
  let v586 : BitVec 32 := Scalar.extui v585
  let v587 : BitVec 32 := Scalar.subi v584 v586
  let v588 : BitVec 1 := Scalar.cmpi .ne v582 v587
  let v589 : BitVec 32 := Scalar.remsi v576 c256_i32
  let c0_i32_595 : BitVec 32 := 0#32
  let v590 : BitVec 1 := Scalar.cmpi .ne v589 c0_i32_595
  let v591 : BitVec 1 := Scalar.andi v588 v590
  let v577 : BitVec 32 := Scalar.divsi v576 c256_i32
  let c1_i32_596 : BitVec 32 := 1#32
  let v592 : BitVec 32 := Scalar.subi v577 c1_i32_596
  let v593 : BitVec 32 := Scalar.select v591 v592 v577
  let v614 : Index := Scalar.indexCast v593
  let c256_i32_597 : BitVec 32 := 256#32
  let c0_i32_598 : BitVec 32 := 0#32
  let v594 : BitVec 1 := Scalar.cmpi .eq c256_i32_597 c0_i32_598
  let c1_i32_599 : BitVec 32 := 1#32
  let v595 : BitVec 32 := Scalar.select v594 c1_i32_599 c256_i32_597
  let v596 : BitVec 32 := Scalar.remsi v576 v595
  let c0_i32_601 : BitVec 32 := 0#32
  let v598 : BitVec 1 := Scalar.cmpi .slt v596 c0_i32_601
  let c0_i32_602 : BitVec 32 := 0#32
  let v599 : BitVec 1 := Scalar.cmpi .slt v595 c0_i32_602
  let v600 : BitVec 1 := Scalar.xori v598 v599
  let c0_i32_600 : BitVec 32 := 0#32
  let v597 : BitVec 1 := Scalar.cmpi .ne v596 c0_i32_600
  let v601 : BitVec 1 := Scalar.andi v600 v597
  let v602 : BitVec 32 := Scalar.addi v596 v595
  let v603 : BitVec 32 := Scalar.select v601 v602 v596
  let v604 : BitVec 32 := v603
  let v615 : Index := Scalar.indexCast v604
  ![v613.toNat, v614.toNat, v615.toNat]
def k0_off101 (i : grid0.Coords) : Fin 4 → Nat :=
  let c0_i32_438 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c192_i32 : BitVec 32 := 192#32
  let c0_i32_439 : BitVec 32 := 0#32
  ![0, v2.toNat, 192, 0]
def k0_off102 (i : grid0.Coords) : Fin 3 → Nat :=
  let c0_i32_442 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c53248_i32 : BitVec 32 := 53248#32
  ![0, v2.toNat, 53248]
@[reducible] def k0_t26_loop : Scf.Loop 32 :=
  let c0_i32_452 : BitVec 32 := 0#32
  let c1024_i32_453 : BitVec 32 := 1024#32
  let v436 : BitVec 32 := Scalar.addi c0_i32_452 c1024_i32_453
  let c1_i32_454 : BitVec 32 := 1#32
  ⟨c0_i32_452, v436, c1_i32_454⟩
def k0_mult51 (k0_t26 : Fin k0_t26_loop.trips) : BitVec 32 :=
  let c0_i32_577 : BitVec 32 := 0#32
  let c0_i32_452 : BitVec 32 := 0#32
  let c1_i32_454 : BitVec 32 := 1#32
  let arg12 : BitVec 32 := Scf.iv c0_i32_452 c1_i32_454 k0_t26
  let c16_i32_576 : BitVec 32 := 16#32
  let v547 : BitVec 32 := Scalar.muli arg12 c16_i32_576
  let v548 : BitVec 32 := Scalar.addi c0_i32_577 v547
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  v575
def k0_mult52 (k0_t26 : Fin k0_t26_loop.trips) : BitVec 32 :=
  let c0_i32_577 : BitVec 32 := 0#32
  let c0_i32_452 : BitVec 32 := 0#32
  let c1_i32_454 : BitVec 32 := 1#32
  let arg12 : BitVec 32 := Scf.iv c0_i32_452 c1_i32_454 k0_t26
  let c16_i32_576 : BitVec 32 := 16#32
  let v547 : BitVec 32 := Scalar.muli arg12 c16_i32_576
  let v548 : BitVec 32 := Scalar.addi c0_i32_577 v547
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  let v576 : BitVec 32 := v575
  let c256_i32_597 : BitVec 32 := 256#32
  let c0_i32_598 : BitVec 32 := 0#32
  let v594 : BitVec 1 := Scalar.cmpi .eq c256_i32_597 c0_i32_598
  let c1_i32_599 : BitVec 32 := 1#32
  let v595 : BitVec 32 := Scalar.select v594 c1_i32_599 c256_i32_597
  let v596 : BitVec 32 := Scalar.remsi v576 v595
  let c0_i32_601 : BitVec 32 := 0#32
  let v598 : BitVec 1 := Scalar.cmpi .slt v596 c0_i32_601
  let c0_i32_602 : BitVec 32 := 0#32
  let v599 : BitVec 1 := Scalar.cmpi .slt v595 c0_i32_602
  let v600 : BitVec 1 := Scalar.xori v598 v599
  let c0_i32_600 : BitVec 32 := 0#32
  let v597 : BitVec 1 := Scalar.cmpi .ne v596 c0_i32_600
  let v601 : BitVec 1 := Scalar.andi v600 v597
  let v602 : BitVec 32 := Scalar.addi v596 v595
  let v603 : BitVec 32 := Scalar.select v601 v602 v596
  v603
def k0_off103 (k0_t26 : Fin k0_t26_loop.trips) : Fin 2 → Nat :=
  let c0_i32_577 : BitVec 32 := 0#32
  let c0_i32_452 : BitVec 32 := 0#32
  let c1_i32_454 : BitVec 32 := 1#32
  let arg12 : BitVec 32 := Scf.iv c0_i32_452 c1_i32_454 k0_t26
  let c16_i32_576 : BitVec 32 := 16#32
  let v547 : BitVec 32 := Scalar.muli arg12 c16_i32_576
  let v548 : BitVec 32 := Scalar.addi c0_i32_577 v547
  let c0_i32_579 : BitVec 32 := 0#32
  let v550 : BitVec 1 := Scalar.cmpi .sgt v548 c0_i32_579
  let v551 : BitVec 32 := Scalar.extui v550
  let c0_i32_580 : BitVec 32 := 0#32
  let v552 : BitVec 1 := Scalar.cmpi .slt v548 c0_i32_580
  let v553 : BitVec 32 := Scalar.extui v552
  let v554 : BitVec 32 := Scalar.subi v551 v553
  let c2048_i32_578 : BitVec 32 := 2048#32
  let c0_i32_581 : BitVec 32 := 0#32
  let v555 : BitVec 1 := Scalar.cmpi .sgt c2048_i32_578 c0_i32_581
  let v556 : BitVec 32 := Scalar.extui v555
  let c0_i32_582 : BitVec 32 := 0#32
  let v557 : BitVec 1 := Scalar.cmpi .slt c2048_i32_578 c0_i32_582
  let v558 : BitVec 32 := Scalar.extui v557
  let v559 : BitVec 32 := Scalar.subi v556 v558
  let v560 : BitVec 1 := Scalar.cmpi .ne v554 v559
  let v561 : BitVec 32 := Scalar.remsi v548 c2048_i32_578
  let c0_i32_583 : BitVec 32 := 0#32
  let v562 : BitVec 1 := Scalar.cmpi .ne v561 c0_i32_583
  let v563 : BitVec 1 := Scalar.andi v560 v562
  let v549 : BitVec 32 := Scalar.divsi v548 c2048_i32_578
  let c1_i32_584 : BitVec 32 := 1#32
  let v564 : BitVec 32 := Scalar.subi v549 c1_i32_584
  let v565 : BitVec 32 := Scalar.select v563 v564 v549
  let v605 : Index := Scalar.indexCast v565
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  let v576 : BitVec 32 := v575
  let v606 : Index := Scalar.indexCast v576
  ![v605.toNat, v606.toNat]
def k0_off104 (k0_t26 : Fin k0_t26_loop.trips) : Fin 3 → Nat :=
  let c0_i32_577 : BitVec 32 := 0#32
  let c0_i32_452 : BitVec 32 := 0#32
  let c1_i32_454 : BitVec 32 := 1#32
  let arg12 : BitVec 32 := Scf.iv c0_i32_452 c1_i32_454 k0_t26
  let c16_i32_576 : BitVec 32 := 16#32
  let v547 : BitVec 32 := Scalar.muli arg12 c16_i32_576
  let v548 : BitVec 32 := Scalar.addi c0_i32_577 v547
  let c0_i32_579 : BitVec 32 := 0#32
  let v550 : BitVec 1 := Scalar.cmpi .sgt v548 c0_i32_579
  let v551 : BitVec 32 := Scalar.extui v550
  let c0_i32_580 : BitVec 32 := 0#32
  let v552 : BitVec 1 := Scalar.cmpi .slt v548 c0_i32_580
  let v553 : BitVec 32 := Scalar.extui v552
  let v554 : BitVec 32 := Scalar.subi v551 v553
  let c2048_i32_578 : BitVec 32 := 2048#32
  let c0_i32_581 : BitVec 32 := 0#32
  let v555 : BitVec 1 := Scalar.cmpi .sgt c2048_i32_578 c0_i32_581
  let v556 : BitVec 32 := Scalar.extui v555
  let c0_i32_582 : BitVec 32 := 0#32
  let v557 : BitVec 1 := Scalar.cmpi .slt c2048_i32_578 c0_i32_582
  let v558 : BitVec 32 := Scalar.extui v557
  let v559 : BitVec 32 := Scalar.subi v556 v558
  let v560 : BitVec 1 := Scalar.cmpi .ne v554 v559
  let v561 : BitVec 32 := Scalar.remsi v548 c2048_i32_578
  let c0_i32_583 : BitVec 32 := 0#32
  let v562 : BitVec 1 := Scalar.cmpi .ne v561 c0_i32_583
  let v563 : BitVec 1 := Scalar.andi v560 v562
  let v549 : BitVec 32 := Scalar.divsi v548 c2048_i32_578
  let c1_i32_584 : BitVec 32 := 1#32
  let v564 : BitVec 32 := Scalar.subi v549 c1_i32_584
  let v565 : BitVec 32 := Scalar.select v563 v564 v549
  let v613 : Index := Scalar.indexCast v565
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  let v576 : BitVec 32 := v575
  let c0_i32_591 : BitVec 32 := 0#32
  let v578 : BitVec 1 := Scalar.cmpi .sgt v576 c0_i32_591
  let v579 : BitVec 32 := Scalar.extui v578
  let c0_i32_592 : BitVec 32 := 0#32
  let v580 : BitVec 1 := Scalar.cmpi .slt v576 c0_i32_592
  let v581 : BitVec 32 := Scalar.extui v580
  let v582 : BitVec 32 := Scalar.subi v579 v581
  let c256_i32 : BitVec 32 := 256#32
  let c0_i32_593 : BitVec 32 := 0#32
  let v583 : BitVec 1 := Scalar.cmpi .sgt c256_i32 c0_i32_593
  let v584 : BitVec 32 := Scalar.extui v583
  let c0_i32_594 : BitVec 32 := 0#32
  let v585 : BitVec 1 := Scalar.cmpi .slt c256_i32 c0_i32_594
  let v586 : BitVec 32 := Scalar.extui v585
  let v587 : BitVec 32 := Scalar.subi v584 v586
  let v588 : BitVec 1 := Scalar.cmpi .ne v582 v587
  let v589 : BitVec 32 := Scalar.remsi v576 c256_i32
  let c0_i32_595 : BitVec 32 := 0#32
  let v590 : BitVec 1 := Scalar.cmpi .ne v589 c0_i32_595
  let v591 : BitVec 1 := Scalar.andi v588 v590
  let v577 : BitVec 32 := Scalar.divsi v576 c256_i32
  let c1_i32_596 : BitVec 32 := 1#32
  let v592 : BitVec 32 := Scalar.subi v577 c1_i32_596
  let v593 : BitVec 32 := Scalar.select v591 v592 v577
  let v614 : Index := Scalar.indexCast v593
  let c256_i32_597 : BitVec 32 := 256#32
  let c0_i32_598 : BitVec 32 := 0#32
  let v594 : BitVec 1 := Scalar.cmpi .eq c256_i32_597 c0_i32_598
  let c1_i32_599 : BitVec 32 := 1#32
  let v595 : BitVec 32 := Scalar.select v594 c1_i32_599 c256_i32_597
  let v596 : BitVec 32 := Scalar.remsi v576 v595
  let c0_i32_601 : BitVec 32 := 0#32
  let v598 : BitVec 1 := Scalar.cmpi .slt v596 c0_i32_601
  let c0_i32_602 : BitVec 32 := 0#32
  let v599 : BitVec 1 := Scalar.cmpi .slt v595 c0_i32_602
  let v600 : BitVec 1 := Scalar.xori v598 v599
  let c0_i32_600 : BitVec 32 := 0#32
  let v597 : BitVec 1 := Scalar.cmpi .ne v596 c0_i32_600
  let v601 : BitVec 1 := Scalar.andi v600 v597
  let v602 : BitVec 32 := Scalar.addi v596 v595
  let v603 : BitVec 32 := Scalar.select v601 v602 v596
  let v604 : BitVec 32 := v603
  let v615 : Index := Scalar.indexCast v604
  ![v613.toNat, v614.toNat, v615.toNat]
def k0_off105 (i : grid0.Coords) : Fin 4 → Nat :=
  let c0_i32_456 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c200_i32 : BitVec 32 := 200#32
  let c0_i32_457 : BitVec 32 := 0#32
  ![0, v2.toNat, 200, 0]
def k0_off106 (i : grid0.Coords) : Fin 3 → Nat :=
  let c0_i32_460 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c55296_i32 : BitVec 32 := 55296#32
  ![0, v2.toNat, 55296]
@[reducible] def k0_t27_loop : Scf.Loop 32 :=
  let c0_i32_470 : BitVec 32 := 0#32
  let c1024_i32_471 : BitVec 32 := 1024#32
  let v453 : BitVec 32 := Scalar.addi c0_i32_470 c1024_i32_471
  let c1_i32_472 : BitVec 32 := 1#32
  ⟨c0_i32_470, v453, c1_i32_472⟩
def k0_mult53 (k0_t27 : Fin k0_t27_loop.trips) : BitVec 32 :=
  let c0_i32_577 : BitVec 32 := 0#32
  let c0_i32_470 : BitVec 32 := 0#32
  let c1_i32_472 : BitVec 32 := 1#32
  let arg12 : BitVec 32 := Scf.iv c0_i32_470 c1_i32_472 k0_t27
  let c16_i32_576 : BitVec 32 := 16#32
  let v547 : BitVec 32 := Scalar.muli arg12 c16_i32_576
  let v548 : BitVec 32 := Scalar.addi c0_i32_577 v547
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  v575
def k0_mult54 (k0_t27 : Fin k0_t27_loop.trips) : BitVec 32 :=
  let c0_i32_577 : BitVec 32 := 0#32
  let c0_i32_470 : BitVec 32 := 0#32
  let c1_i32_472 : BitVec 32 := 1#32
  let arg12 : BitVec 32 := Scf.iv c0_i32_470 c1_i32_472 k0_t27
  let c16_i32_576 : BitVec 32 := 16#32
  let v547 : BitVec 32 := Scalar.muli arg12 c16_i32_576
  let v548 : BitVec 32 := Scalar.addi c0_i32_577 v547
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  let v576 : BitVec 32 := v575
  let c256_i32_597 : BitVec 32 := 256#32
  let c0_i32_598 : BitVec 32 := 0#32
  let v594 : BitVec 1 := Scalar.cmpi .eq c256_i32_597 c0_i32_598
  let c1_i32_599 : BitVec 32 := 1#32
  let v595 : BitVec 32 := Scalar.select v594 c1_i32_599 c256_i32_597
  let v596 : BitVec 32 := Scalar.remsi v576 v595
  let c0_i32_601 : BitVec 32 := 0#32
  let v598 : BitVec 1 := Scalar.cmpi .slt v596 c0_i32_601
  let c0_i32_602 : BitVec 32 := 0#32
  let v599 : BitVec 1 := Scalar.cmpi .slt v595 c0_i32_602
  let v600 : BitVec 1 := Scalar.xori v598 v599
  let c0_i32_600 : BitVec 32 := 0#32
  let v597 : BitVec 1 := Scalar.cmpi .ne v596 c0_i32_600
  let v601 : BitVec 1 := Scalar.andi v600 v597
  let v602 : BitVec 32 := Scalar.addi v596 v595
  let v603 : BitVec 32 := Scalar.select v601 v602 v596
  v603
def k0_off107 (k0_t27 : Fin k0_t27_loop.trips) : Fin 2 → Nat :=
  let c0_i32_577 : BitVec 32 := 0#32
  let c0_i32_470 : BitVec 32 := 0#32
  let c1_i32_472 : BitVec 32 := 1#32
  let arg12 : BitVec 32 := Scf.iv c0_i32_470 c1_i32_472 k0_t27
  let c16_i32_576 : BitVec 32 := 16#32
  let v547 : BitVec 32 := Scalar.muli arg12 c16_i32_576
  let v548 : BitVec 32 := Scalar.addi c0_i32_577 v547
  let c0_i32_579 : BitVec 32 := 0#32
  let v550 : BitVec 1 := Scalar.cmpi .sgt v548 c0_i32_579
  let v551 : BitVec 32 := Scalar.extui v550
  let c0_i32_580 : BitVec 32 := 0#32
  let v552 : BitVec 1 := Scalar.cmpi .slt v548 c0_i32_580
  let v553 : BitVec 32 := Scalar.extui v552
  let v554 : BitVec 32 := Scalar.subi v551 v553
  let c2048_i32_578 : BitVec 32 := 2048#32
  let c0_i32_581 : BitVec 32 := 0#32
  let v555 : BitVec 1 := Scalar.cmpi .sgt c2048_i32_578 c0_i32_581
  let v556 : BitVec 32 := Scalar.extui v555
  let c0_i32_582 : BitVec 32 := 0#32
  let v557 : BitVec 1 := Scalar.cmpi .slt c2048_i32_578 c0_i32_582
  let v558 : BitVec 32 := Scalar.extui v557
  let v559 : BitVec 32 := Scalar.subi v556 v558
  let v560 : BitVec 1 := Scalar.cmpi .ne v554 v559
  let v561 : BitVec 32 := Scalar.remsi v548 c2048_i32_578
  let c0_i32_583 : BitVec 32 := 0#32
  let v562 : BitVec 1 := Scalar.cmpi .ne v561 c0_i32_583
  let v563 : BitVec 1 := Scalar.andi v560 v562
  let v549 : BitVec 32 := Scalar.divsi v548 c2048_i32_578
  let c1_i32_584 : BitVec 32 := 1#32
  let v564 : BitVec 32 := Scalar.subi v549 c1_i32_584
  let v565 : BitVec 32 := Scalar.select v563 v564 v549
  let v605 : Index := Scalar.indexCast v565
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  let v576 : BitVec 32 := v575
  let v606 : Index := Scalar.indexCast v576
  ![v605.toNat, v606.toNat]
def k0_off108 (k0_t27 : Fin k0_t27_loop.trips) : Fin 3 → Nat :=
  let c0_i32_577 : BitVec 32 := 0#32
  let c0_i32_470 : BitVec 32 := 0#32
  let c1_i32_472 : BitVec 32 := 1#32
  let arg12 : BitVec 32 := Scf.iv c0_i32_470 c1_i32_472 k0_t27
  let c16_i32_576 : BitVec 32 := 16#32
  let v547 : BitVec 32 := Scalar.muli arg12 c16_i32_576
  let v548 : BitVec 32 := Scalar.addi c0_i32_577 v547
  let c0_i32_579 : BitVec 32 := 0#32
  let v550 : BitVec 1 := Scalar.cmpi .sgt v548 c0_i32_579
  let v551 : BitVec 32 := Scalar.extui v550
  let c0_i32_580 : BitVec 32 := 0#32
  let v552 : BitVec 1 := Scalar.cmpi .slt v548 c0_i32_580
  let v553 : BitVec 32 := Scalar.extui v552
  let v554 : BitVec 32 := Scalar.subi v551 v553
  let c2048_i32_578 : BitVec 32 := 2048#32
  let c0_i32_581 : BitVec 32 := 0#32
  let v555 : BitVec 1 := Scalar.cmpi .sgt c2048_i32_578 c0_i32_581
  let v556 : BitVec 32 := Scalar.extui v555
  let c0_i32_582 : BitVec 32 := 0#32
  let v557 : BitVec 1 := Scalar.cmpi .slt c2048_i32_578 c0_i32_582
  let v558 : BitVec 32 := Scalar.extui v557
  let v559 : BitVec 32 := Scalar.subi v556 v558
  let v560 : BitVec 1 := Scalar.cmpi .ne v554 v559
  let v561 : BitVec 32 := Scalar.remsi v548 c2048_i32_578
  let c0_i32_583 : BitVec 32 := 0#32
  let v562 : BitVec 1 := Scalar.cmpi .ne v561 c0_i32_583
  let v563 : BitVec 1 := Scalar.andi v560 v562
  let v549 : BitVec 32 := Scalar.divsi v548 c2048_i32_578
  let c1_i32_584 : BitVec 32 := 1#32
  let v564 : BitVec 32 := Scalar.subi v549 c1_i32_584
  let v565 : BitVec 32 := Scalar.select v563 v564 v549
  let v613 : Index := Scalar.indexCast v565
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  let v576 : BitVec 32 := v575
  let c0_i32_591 : BitVec 32 := 0#32
  let v578 : BitVec 1 := Scalar.cmpi .sgt v576 c0_i32_591
  let v579 : BitVec 32 := Scalar.extui v578
  let c0_i32_592 : BitVec 32 := 0#32
  let v580 : BitVec 1 := Scalar.cmpi .slt v576 c0_i32_592
  let v581 : BitVec 32 := Scalar.extui v580
  let v582 : BitVec 32 := Scalar.subi v579 v581
  let c256_i32 : BitVec 32 := 256#32
  let c0_i32_593 : BitVec 32 := 0#32
  let v583 : BitVec 1 := Scalar.cmpi .sgt c256_i32 c0_i32_593
  let v584 : BitVec 32 := Scalar.extui v583
  let c0_i32_594 : BitVec 32 := 0#32
  let v585 : BitVec 1 := Scalar.cmpi .slt c256_i32 c0_i32_594
  let v586 : BitVec 32 := Scalar.extui v585
  let v587 : BitVec 32 := Scalar.subi v584 v586
  let v588 : BitVec 1 := Scalar.cmpi .ne v582 v587
  let v589 : BitVec 32 := Scalar.remsi v576 c256_i32
  let c0_i32_595 : BitVec 32 := 0#32
  let v590 : BitVec 1 := Scalar.cmpi .ne v589 c0_i32_595
  let v591 : BitVec 1 := Scalar.andi v588 v590
  let v577 : BitVec 32 := Scalar.divsi v576 c256_i32
  let c1_i32_596 : BitVec 32 := 1#32
  let v592 : BitVec 32 := Scalar.subi v577 c1_i32_596
  let v593 : BitVec 32 := Scalar.select v591 v592 v577
  let v614 : Index := Scalar.indexCast v593
  let c256_i32_597 : BitVec 32 := 256#32
  let c0_i32_598 : BitVec 32 := 0#32
  let v594 : BitVec 1 := Scalar.cmpi .eq c256_i32_597 c0_i32_598
  let c1_i32_599 : BitVec 32 := 1#32
  let v595 : BitVec 32 := Scalar.select v594 c1_i32_599 c256_i32_597
  let v596 : BitVec 32 := Scalar.remsi v576 v595
  let c0_i32_601 : BitVec 32 := 0#32
  let v598 : BitVec 1 := Scalar.cmpi .slt v596 c0_i32_601
  let c0_i32_602 : BitVec 32 := 0#32
  let v599 : BitVec 1 := Scalar.cmpi .slt v595 c0_i32_602
  let v600 : BitVec 1 := Scalar.xori v598 v599
  let c0_i32_600 : BitVec 32 := 0#32
  let v597 : BitVec 1 := Scalar.cmpi .ne v596 c0_i32_600
  let v601 : BitVec 1 := Scalar.andi v600 v597
  let v602 : BitVec 32 := Scalar.addi v596 v595
  let v603 : BitVec 32 := Scalar.select v601 v602 v596
  let v604 : BitVec 32 := v603
  let v615 : Index := Scalar.indexCast v604
  ![v613.toNat, v614.toNat, v615.toNat]
def k0_off109 (i : grid0.Coords) : Fin 4 → Nat :=
  let c0_i32_474 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c208_i32 : BitVec 32 := 208#32
  let c0_i32_475 : BitVec 32 := 0#32
  ![0, v2.toNat, 208, 0]
def k0_off110 (i : grid0.Coords) : Fin 3 → Nat :=
  let c0_i32_478 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c57344_i32 : BitVec 32 := 57344#32
  ![0, v2.toNat, 57344]
@[reducible] def k0_t28_loop : Scf.Loop 32 :=
  let c0_i32_488 : BitVec 32 := 0#32
  let c1024_i32_489 : BitVec 32 := 1024#32
  let v470 : BitVec 32 := Scalar.addi c0_i32_488 c1024_i32_489
  let c1_i32_490 : BitVec 32 := 1#32
  ⟨c0_i32_488, v470, c1_i32_490⟩
def k0_mult55 (k0_t28 : Fin k0_t28_loop.trips) : BitVec 32 :=
  let c0_i32_577 : BitVec 32 := 0#32
  let c0_i32_488 : BitVec 32 := 0#32
  let c1_i32_490 : BitVec 32 := 1#32
  let arg12 : BitVec 32 := Scf.iv c0_i32_488 c1_i32_490 k0_t28
  let c16_i32_576 : BitVec 32 := 16#32
  let v547 : BitVec 32 := Scalar.muli arg12 c16_i32_576
  let v548 : BitVec 32 := Scalar.addi c0_i32_577 v547
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  v575
def k0_mult56 (k0_t28 : Fin k0_t28_loop.trips) : BitVec 32 :=
  let c0_i32_577 : BitVec 32 := 0#32
  let c0_i32_488 : BitVec 32 := 0#32
  let c1_i32_490 : BitVec 32 := 1#32
  let arg12 : BitVec 32 := Scf.iv c0_i32_488 c1_i32_490 k0_t28
  let c16_i32_576 : BitVec 32 := 16#32
  let v547 : BitVec 32 := Scalar.muli arg12 c16_i32_576
  let v548 : BitVec 32 := Scalar.addi c0_i32_577 v547
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  let v576 : BitVec 32 := v575
  let c256_i32_597 : BitVec 32 := 256#32
  let c0_i32_598 : BitVec 32 := 0#32
  let v594 : BitVec 1 := Scalar.cmpi .eq c256_i32_597 c0_i32_598
  let c1_i32_599 : BitVec 32 := 1#32
  let v595 : BitVec 32 := Scalar.select v594 c1_i32_599 c256_i32_597
  let v596 : BitVec 32 := Scalar.remsi v576 v595
  let c0_i32_601 : BitVec 32 := 0#32
  let v598 : BitVec 1 := Scalar.cmpi .slt v596 c0_i32_601
  let c0_i32_602 : BitVec 32 := 0#32
  let v599 : BitVec 1 := Scalar.cmpi .slt v595 c0_i32_602
  let v600 : BitVec 1 := Scalar.xori v598 v599
  let c0_i32_600 : BitVec 32 := 0#32
  let v597 : BitVec 1 := Scalar.cmpi .ne v596 c0_i32_600
  let v601 : BitVec 1 := Scalar.andi v600 v597
  let v602 : BitVec 32 := Scalar.addi v596 v595
  let v603 : BitVec 32 := Scalar.select v601 v602 v596
  v603
def k0_off111 (k0_t28 : Fin k0_t28_loop.trips) : Fin 2 → Nat :=
  let c0_i32_577 : BitVec 32 := 0#32
  let c0_i32_488 : BitVec 32 := 0#32
  let c1_i32_490 : BitVec 32 := 1#32
  let arg12 : BitVec 32 := Scf.iv c0_i32_488 c1_i32_490 k0_t28
  let c16_i32_576 : BitVec 32 := 16#32
  let v547 : BitVec 32 := Scalar.muli arg12 c16_i32_576
  let v548 : BitVec 32 := Scalar.addi c0_i32_577 v547
  let c0_i32_579 : BitVec 32 := 0#32
  let v550 : BitVec 1 := Scalar.cmpi .sgt v548 c0_i32_579
  let v551 : BitVec 32 := Scalar.extui v550
  let c0_i32_580 : BitVec 32 := 0#32
  let v552 : BitVec 1 := Scalar.cmpi .slt v548 c0_i32_580
  let v553 : BitVec 32 := Scalar.extui v552
  let v554 : BitVec 32 := Scalar.subi v551 v553
  let c2048_i32_578 : BitVec 32 := 2048#32
  let c0_i32_581 : BitVec 32 := 0#32
  let v555 : BitVec 1 := Scalar.cmpi .sgt c2048_i32_578 c0_i32_581
  let v556 : BitVec 32 := Scalar.extui v555
  let c0_i32_582 : BitVec 32 := 0#32
  let v557 : BitVec 1 := Scalar.cmpi .slt c2048_i32_578 c0_i32_582
  let v558 : BitVec 32 := Scalar.extui v557
  let v559 : BitVec 32 := Scalar.subi v556 v558
  let v560 : BitVec 1 := Scalar.cmpi .ne v554 v559
  let v561 : BitVec 32 := Scalar.remsi v548 c2048_i32_578
  let c0_i32_583 : BitVec 32 := 0#32
  let v562 : BitVec 1 := Scalar.cmpi .ne v561 c0_i32_583
  let v563 : BitVec 1 := Scalar.andi v560 v562
  let v549 : BitVec 32 := Scalar.divsi v548 c2048_i32_578
  let c1_i32_584 : BitVec 32 := 1#32
  let v564 : BitVec 32 := Scalar.subi v549 c1_i32_584
  let v565 : BitVec 32 := Scalar.select v563 v564 v549
  let v605 : Index := Scalar.indexCast v565
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  let v576 : BitVec 32 := v575
  let v606 : Index := Scalar.indexCast v576
  ![v605.toNat, v606.toNat]
def k0_off112 (k0_t28 : Fin k0_t28_loop.trips) : Fin 3 → Nat :=
  let c0_i32_577 : BitVec 32 := 0#32
  let c0_i32_488 : BitVec 32 := 0#32
  let c1_i32_490 : BitVec 32 := 1#32
  let arg12 : BitVec 32 := Scf.iv c0_i32_488 c1_i32_490 k0_t28
  let c16_i32_576 : BitVec 32 := 16#32
  let v547 : BitVec 32 := Scalar.muli arg12 c16_i32_576
  let v548 : BitVec 32 := Scalar.addi c0_i32_577 v547
  let c0_i32_579 : BitVec 32 := 0#32
  let v550 : BitVec 1 := Scalar.cmpi .sgt v548 c0_i32_579
  let v551 : BitVec 32 := Scalar.extui v550
  let c0_i32_580 : BitVec 32 := 0#32
  let v552 : BitVec 1 := Scalar.cmpi .slt v548 c0_i32_580
  let v553 : BitVec 32 := Scalar.extui v552
  let v554 : BitVec 32 := Scalar.subi v551 v553
  let c2048_i32_578 : BitVec 32 := 2048#32
  let c0_i32_581 : BitVec 32 := 0#32
  let v555 : BitVec 1 := Scalar.cmpi .sgt c2048_i32_578 c0_i32_581
  let v556 : BitVec 32 := Scalar.extui v555
  let c0_i32_582 : BitVec 32 := 0#32
  let v557 : BitVec 1 := Scalar.cmpi .slt c2048_i32_578 c0_i32_582
  let v558 : BitVec 32 := Scalar.extui v557
  let v559 : BitVec 32 := Scalar.subi v556 v558
  let v560 : BitVec 1 := Scalar.cmpi .ne v554 v559
  let v561 : BitVec 32 := Scalar.remsi v548 c2048_i32_578
  let c0_i32_583 : BitVec 32 := 0#32
  let v562 : BitVec 1 := Scalar.cmpi .ne v561 c0_i32_583
  let v563 : BitVec 1 := Scalar.andi v560 v562
  let v549 : BitVec 32 := Scalar.divsi v548 c2048_i32_578
  let c1_i32_584 : BitVec 32 := 1#32
  let v564 : BitVec 32 := Scalar.subi v549 c1_i32_584
  let v565 : BitVec 32 := Scalar.select v563 v564 v549
  let v613 : Index := Scalar.indexCast v565
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  let v576 : BitVec 32 := v575
  let c0_i32_591 : BitVec 32 := 0#32
  let v578 : BitVec 1 := Scalar.cmpi .sgt v576 c0_i32_591
  let v579 : BitVec 32 := Scalar.extui v578
  let c0_i32_592 : BitVec 32 := 0#32
  let v580 : BitVec 1 := Scalar.cmpi .slt v576 c0_i32_592
  let v581 : BitVec 32 := Scalar.extui v580
  let v582 : BitVec 32 := Scalar.subi v579 v581
  let c256_i32 : BitVec 32 := 256#32
  let c0_i32_593 : BitVec 32 := 0#32
  let v583 : BitVec 1 := Scalar.cmpi .sgt c256_i32 c0_i32_593
  let v584 : BitVec 32 := Scalar.extui v583
  let c0_i32_594 : BitVec 32 := 0#32
  let v585 : BitVec 1 := Scalar.cmpi .slt c256_i32 c0_i32_594
  let v586 : BitVec 32 := Scalar.extui v585
  let v587 : BitVec 32 := Scalar.subi v584 v586
  let v588 : BitVec 1 := Scalar.cmpi .ne v582 v587
  let v589 : BitVec 32 := Scalar.remsi v576 c256_i32
  let c0_i32_595 : BitVec 32 := 0#32
  let v590 : BitVec 1 := Scalar.cmpi .ne v589 c0_i32_595
  let v591 : BitVec 1 := Scalar.andi v588 v590
  let v577 : BitVec 32 := Scalar.divsi v576 c256_i32
  let c1_i32_596 : BitVec 32 := 1#32
  let v592 : BitVec 32 := Scalar.subi v577 c1_i32_596
  let v593 : BitVec 32 := Scalar.select v591 v592 v577
  let v614 : Index := Scalar.indexCast v593
  let c256_i32_597 : BitVec 32 := 256#32
  let c0_i32_598 : BitVec 32 := 0#32
  let v594 : BitVec 1 := Scalar.cmpi .eq c256_i32_597 c0_i32_598
  let c1_i32_599 : BitVec 32 := 1#32
  let v595 : BitVec 32 := Scalar.select v594 c1_i32_599 c256_i32_597
  let v596 : BitVec 32 := Scalar.remsi v576 v595
  let c0_i32_601 : BitVec 32 := 0#32
  let v598 : BitVec 1 := Scalar.cmpi .slt v596 c0_i32_601
  let c0_i32_602 : BitVec 32 := 0#32
  let v599 : BitVec 1 := Scalar.cmpi .slt v595 c0_i32_602
  let v600 : BitVec 1 := Scalar.xori v598 v599
  let c0_i32_600 : BitVec 32 := 0#32
  let v597 : BitVec 1 := Scalar.cmpi .ne v596 c0_i32_600
  let v601 : BitVec 1 := Scalar.andi v600 v597
  let v602 : BitVec 32 := Scalar.addi v596 v595
  let v603 : BitVec 32 := Scalar.select v601 v602 v596
  let v604 : BitVec 32 := v603
  let v615 : Index := Scalar.indexCast v604
  ![v613.toNat, v614.toNat, v615.toNat]
def k0_off113 (i : grid0.Coords) : Fin 4 → Nat :=
  let c0_i32_492 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c216_i32 : BitVec 32 := 216#32
  let c0_i32_493 : BitVec 32 := 0#32
  ![0, v2.toNat, 216, 0]
def k0_off114 (i : grid0.Coords) : Fin 3 → Nat :=
  let c0_i32_496 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c59392_i32 : BitVec 32 := 59392#32
  ![0, v2.toNat, 59392]
@[reducible] def k0_t29_loop : Scf.Loop 32 :=
  let c0_i32_506 : BitVec 32 := 0#32
  let c1024_i32_507 : BitVec 32 := 1024#32
  let v487 : BitVec 32 := Scalar.addi c0_i32_506 c1024_i32_507
  let c1_i32_508 : BitVec 32 := 1#32
  ⟨c0_i32_506, v487, c1_i32_508⟩
def k0_mult57 (k0_t29 : Fin k0_t29_loop.trips) : BitVec 32 :=
  let c0_i32_577 : BitVec 32 := 0#32
  let c0_i32_506 : BitVec 32 := 0#32
  let c1_i32_508 : BitVec 32 := 1#32
  let arg12 : BitVec 32 := Scf.iv c0_i32_506 c1_i32_508 k0_t29
  let c16_i32_576 : BitVec 32 := 16#32
  let v547 : BitVec 32 := Scalar.muli arg12 c16_i32_576
  let v548 : BitVec 32 := Scalar.addi c0_i32_577 v547
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  v575
def k0_mult58 (k0_t29 : Fin k0_t29_loop.trips) : BitVec 32 :=
  let c0_i32_577 : BitVec 32 := 0#32
  let c0_i32_506 : BitVec 32 := 0#32
  let c1_i32_508 : BitVec 32 := 1#32
  let arg12 : BitVec 32 := Scf.iv c0_i32_506 c1_i32_508 k0_t29
  let c16_i32_576 : BitVec 32 := 16#32
  let v547 : BitVec 32 := Scalar.muli arg12 c16_i32_576
  let v548 : BitVec 32 := Scalar.addi c0_i32_577 v547
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  let v576 : BitVec 32 := v575
  let c256_i32_597 : BitVec 32 := 256#32
  let c0_i32_598 : BitVec 32 := 0#32
  let v594 : BitVec 1 := Scalar.cmpi .eq c256_i32_597 c0_i32_598
  let c1_i32_599 : BitVec 32 := 1#32
  let v595 : BitVec 32 := Scalar.select v594 c1_i32_599 c256_i32_597
  let v596 : BitVec 32 := Scalar.remsi v576 v595
  let c0_i32_601 : BitVec 32 := 0#32
  let v598 : BitVec 1 := Scalar.cmpi .slt v596 c0_i32_601
  let c0_i32_602 : BitVec 32 := 0#32
  let v599 : BitVec 1 := Scalar.cmpi .slt v595 c0_i32_602
  let v600 : BitVec 1 := Scalar.xori v598 v599
  let c0_i32_600 : BitVec 32 := 0#32
  let v597 : BitVec 1 := Scalar.cmpi .ne v596 c0_i32_600
  let v601 : BitVec 1 := Scalar.andi v600 v597
  let v602 : BitVec 32 := Scalar.addi v596 v595
  let v603 : BitVec 32 := Scalar.select v601 v602 v596
  v603
def k0_off115 (k0_t29 : Fin k0_t29_loop.trips) : Fin 2 → Nat :=
  let c0_i32_577 : BitVec 32 := 0#32
  let c0_i32_506 : BitVec 32 := 0#32
  let c1_i32_508 : BitVec 32 := 1#32
  let arg12 : BitVec 32 := Scf.iv c0_i32_506 c1_i32_508 k0_t29
  let c16_i32_576 : BitVec 32 := 16#32
  let v547 : BitVec 32 := Scalar.muli arg12 c16_i32_576
  let v548 : BitVec 32 := Scalar.addi c0_i32_577 v547
  let c0_i32_579 : BitVec 32 := 0#32
  let v550 : BitVec 1 := Scalar.cmpi .sgt v548 c0_i32_579
  let v551 : BitVec 32 := Scalar.extui v550
  let c0_i32_580 : BitVec 32 := 0#32
  let v552 : BitVec 1 := Scalar.cmpi .slt v548 c0_i32_580
  let v553 : BitVec 32 := Scalar.extui v552
  let v554 : BitVec 32 := Scalar.subi v551 v553
  let c2048_i32_578 : BitVec 32 := 2048#32
  let c0_i32_581 : BitVec 32 := 0#32
  let v555 : BitVec 1 := Scalar.cmpi .sgt c2048_i32_578 c0_i32_581
  let v556 : BitVec 32 := Scalar.extui v555
  let c0_i32_582 : BitVec 32 := 0#32
  let v557 : BitVec 1 := Scalar.cmpi .slt c2048_i32_578 c0_i32_582
  let v558 : BitVec 32 := Scalar.extui v557
  let v559 : BitVec 32 := Scalar.subi v556 v558
  let v560 : BitVec 1 := Scalar.cmpi .ne v554 v559
  let v561 : BitVec 32 := Scalar.remsi v548 c2048_i32_578
  let c0_i32_583 : BitVec 32 := 0#32
  let v562 : BitVec 1 := Scalar.cmpi .ne v561 c0_i32_583
  let v563 : BitVec 1 := Scalar.andi v560 v562
  let v549 : BitVec 32 := Scalar.divsi v548 c2048_i32_578
  let c1_i32_584 : BitVec 32 := 1#32
  let v564 : BitVec 32 := Scalar.subi v549 c1_i32_584
  let v565 : BitVec 32 := Scalar.select v563 v564 v549
  let v605 : Index := Scalar.indexCast v565
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  let v576 : BitVec 32 := v575
  let v606 : Index := Scalar.indexCast v576
  ![v605.toNat, v606.toNat]
def k0_off116 (k0_t29 : Fin k0_t29_loop.trips) : Fin 3 → Nat :=
  let c0_i32_577 : BitVec 32 := 0#32
  let c0_i32_506 : BitVec 32 := 0#32
  let c1_i32_508 : BitVec 32 := 1#32
  let arg12 : BitVec 32 := Scf.iv c0_i32_506 c1_i32_508 k0_t29
  let c16_i32_576 : BitVec 32 := 16#32
  let v547 : BitVec 32 := Scalar.muli arg12 c16_i32_576
  let v548 : BitVec 32 := Scalar.addi c0_i32_577 v547
  let c0_i32_579 : BitVec 32 := 0#32
  let v550 : BitVec 1 := Scalar.cmpi .sgt v548 c0_i32_579
  let v551 : BitVec 32 := Scalar.extui v550
  let c0_i32_580 : BitVec 32 := 0#32
  let v552 : BitVec 1 := Scalar.cmpi .slt v548 c0_i32_580
  let v553 : BitVec 32 := Scalar.extui v552
  let v554 : BitVec 32 := Scalar.subi v551 v553
  let c2048_i32_578 : BitVec 32 := 2048#32
  let c0_i32_581 : BitVec 32 := 0#32
  let v555 : BitVec 1 := Scalar.cmpi .sgt c2048_i32_578 c0_i32_581
  let v556 : BitVec 32 := Scalar.extui v555
  let c0_i32_582 : BitVec 32 := 0#32
  let v557 : BitVec 1 := Scalar.cmpi .slt c2048_i32_578 c0_i32_582
  let v558 : BitVec 32 := Scalar.extui v557
  let v559 : BitVec 32 := Scalar.subi v556 v558
  let v560 : BitVec 1 := Scalar.cmpi .ne v554 v559
  let v561 : BitVec 32 := Scalar.remsi v548 c2048_i32_578
  let c0_i32_583 : BitVec 32 := 0#32
  let v562 : BitVec 1 := Scalar.cmpi .ne v561 c0_i32_583
  let v563 : BitVec 1 := Scalar.andi v560 v562
  let v549 : BitVec 32 := Scalar.divsi v548 c2048_i32_578
  let c1_i32_584 : BitVec 32 := 1#32
  let v564 : BitVec 32 := Scalar.subi v549 c1_i32_584
  let v565 : BitVec 32 := Scalar.select v563 v564 v549
  let v613 : Index := Scalar.indexCast v565
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  let v576 : BitVec 32 := v575
  let c0_i32_591 : BitVec 32 := 0#32
  let v578 : BitVec 1 := Scalar.cmpi .sgt v576 c0_i32_591
  let v579 : BitVec 32 := Scalar.extui v578
  let c0_i32_592 : BitVec 32 := 0#32
  let v580 : BitVec 1 := Scalar.cmpi .slt v576 c0_i32_592
  let v581 : BitVec 32 := Scalar.extui v580
  let v582 : BitVec 32 := Scalar.subi v579 v581
  let c256_i32 : BitVec 32 := 256#32
  let c0_i32_593 : BitVec 32 := 0#32
  let v583 : BitVec 1 := Scalar.cmpi .sgt c256_i32 c0_i32_593
  let v584 : BitVec 32 := Scalar.extui v583
  let c0_i32_594 : BitVec 32 := 0#32
  let v585 : BitVec 1 := Scalar.cmpi .slt c256_i32 c0_i32_594
  let v586 : BitVec 32 := Scalar.extui v585
  let v587 : BitVec 32 := Scalar.subi v584 v586
  let v588 : BitVec 1 := Scalar.cmpi .ne v582 v587
  let v589 : BitVec 32 := Scalar.remsi v576 c256_i32
  let c0_i32_595 : BitVec 32 := 0#32
  let v590 : BitVec 1 := Scalar.cmpi .ne v589 c0_i32_595
  let v591 : BitVec 1 := Scalar.andi v588 v590
  let v577 : BitVec 32 := Scalar.divsi v576 c256_i32
  let c1_i32_596 : BitVec 32 := 1#32
  let v592 : BitVec 32 := Scalar.subi v577 c1_i32_596
  let v593 : BitVec 32 := Scalar.select v591 v592 v577
  let v614 : Index := Scalar.indexCast v593
  let c256_i32_597 : BitVec 32 := 256#32
  let c0_i32_598 : BitVec 32 := 0#32
  let v594 : BitVec 1 := Scalar.cmpi .eq c256_i32_597 c0_i32_598
  let c1_i32_599 : BitVec 32 := 1#32
  let v595 : BitVec 32 := Scalar.select v594 c1_i32_599 c256_i32_597
  let v596 : BitVec 32 := Scalar.remsi v576 v595
  let c0_i32_601 : BitVec 32 := 0#32
  let v598 : BitVec 1 := Scalar.cmpi .slt v596 c0_i32_601
  let c0_i32_602 : BitVec 32 := 0#32
  let v599 : BitVec 1 := Scalar.cmpi .slt v595 c0_i32_602
  let v600 : BitVec 1 := Scalar.xori v598 v599
  let c0_i32_600 : BitVec 32 := 0#32
  let v597 : BitVec 1 := Scalar.cmpi .ne v596 c0_i32_600
  let v601 : BitVec 1 := Scalar.andi v600 v597
  let v602 : BitVec 32 := Scalar.addi v596 v595
  let v603 : BitVec 32 := Scalar.select v601 v602 v596
  let v604 : BitVec 32 := v603
  let v615 : Index := Scalar.indexCast v604
  ![v613.toNat, v614.toNat, v615.toNat]
def k0_off117 (i : grid0.Coords) : Fin 4 → Nat :=
  let c0_i32_510 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c224_i32 : BitVec 32 := 224#32
  let c0_i32_511 : BitVec 32 := 0#32
  ![0, v2.toNat, 224, 0]
def k0_off118 (i : grid0.Coords) : Fin 3 → Nat :=
  let c0_i32_514 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c61440_i32 : BitVec 32 := 61440#32
  ![0, v2.toNat, 61440]
@[reducible] def k0_t30_loop : Scf.Loop 32 :=
  let c0_i32_524 : BitVec 32 := 0#32
  let c1024_i32_525 : BitVec 32 := 1024#32
  let v504 : BitVec 32 := Scalar.addi c0_i32_524 c1024_i32_525
  let c1_i32_526 : BitVec 32 := 1#32
  ⟨c0_i32_524, v504, c1_i32_526⟩
def k0_mult59 (k0_t30 : Fin k0_t30_loop.trips) : BitVec 32 :=
  let c0_i32_577 : BitVec 32 := 0#32
  let c0_i32_524 : BitVec 32 := 0#32
  let c1_i32_526 : BitVec 32 := 1#32
  let arg12 : BitVec 32 := Scf.iv c0_i32_524 c1_i32_526 k0_t30
  let c16_i32_576 : BitVec 32 := 16#32
  let v547 : BitVec 32 := Scalar.muli arg12 c16_i32_576
  let v548 : BitVec 32 := Scalar.addi c0_i32_577 v547
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  v575
def k0_mult60 (k0_t30 : Fin k0_t30_loop.trips) : BitVec 32 :=
  let c0_i32_577 : BitVec 32 := 0#32
  let c0_i32_524 : BitVec 32 := 0#32
  let c1_i32_526 : BitVec 32 := 1#32
  let arg12 : BitVec 32 := Scf.iv c0_i32_524 c1_i32_526 k0_t30
  let c16_i32_576 : BitVec 32 := 16#32
  let v547 : BitVec 32 := Scalar.muli arg12 c16_i32_576
  let v548 : BitVec 32 := Scalar.addi c0_i32_577 v547
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  let v576 : BitVec 32 := v575
  let c256_i32_597 : BitVec 32 := 256#32
  let c0_i32_598 : BitVec 32 := 0#32
  let v594 : BitVec 1 := Scalar.cmpi .eq c256_i32_597 c0_i32_598
  let c1_i32_599 : BitVec 32 := 1#32
  let v595 : BitVec 32 := Scalar.select v594 c1_i32_599 c256_i32_597
  let v596 : BitVec 32 := Scalar.remsi v576 v595
  let c0_i32_601 : BitVec 32 := 0#32
  let v598 : BitVec 1 := Scalar.cmpi .slt v596 c0_i32_601
  let c0_i32_602 : BitVec 32 := 0#32
  let v599 : BitVec 1 := Scalar.cmpi .slt v595 c0_i32_602
  let v600 : BitVec 1 := Scalar.xori v598 v599
  let c0_i32_600 : BitVec 32 := 0#32
  let v597 : BitVec 1 := Scalar.cmpi .ne v596 c0_i32_600
  let v601 : BitVec 1 := Scalar.andi v600 v597
  let v602 : BitVec 32 := Scalar.addi v596 v595
  let v603 : BitVec 32 := Scalar.select v601 v602 v596
  v603
def k0_off119 (k0_t30 : Fin k0_t30_loop.trips) : Fin 2 → Nat :=
  let c0_i32_577 : BitVec 32 := 0#32
  let c0_i32_524 : BitVec 32 := 0#32
  let c1_i32_526 : BitVec 32 := 1#32
  let arg12 : BitVec 32 := Scf.iv c0_i32_524 c1_i32_526 k0_t30
  let c16_i32_576 : BitVec 32 := 16#32
  let v547 : BitVec 32 := Scalar.muli arg12 c16_i32_576
  let v548 : BitVec 32 := Scalar.addi c0_i32_577 v547
  let c0_i32_579 : BitVec 32 := 0#32
  let v550 : BitVec 1 := Scalar.cmpi .sgt v548 c0_i32_579
  let v551 : BitVec 32 := Scalar.extui v550
  let c0_i32_580 : BitVec 32 := 0#32
  let v552 : BitVec 1 := Scalar.cmpi .slt v548 c0_i32_580
  let v553 : BitVec 32 := Scalar.extui v552
  let v554 : BitVec 32 := Scalar.subi v551 v553
  let c2048_i32_578 : BitVec 32 := 2048#32
  let c0_i32_581 : BitVec 32 := 0#32
  let v555 : BitVec 1 := Scalar.cmpi .sgt c2048_i32_578 c0_i32_581
  let v556 : BitVec 32 := Scalar.extui v555
  let c0_i32_582 : BitVec 32 := 0#32
  let v557 : BitVec 1 := Scalar.cmpi .slt c2048_i32_578 c0_i32_582
  let v558 : BitVec 32 := Scalar.extui v557
  let v559 : BitVec 32 := Scalar.subi v556 v558
  let v560 : BitVec 1 := Scalar.cmpi .ne v554 v559
  let v561 : BitVec 32 := Scalar.remsi v548 c2048_i32_578
  let c0_i32_583 : BitVec 32 := 0#32
  let v562 : BitVec 1 := Scalar.cmpi .ne v561 c0_i32_583
  let v563 : BitVec 1 := Scalar.andi v560 v562
  let v549 : BitVec 32 := Scalar.divsi v548 c2048_i32_578
  let c1_i32_584 : BitVec 32 := 1#32
  let v564 : BitVec 32 := Scalar.subi v549 c1_i32_584
  let v565 : BitVec 32 := Scalar.select v563 v564 v549
  let v605 : Index := Scalar.indexCast v565
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  let v576 : BitVec 32 := v575
  let v606 : Index := Scalar.indexCast v576
  ![v605.toNat, v606.toNat]
def k0_off120 (k0_t30 : Fin k0_t30_loop.trips) : Fin 3 → Nat :=
  let c0_i32_577 : BitVec 32 := 0#32
  let c0_i32_524 : BitVec 32 := 0#32
  let c1_i32_526 : BitVec 32 := 1#32
  let arg12 : BitVec 32 := Scf.iv c0_i32_524 c1_i32_526 k0_t30
  let c16_i32_576 : BitVec 32 := 16#32
  let v547 : BitVec 32 := Scalar.muli arg12 c16_i32_576
  let v548 : BitVec 32 := Scalar.addi c0_i32_577 v547
  let c0_i32_579 : BitVec 32 := 0#32
  let v550 : BitVec 1 := Scalar.cmpi .sgt v548 c0_i32_579
  let v551 : BitVec 32 := Scalar.extui v550
  let c0_i32_580 : BitVec 32 := 0#32
  let v552 : BitVec 1 := Scalar.cmpi .slt v548 c0_i32_580
  let v553 : BitVec 32 := Scalar.extui v552
  let v554 : BitVec 32 := Scalar.subi v551 v553
  let c2048_i32_578 : BitVec 32 := 2048#32
  let c0_i32_581 : BitVec 32 := 0#32
  let v555 : BitVec 1 := Scalar.cmpi .sgt c2048_i32_578 c0_i32_581
  let v556 : BitVec 32 := Scalar.extui v555
  let c0_i32_582 : BitVec 32 := 0#32
  let v557 : BitVec 1 := Scalar.cmpi .slt c2048_i32_578 c0_i32_582
  let v558 : BitVec 32 := Scalar.extui v557
  let v559 : BitVec 32 := Scalar.subi v556 v558
  let v560 : BitVec 1 := Scalar.cmpi .ne v554 v559
  let v561 : BitVec 32 := Scalar.remsi v548 c2048_i32_578
  let c0_i32_583 : BitVec 32 := 0#32
  let v562 : BitVec 1 := Scalar.cmpi .ne v561 c0_i32_583
  let v563 : BitVec 1 := Scalar.andi v560 v562
  let v549 : BitVec 32 := Scalar.divsi v548 c2048_i32_578
  let c1_i32_584 : BitVec 32 := 1#32
  let v564 : BitVec 32 := Scalar.subi v549 c1_i32_584
  let v565 : BitVec 32 := Scalar.select v563 v564 v549
  let v613 : Index := Scalar.indexCast v565
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  let v576 : BitVec 32 := v575
  let c0_i32_591 : BitVec 32 := 0#32
  let v578 : BitVec 1 := Scalar.cmpi .sgt v576 c0_i32_591
  let v579 : BitVec 32 := Scalar.extui v578
  let c0_i32_592 : BitVec 32 := 0#32
  let v580 : BitVec 1 := Scalar.cmpi .slt v576 c0_i32_592
  let v581 : BitVec 32 := Scalar.extui v580
  let v582 : BitVec 32 := Scalar.subi v579 v581
  let c256_i32 : BitVec 32 := 256#32
  let c0_i32_593 : BitVec 32 := 0#32
  let v583 : BitVec 1 := Scalar.cmpi .sgt c256_i32 c0_i32_593
  let v584 : BitVec 32 := Scalar.extui v583
  let c0_i32_594 : BitVec 32 := 0#32
  let v585 : BitVec 1 := Scalar.cmpi .slt c256_i32 c0_i32_594
  let v586 : BitVec 32 := Scalar.extui v585
  let v587 : BitVec 32 := Scalar.subi v584 v586
  let v588 : BitVec 1 := Scalar.cmpi .ne v582 v587
  let v589 : BitVec 32 := Scalar.remsi v576 c256_i32
  let c0_i32_595 : BitVec 32 := 0#32
  let v590 : BitVec 1 := Scalar.cmpi .ne v589 c0_i32_595
  let v591 : BitVec 1 := Scalar.andi v588 v590
  let v577 : BitVec 32 := Scalar.divsi v576 c256_i32
  let c1_i32_596 : BitVec 32 := 1#32
  let v592 : BitVec 32 := Scalar.subi v577 c1_i32_596
  let v593 : BitVec 32 := Scalar.select v591 v592 v577
  let v614 : Index := Scalar.indexCast v593
  let c256_i32_597 : BitVec 32 := 256#32
  let c0_i32_598 : BitVec 32 := 0#32
  let v594 : BitVec 1 := Scalar.cmpi .eq c256_i32_597 c0_i32_598
  let c1_i32_599 : BitVec 32 := 1#32
  let v595 : BitVec 32 := Scalar.select v594 c1_i32_599 c256_i32_597
  let v596 : BitVec 32 := Scalar.remsi v576 v595
  let c0_i32_601 : BitVec 32 := 0#32
  let v598 : BitVec 1 := Scalar.cmpi .slt v596 c0_i32_601
  let c0_i32_602 : BitVec 32 := 0#32
  let v599 : BitVec 1 := Scalar.cmpi .slt v595 c0_i32_602
  let v600 : BitVec 1 := Scalar.xori v598 v599
  let c0_i32_600 : BitVec 32 := 0#32
  let v597 : BitVec 1 := Scalar.cmpi .ne v596 c0_i32_600
  let v601 : BitVec 1 := Scalar.andi v600 v597
  let v602 : BitVec 32 := Scalar.addi v596 v595
  let v603 : BitVec 32 := Scalar.select v601 v602 v596
  let v604 : BitVec 32 := v603
  let v615 : Index := Scalar.indexCast v604
  ![v613.toNat, v614.toNat, v615.toNat]
def k0_off121 (i : grid0.Coords) : Fin 4 → Nat :=
  let c0_i32_528 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c232_i32 : BitVec 32 := 232#32
  let c0_i32_529 : BitVec 32 := 0#32
  ![0, v2.toNat, 232, 0]
def k0_off122 (i : grid0.Coords) : Fin 3 → Nat :=
  let c0_i32_532 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c63488_i32 : BitVec 32 := 63488#32
  ![0, v2.toNat, 63488]
@[reducible] def k0_t31_loop : Scf.Loop 32 :=
  let c0_i32_542 : BitVec 32 := 0#32
  let c1024_i32_543 : BitVec 32 := 1024#32
  let v521 : BitVec 32 := Scalar.addi c0_i32_542 c1024_i32_543
  let c1_i32_544 : BitVec 32 := 1#32
  ⟨c0_i32_542, v521, c1_i32_544⟩
def k0_mult61 (k0_t31 : Fin k0_t31_loop.trips) : BitVec 32 :=
  let c0_i32_577 : BitVec 32 := 0#32
  let c0_i32_542 : BitVec 32 := 0#32
  let c1_i32_544 : BitVec 32 := 1#32
  let arg12 : BitVec 32 := Scf.iv c0_i32_542 c1_i32_544 k0_t31
  let c16_i32_576 : BitVec 32 := 16#32
  let v547 : BitVec 32 := Scalar.muli arg12 c16_i32_576
  let v548 : BitVec 32 := Scalar.addi c0_i32_577 v547
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  v575
def k0_mult62 (k0_t31 : Fin k0_t31_loop.trips) : BitVec 32 :=
  let c0_i32_577 : BitVec 32 := 0#32
  let c0_i32_542 : BitVec 32 := 0#32
  let c1_i32_544 : BitVec 32 := 1#32
  let arg12 : BitVec 32 := Scf.iv c0_i32_542 c1_i32_544 k0_t31
  let c16_i32_576 : BitVec 32 := 16#32
  let v547 : BitVec 32 := Scalar.muli arg12 c16_i32_576
  let v548 : BitVec 32 := Scalar.addi c0_i32_577 v547
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  let v576 : BitVec 32 := v575
  let c256_i32_597 : BitVec 32 := 256#32
  let c0_i32_598 : BitVec 32 := 0#32
  let v594 : BitVec 1 := Scalar.cmpi .eq c256_i32_597 c0_i32_598
  let c1_i32_599 : BitVec 32 := 1#32
  let v595 : BitVec 32 := Scalar.select v594 c1_i32_599 c256_i32_597
  let v596 : BitVec 32 := Scalar.remsi v576 v595
  let c0_i32_601 : BitVec 32 := 0#32
  let v598 : BitVec 1 := Scalar.cmpi .slt v596 c0_i32_601
  let c0_i32_602 : BitVec 32 := 0#32
  let v599 : BitVec 1 := Scalar.cmpi .slt v595 c0_i32_602
  let v600 : BitVec 1 := Scalar.xori v598 v599
  let c0_i32_600 : BitVec 32 := 0#32
  let v597 : BitVec 1 := Scalar.cmpi .ne v596 c0_i32_600
  let v601 : BitVec 1 := Scalar.andi v600 v597
  let v602 : BitVec 32 := Scalar.addi v596 v595
  let v603 : BitVec 32 := Scalar.select v601 v602 v596
  v603
def k0_off123 (k0_t31 : Fin k0_t31_loop.trips) : Fin 2 → Nat :=
  let c0_i32_577 : BitVec 32 := 0#32
  let c0_i32_542 : BitVec 32 := 0#32
  let c1_i32_544 : BitVec 32 := 1#32
  let arg12 : BitVec 32 := Scf.iv c0_i32_542 c1_i32_544 k0_t31
  let c16_i32_576 : BitVec 32 := 16#32
  let v547 : BitVec 32 := Scalar.muli arg12 c16_i32_576
  let v548 : BitVec 32 := Scalar.addi c0_i32_577 v547
  let c0_i32_579 : BitVec 32 := 0#32
  let v550 : BitVec 1 := Scalar.cmpi .sgt v548 c0_i32_579
  let v551 : BitVec 32 := Scalar.extui v550
  let c0_i32_580 : BitVec 32 := 0#32
  let v552 : BitVec 1 := Scalar.cmpi .slt v548 c0_i32_580
  let v553 : BitVec 32 := Scalar.extui v552
  let v554 : BitVec 32 := Scalar.subi v551 v553
  let c2048_i32_578 : BitVec 32 := 2048#32
  let c0_i32_581 : BitVec 32 := 0#32
  let v555 : BitVec 1 := Scalar.cmpi .sgt c2048_i32_578 c0_i32_581
  let v556 : BitVec 32 := Scalar.extui v555
  let c0_i32_582 : BitVec 32 := 0#32
  let v557 : BitVec 1 := Scalar.cmpi .slt c2048_i32_578 c0_i32_582
  let v558 : BitVec 32 := Scalar.extui v557
  let v559 : BitVec 32 := Scalar.subi v556 v558
  let v560 : BitVec 1 := Scalar.cmpi .ne v554 v559
  let v561 : BitVec 32 := Scalar.remsi v548 c2048_i32_578
  let c0_i32_583 : BitVec 32 := 0#32
  let v562 : BitVec 1 := Scalar.cmpi .ne v561 c0_i32_583
  let v563 : BitVec 1 := Scalar.andi v560 v562
  let v549 : BitVec 32 := Scalar.divsi v548 c2048_i32_578
  let c1_i32_584 : BitVec 32 := 1#32
  let v564 : BitVec 32 := Scalar.subi v549 c1_i32_584
  let v565 : BitVec 32 := Scalar.select v563 v564 v549
  let v605 : Index := Scalar.indexCast v565
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  let v576 : BitVec 32 := v575
  let v606 : Index := Scalar.indexCast v576
  ![v605.toNat, v606.toNat]
def k0_off124 (k0_t31 : Fin k0_t31_loop.trips) : Fin 3 → Nat :=
  let c0_i32_577 : BitVec 32 := 0#32
  let c0_i32_542 : BitVec 32 := 0#32
  let c1_i32_544 : BitVec 32 := 1#32
  let arg12 : BitVec 32 := Scf.iv c0_i32_542 c1_i32_544 k0_t31
  let c16_i32_576 : BitVec 32 := 16#32
  let v547 : BitVec 32 := Scalar.muli arg12 c16_i32_576
  let v548 : BitVec 32 := Scalar.addi c0_i32_577 v547
  let c0_i32_579 : BitVec 32 := 0#32
  let v550 : BitVec 1 := Scalar.cmpi .sgt v548 c0_i32_579
  let v551 : BitVec 32 := Scalar.extui v550
  let c0_i32_580 : BitVec 32 := 0#32
  let v552 : BitVec 1 := Scalar.cmpi .slt v548 c0_i32_580
  let v553 : BitVec 32 := Scalar.extui v552
  let v554 : BitVec 32 := Scalar.subi v551 v553
  let c2048_i32_578 : BitVec 32 := 2048#32
  let c0_i32_581 : BitVec 32 := 0#32
  let v555 : BitVec 1 := Scalar.cmpi .sgt c2048_i32_578 c0_i32_581
  let v556 : BitVec 32 := Scalar.extui v555
  let c0_i32_582 : BitVec 32 := 0#32
  let v557 : BitVec 1 := Scalar.cmpi .slt c2048_i32_578 c0_i32_582
  let v558 : BitVec 32 := Scalar.extui v557
  let v559 : BitVec 32 := Scalar.subi v556 v558
  let v560 : BitVec 1 := Scalar.cmpi .ne v554 v559
  let v561 : BitVec 32 := Scalar.remsi v548 c2048_i32_578
  let c0_i32_583 : BitVec 32 := 0#32
  let v562 : BitVec 1 := Scalar.cmpi .ne v561 c0_i32_583
  let v563 : BitVec 1 := Scalar.andi v560 v562
  let v549 : BitVec 32 := Scalar.divsi v548 c2048_i32_578
  let c1_i32_584 : BitVec 32 := 1#32
  let v564 : BitVec 32 := Scalar.subi v549 c1_i32_584
  let v565 : BitVec 32 := Scalar.select v563 v564 v549
  let v613 : Index := Scalar.indexCast v565
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  let v576 : BitVec 32 := v575
  let c0_i32_591 : BitVec 32 := 0#32
  let v578 : BitVec 1 := Scalar.cmpi .sgt v576 c0_i32_591
  let v579 : BitVec 32 := Scalar.extui v578
  let c0_i32_592 : BitVec 32 := 0#32
  let v580 : BitVec 1 := Scalar.cmpi .slt v576 c0_i32_592
  let v581 : BitVec 32 := Scalar.extui v580
  let v582 : BitVec 32 := Scalar.subi v579 v581
  let c256_i32 : BitVec 32 := 256#32
  let c0_i32_593 : BitVec 32 := 0#32
  let v583 : BitVec 1 := Scalar.cmpi .sgt c256_i32 c0_i32_593
  let v584 : BitVec 32 := Scalar.extui v583
  let c0_i32_594 : BitVec 32 := 0#32
  let v585 : BitVec 1 := Scalar.cmpi .slt c256_i32 c0_i32_594
  let v586 : BitVec 32 := Scalar.extui v585
  let v587 : BitVec 32 := Scalar.subi v584 v586
  let v588 : BitVec 1 := Scalar.cmpi .ne v582 v587
  let v589 : BitVec 32 := Scalar.remsi v576 c256_i32
  let c0_i32_595 : BitVec 32 := 0#32
  let v590 : BitVec 1 := Scalar.cmpi .ne v589 c0_i32_595
  let v591 : BitVec 1 := Scalar.andi v588 v590
  let v577 : BitVec 32 := Scalar.divsi v576 c256_i32
  let c1_i32_596 : BitVec 32 := 1#32
  let v592 : BitVec 32 := Scalar.subi v577 c1_i32_596
  let v593 : BitVec 32 := Scalar.select v591 v592 v577
  let v614 : Index := Scalar.indexCast v593
  let c256_i32_597 : BitVec 32 := 256#32
  let c0_i32_598 : BitVec 32 := 0#32
  let v594 : BitVec 1 := Scalar.cmpi .eq c256_i32_597 c0_i32_598
  let c1_i32_599 : BitVec 32 := 1#32
  let v595 : BitVec 32 := Scalar.select v594 c1_i32_599 c256_i32_597
  let v596 : BitVec 32 := Scalar.remsi v576 v595
  let c0_i32_601 : BitVec 32 := 0#32
  let v598 : BitVec 1 := Scalar.cmpi .slt v596 c0_i32_601
  let c0_i32_602 : BitVec 32 := 0#32
  let v599 : BitVec 1 := Scalar.cmpi .slt v595 c0_i32_602
  let v600 : BitVec 1 := Scalar.xori v598 v599
  let c0_i32_600 : BitVec 32 := 0#32
  let v597 : BitVec 1 := Scalar.cmpi .ne v596 c0_i32_600
  let v601 : BitVec 1 := Scalar.andi v600 v597
  let v602 : BitVec 32 := Scalar.addi v596 v595
  let v603 : BitVec 32 := Scalar.select v601 v602 v596
  let v604 : BitVec 32 := v603
  let v615 : Index := Scalar.indexCast v604
  ![v613.toNat, v614.toNat, v615.toNat]
def k0_off125 (i : grid0.Coords) : Fin 4 → Nat :=
  let c0_i32_546 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c240_i32 : BitVec 32 := 240#32
  let c0_i32_547 : BitVec 32 := 0#32
  ![0, v2.toNat, 240, 0]
@[reducible] def k0_t32_loop : Scf.Loop 32 :=
  let c0_i32_558 : BitVec 32 := 0#32
  let c1024_i32_559 : BitVec 32 := 1024#32
  let v534 : BitVec 32 := Scalar.addi c0_i32_558 c1024_i32_559
  let c1_i32_560 : BitVec 32 := 1#32
  ⟨c0_i32_558, v534, c1_i32_560⟩
def k0_mult63 (k0_t32 : Fin k0_t32_loop.trips) : BitVec 32 :=
  let c0_i32_577 : BitVec 32 := 0#32
  let c0_i32_558 : BitVec 32 := 0#32
  let c1_i32_560 : BitVec 32 := 1#32
  let arg12 : BitVec 32 := Scf.iv c0_i32_558 c1_i32_560 k0_t32
  let c16_i32_576 : BitVec 32 := 16#32
  let v547 : BitVec 32 := Scalar.muli arg12 c16_i32_576
  let v548 : BitVec 32 := Scalar.addi c0_i32_577 v547
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  v575
def k0_mult64 (k0_t32 : Fin k0_t32_loop.trips) : BitVec 32 :=
  let c0_i32_577 : BitVec 32 := 0#32
  let c0_i32_558 : BitVec 32 := 0#32
  let c1_i32_560 : BitVec 32 := 1#32
  let arg12 : BitVec 32 := Scf.iv c0_i32_558 c1_i32_560 k0_t32
  let c16_i32_576 : BitVec 32 := 16#32
  let v547 : BitVec 32 := Scalar.muli arg12 c16_i32_576
  let v548 : BitVec 32 := Scalar.addi c0_i32_577 v547
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  let v576 : BitVec 32 := v575
  let c256_i32_597 : BitVec 32 := 256#32
  let c0_i32_598 : BitVec 32 := 0#32
  let v594 : BitVec 1 := Scalar.cmpi .eq c256_i32_597 c0_i32_598
  let c1_i32_599 : BitVec 32 := 1#32
  let v595 : BitVec 32 := Scalar.select v594 c1_i32_599 c256_i32_597
  let v596 : BitVec 32 := Scalar.remsi v576 v595
  let c0_i32_601 : BitVec 32 := 0#32
  let v598 : BitVec 1 := Scalar.cmpi .slt v596 c0_i32_601
  let c0_i32_602 : BitVec 32 := 0#32
  let v599 : BitVec 1 := Scalar.cmpi .slt v595 c0_i32_602
  let v600 : BitVec 1 := Scalar.xori v598 v599
  let c0_i32_600 : BitVec 32 := 0#32
  let v597 : BitVec 1 := Scalar.cmpi .ne v596 c0_i32_600
  let v601 : BitVec 1 := Scalar.andi v600 v597
  let v602 : BitVec 32 := Scalar.addi v596 v595
  let v603 : BitVec 32 := Scalar.select v601 v602 v596
  v603
def k0_off126 (k0_t32 : Fin k0_t32_loop.trips) : Fin 2 → Nat :=
  let c0_i32_577 : BitVec 32 := 0#32
  let c0_i32_558 : BitVec 32 := 0#32
  let c1_i32_560 : BitVec 32 := 1#32
  let arg12 : BitVec 32 := Scf.iv c0_i32_558 c1_i32_560 k0_t32
  let c16_i32_576 : BitVec 32 := 16#32
  let v547 : BitVec 32 := Scalar.muli arg12 c16_i32_576
  let v548 : BitVec 32 := Scalar.addi c0_i32_577 v547
  let c0_i32_579 : BitVec 32 := 0#32
  let v550 : BitVec 1 := Scalar.cmpi .sgt v548 c0_i32_579
  let v551 : BitVec 32 := Scalar.extui v550
  let c0_i32_580 : BitVec 32 := 0#32
  let v552 : BitVec 1 := Scalar.cmpi .slt v548 c0_i32_580
  let v553 : BitVec 32 := Scalar.extui v552
  let v554 : BitVec 32 := Scalar.subi v551 v553
  let c2048_i32_578 : BitVec 32 := 2048#32
  let c0_i32_581 : BitVec 32 := 0#32
  let v555 : BitVec 1 := Scalar.cmpi .sgt c2048_i32_578 c0_i32_581
  let v556 : BitVec 32 := Scalar.extui v555
  let c0_i32_582 : BitVec 32 := 0#32
  let v557 : BitVec 1 := Scalar.cmpi .slt c2048_i32_578 c0_i32_582
  let v558 : BitVec 32 := Scalar.extui v557
  let v559 : BitVec 32 := Scalar.subi v556 v558
  let v560 : BitVec 1 := Scalar.cmpi .ne v554 v559
  let v561 : BitVec 32 := Scalar.remsi v548 c2048_i32_578
  let c0_i32_583 : BitVec 32 := 0#32
  let v562 : BitVec 1 := Scalar.cmpi .ne v561 c0_i32_583
  let v563 : BitVec 1 := Scalar.andi v560 v562
  let v549 : BitVec 32 := Scalar.divsi v548 c2048_i32_578
  let c1_i32_584 : BitVec 32 := 1#32
  let v564 : BitVec 32 := Scalar.subi v549 c1_i32_584
  let v565 : BitVec 32 := Scalar.select v563 v564 v549
  let v605 : Index := Scalar.indexCast v565
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  let v576 : BitVec 32 := v575
  let v606 : Index := Scalar.indexCast v576
  ![v605.toNat, v606.toNat]
def k0_off127 (k0_t32 : Fin k0_t32_loop.trips) : Fin 3 → Nat :=
  let c0_i32_577 : BitVec 32 := 0#32
  let c0_i32_558 : BitVec 32 := 0#32
  let c1_i32_560 : BitVec 32 := 1#32
  let arg12 : BitVec 32 := Scf.iv c0_i32_558 c1_i32_560 k0_t32
  let c16_i32_576 : BitVec 32 := 16#32
  let v547 : BitVec 32 := Scalar.muli arg12 c16_i32_576
  let v548 : BitVec 32 := Scalar.addi c0_i32_577 v547
  let c0_i32_579 : BitVec 32 := 0#32
  let v550 : BitVec 1 := Scalar.cmpi .sgt v548 c0_i32_579
  let v551 : BitVec 32 := Scalar.extui v550
  let c0_i32_580 : BitVec 32 := 0#32
  let v552 : BitVec 1 := Scalar.cmpi .slt v548 c0_i32_580
  let v553 : BitVec 32 := Scalar.extui v552
  let v554 : BitVec 32 := Scalar.subi v551 v553
  let c2048_i32_578 : BitVec 32 := 2048#32
  let c0_i32_581 : BitVec 32 := 0#32
  let v555 : BitVec 1 := Scalar.cmpi .sgt c2048_i32_578 c0_i32_581
  let v556 : BitVec 32 := Scalar.extui v555
  let c0_i32_582 : BitVec 32 := 0#32
  let v557 : BitVec 1 := Scalar.cmpi .slt c2048_i32_578 c0_i32_582
  let v558 : BitVec 32 := Scalar.extui v557
  let v559 : BitVec 32 := Scalar.subi v556 v558
  let v560 : BitVec 1 := Scalar.cmpi .ne v554 v559
  let v561 : BitVec 32 := Scalar.remsi v548 c2048_i32_578
  let c0_i32_583 : BitVec 32 := 0#32
  let v562 : BitVec 1 := Scalar.cmpi .ne v561 c0_i32_583
  let v563 : BitVec 1 := Scalar.andi v560 v562
  let v549 : BitVec 32 := Scalar.divsi v548 c2048_i32_578
  let c1_i32_584 : BitVec 32 := 1#32
  let v564 : BitVec 32 := Scalar.subi v549 c1_i32_584
  let v565 : BitVec 32 := Scalar.select v563 v564 v549
  let v613 : Index := Scalar.indexCast v565
  let c2048_i32_585 : BitVec 32 := 2048#32
  let c0_i32_586 : BitVec 32 := 0#32
  let v566 : BitVec 1 := Scalar.cmpi .eq c2048_i32_585 c0_i32_586
  let c1_i32_587 : BitVec 32 := 1#32
  let v567 : BitVec 32 := Scalar.select v566 c1_i32_587 c2048_i32_585
  let v568 : BitVec 32 := Scalar.remsi v548 v567
  let c0_i32_589 : BitVec 32 := 0#32
  let v570 : BitVec 1 := Scalar.cmpi .slt v568 c0_i32_589
  let c0_i32_590 : BitVec 32 := 0#32
  let v571 : BitVec 1 := Scalar.cmpi .slt v567 c0_i32_590
  let v572 : BitVec 1 := Scalar.xori v570 v571
  let c0_i32_588 : BitVec 32 := 0#32
  let v569 : BitVec 1 := Scalar.cmpi .ne v568 c0_i32_588
  let v573 : BitVec 1 := Scalar.andi v572 v569
  let v574 : BitVec 32 := Scalar.addi v568 v567
  let v575 : BitVec 32 := Scalar.select v573 v574 v568
  let v576 : BitVec 32 := v575
  let c0_i32_591 : BitVec 32 := 0#32
  let v578 : BitVec 1 := Scalar.cmpi .sgt v576 c0_i32_591
  let v579 : BitVec 32 := Scalar.extui v578
  let c0_i32_592 : BitVec 32 := 0#32
  let v580 : BitVec 1 := Scalar.cmpi .slt v576 c0_i32_592
  let v581 : BitVec 32 := Scalar.extui v580
  let v582 : BitVec 32 := Scalar.subi v579 v581
  let c256_i32 : BitVec 32 := 256#32
  let c0_i32_593 : BitVec 32 := 0#32
  let v583 : BitVec 1 := Scalar.cmpi .sgt c256_i32 c0_i32_593
  let v584 : BitVec 32 := Scalar.extui v583
  let c0_i32_594 : BitVec 32 := 0#32
  let v585 : BitVec 1 := Scalar.cmpi .slt c256_i32 c0_i32_594
  let v586 : BitVec 32 := Scalar.extui v585
  let v587 : BitVec 32 := Scalar.subi v584 v586
  let v588 : BitVec 1 := Scalar.cmpi .ne v582 v587
  let v589 : BitVec 32 := Scalar.remsi v576 c256_i32
  let c0_i32_595 : BitVec 32 := 0#32
  let v590 : BitVec 1 := Scalar.cmpi .ne v589 c0_i32_595
  let v591 : BitVec 1 := Scalar.andi v588 v590
  let v577 : BitVec 32 := Scalar.divsi v576 c256_i32
  let c1_i32_596 : BitVec 32 := 1#32
  let v592 : BitVec 32 := Scalar.subi v577 c1_i32_596
  let v593 : BitVec 32 := Scalar.select v591 v592 v577
  let v614 : Index := Scalar.indexCast v593
  let c256_i32_597 : BitVec 32 := 256#32
  let c0_i32_598 : BitVec 32 := 0#32
  let v594 : BitVec 1 := Scalar.cmpi .eq c256_i32_597 c0_i32_598
  let c1_i32_599 : BitVec 32 := 1#32
  let v595 : BitVec 32 := Scalar.select v594 c1_i32_599 c256_i32_597
  let v596 : BitVec 32 := Scalar.remsi v576 v595
  let c0_i32_601 : BitVec 32 := 0#32
  let v598 : BitVec 1 := Scalar.cmpi .slt v596 c0_i32_601
  let c0_i32_602 : BitVec 32 := 0#32
  let v599 : BitVec 1 := Scalar.cmpi .slt v595 c0_i32_602
  let v600 : BitVec 1 := Scalar.xori v598 v599
  let c0_i32_600 : BitVec 32 := 0#32
  let v597 : BitVec 1 := Scalar.cmpi .ne v596 c0_i32_600
  let v601 : BitVec 1 := Scalar.andi v600 v597
  let v602 : BitVec 32 := Scalar.addi v596 v595
  let v603 : BitVec 32 := Scalar.select v601 v602 v596
  let v604 : BitVec 32 := v603
  let v615 : Index := Scalar.indexCast v604
  ![v613.toNat, v614.toNat, v615.toNat]
def k0_off128 (i : grid0.Coords) : Fin 4 → Nat :=
  let c0_i32_562 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c248_i32 : BitVec 32 := 248#32
  let c0_i32_563 : BitVec 32 := 0#32
  ![0, v2.toNat, 248, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1x256x65536 : Shape := ⟨3, ![1, 256, 65536]⟩
abbrev S0 : Shape := ⟨1, ![0]⟩
abbrev S_ : Shape := ⟨0, ![]⟩
abbrev S1x256x256x256 : Shape := ⟨4, ![1, 256, 256, 256]⟩

abbrev nBuf : Space → Nat
  | .hbm => 12
  | .vmem => 0
  | .smem => 0
  | _ => 0

abbrev bufTy : (tb : Table) → Fin (tcTables nBuf tb) → BufTy
  | .hbm, ⟨0, _⟩ => ⟨S1x256x65536, .f32⟩
  | .hbm, ⟨1, _⟩ => ⟨S0, .i32⟩
  | .hbm, ⟨2, _⟩ => ⟨S0, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S1x256x65536, .f32⟩
  | .hbm, ⟨7, _⟩ => ⟨S1x256x65536, .f32⟩
  | .hbm, ⟨8, _⟩ => ⟨S_, .f32⟩
  | .hbm, ⟨9, _⟩ => ⟨S1x256x65536, .f32⟩
  | .hbm, ⟨10, _⟩ => ⟨S1x256x65536, .f32⟩
  | .hbm, ⟨11, _⟩ => ⟨S1x256x256x256, .f32⟩
  | _, _ => ⟨S1x256x65536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v0 : Ref sig .tc := ⟨.hbm, 10, rfl⟩
abbrev main_v1 : Ref sig .tc := ⟨.hbm, 11, rfl⟩

abbrev nD : Nat := 1
abbrev τ : Topo := Topo.v7x

variable {F : FTy → Type} [FloatOps F]
-- ==== Proof.Spec.lean ====
/-
  What the kernel computes, and where its tiles' pieces of the two arrays lie.

  The array `x` is `(1, 256, 65536)`, the result `(1, 256, 256, 256)`: row `a` of the result is row `a` of `x` clipped to
  `[-6, 6]` and laid out as a `256 × 256` grid. Tile `w` of the thirty-two owns the rows `8w … 8w+7`; its round `r` of thirty-two
  takes the columns `2048r … 2048r+2047` of those rows, which are the grid rows `8r … 8r+7` of the result.
-/
module

public import proofs.«01_k».proof.Defs
public import Idealize.ShloMosaic.Lib.SparseCore.Quiescent
public import Idealize.ShloMosaic.Lib.Pipeline.Kit
public import Idealize.ShloMosaic.Lib.Tactic

@[expose] public section

noncomputable section

namespace Cert.Proof.Clip

open Cert.KernelIdeal Facts₀ Facts

open Idealize.ShloMosaic
open Idealize.SL Idealize.SL.RA Idealize.SL.BI
open scoped Idealize.SL.BI
open Idealize.SL.BI.BIBase Idealize.SL.BI.Laws Idealize.SL.ProofMode Idealize.SL.Sem

variable {F : FTy → Type} [FloatOps F] [Cert.KernelIdeal.Facts]

/-! ## The value -/

/-- One element clipped: at least `-6`, then at most `6`. -/
def clipV (a : F .f32) : F .f32 :=
  FloatOps.minimumf (FloatOps.maximumf a (Scalar.ofBits .f32 0xC0C00000#32)) (Scalar.ofBits .f32 0x40C00000#32)

theorem casts_x_o : S1x256x65536.ShapeCasts S1x256x256x256 := by decide

/-- The whole result: `x` clipped element by element, its rows laid out as grids. -/
def result (x : S1x256x65536.Idx → F .f32) : S1x256x256x256.Idx → F .f32 :=
  fun j => clipV (shapeCast S1x256x256x256 x casts_x_o j)

/-- The result at `(0, a, b, c)` is `x` at `(0, a, 256b + c)`, clipped. -/
theorem result_eq (x : S1x256x65536.Idx → F .f32) (j : S1x256x256x256.Idx) (k : S1x256x65536.Idx)
    (h1 : (k 1).val = (j 1).val) (h2 : (k 2).val = 256 * (j 2).val + (j 3).val) : result x j = clipV (x k) := by
  refine congrArg clipV (congrArg x (Shape.reshapeEquiv_eq_of_rowMajor casts_x_o ?_))
  rw [Shape.rowMajor_val_three, Shape.rowMajor_val_four]
  have hk : (k 0).val < 1 := (k 0).isLt
  have hj : (j 0).val < 1 := (j 0).isLt
  show (((k 0).val * 256 + (k 1).val) * 65536 + (k 2).val) = ((((j 0).val * 256 + (j 1).val) * 256 + (j 2).val) * 256 + (j 3).val)
  omega

/-- What the fetch of round `r` leaves in tile `w`'s input buffer: the block of `x` at rows `8w …`, columns `2048r …`. -/
def Loaded (x : S1x256x65536.Idx → F .f32) (w r : ℕ) (v : S8x2048.Idx → F .f32) : Prop :=
  ∀ (y : S8x2048.Idx) (k : S1x256x65536.Idx), (k 1).val = 8 * w + (y 0).val → (k 2).val = 2048 * r + (y 1).val → v y = x k

/-- Position of an element of the `(8, 8, 256)` output buffer in row-major order. -/
def flat (y : S8x8x256.Idx) : ℕ := 2048 * (y 0).val + 256 * (y 1).val + (y 2).val

/-- After `t` trips of the clip loop of round `r`, tile `w`'s output buffer holds the result's block at its first `16t` places. -/
def ClippedTo (x : S1x256x65536.Idx → F .f32) (w r t : ℕ) (v : S8x8x256.Idx → F .f32) : Prop :=
  ∀ (y : S8x8x256.Idx) (j : S1x256x256x256.Idx), flat y < 16 * t →
    (j 1).val = 8 * w + (y 0).val → (j 2).val = 8 * r + (y 1).val → (j 3).val = (y 2).val → v y = result x j

theorem clippedTo_zero (x : S1x256x65536.Idx → F .f32) (w r : ℕ) (v : S8x8x256.Idx → F .f32) : ClippedTo x w r 0 v :=
  fun _ _ h => absurd h (Nat.not_lt_zero _)

/-! ## The pieces -/

/-- The rows of `x` and of the result that tile `w` owns, and the part of them its round `r` handles. -/
def xTile (w : ℕ) : Finset S1x256x65536.Idx := Finset.univ.filter fun k => (k 1).val / 8 = w
def oTile (w : ℕ) : Finset S1x256x256x256.Idx := Finset.univ.filter fun j => (j 1).val / 8 = w
def xPiece (w r : ℕ) : Finset S1x256x65536.Idx := (xTile w).filter fun k => (k 2).val / 2048 = r
def oPiece (w r : ℕ) : Finset S1x256x256x256.Idx := (oTile w).filter fun j => (j 2).val / 8 = r

theorem mem_xPiece {w r : ℕ} {k : S1x256x65536.Idx} : k ∈ xPiece w r ↔ (k 1).val / 8 = w ∧ (k 2).val / 2048 = r := by
  simp only [xPiece, xTile, Finset.mem_filter, Finset.mem_univ, true_and]
theorem mem_oPiece {w r : ℕ} {j : S1x256x256x256.Idx} : j ∈ oPiece w r ↔ (j 1).val / 8 = w ∧ (j 2).val / 8 = r := by
  simp only [oPiece, oTile, Finset.mem_filter, Finset.mem_univ, true_and]

/-- The window of `x` a fetch reads, at offsets `off`; the window of the result a write-out fills. -/
abbrev xRect (off : Fin 3 → ℕ) (h : ∀ a, off a + S1x8x2048.size a ≤ S1x256x65536.size a) : Rect S1x256x65536 :=
  Rect.unit (s := S1x256x65536) off S1x8x2048.size h
abbrev oRect (off : Fin 4 → ℕ) (h : ∀ a, off a + S1x8x8x256.size a ≤ S1x256x256x256.size a) : Rect S1x256x256x256 :=
  Rect.unit (s := S1x256x256x256) off S1x8x8x256.size h
abbrev xWin (arg2 : Memref sig .scVector .hbm S1x256x65536 .f32) (off : Fin 3 → ℕ) (h : ∀ a, off a + S1x8x2048.size a ≤ S1x256x65536.size a) :
    Memref sig .scVector .hbm S8x2048 .f32 :=
  (arg2.slice (xRect off h) (fun _ => rfl)).squeeze S8x2048 squeezes_S1x8x2048_S8x2048
abbrev oWin (arg3 : Memref sig .scVector .hbm S1x256x256x256 .f32) (off : Fin 4 → ℕ) (h : ∀ a, off a + S1x8x8x256.size a ≤ S1x256x256x256.size a) :
    Memref sig .scVector .hbm S8x8x256 .f32 :=
  (arg3.slice (oRect off h) (fun _ => rfl)).squeeze S8x8x256 squeezes_S1x8x8x256_S8x8x256

abbrev xV : Memref sig .scVector .hbm S1x256x65536 .f32 := Memref.whole main_arg0_scv
abbrev oV : Memref sig .scVector .hbm S1x256x256x256 .f32 := Memref.whole main_v0_scv

theorem set_xWin {off : Fin 3 → ℕ} (h) {w r : ℕ} (e : off = ![0, 8 * w, 2048 * r]) : (xWin xV off h).view.set = xPiece w r := by
  have o0 : off 0 = 0 := by rw [e]; rfl
  have o1 : off 1 = 8 * w := by rw [e]; rfl
  have o2 : off 2 = 2048 * r := by rw [e]; rfl
  show (((View.whole (main_arg0_scv : Ref sig .scVector)).slice (xRect off h)).reshape S8x2048 squeezes_S1x8x2048_S8x2048.numel_eq).set = _
  rw [View.set_reshape, View.set_slice_whole]
  ext k
  have h0 : (k 0).val < 1 := (k 0).isLt
  rw [Rect.mem_set_unit, mem_xPiece]
  constructor
  · intro H
    have h1 : off 1 ≤ (k 1).val ∧ (k 1).val < off 1 + 8 := H 1
    have h2 : off 2 ≤ (k 2).val ∧ (k 2).val < off 2 + 2048 := H 2
    omega
  · rintro ⟨h1, h2⟩ a
    match a with
    | 0 => exact (show off 0 ≤ (k 0).val ∧ (k 0).val < off 0 + 1 by omega)
    | 1 => exact (show off 1 ≤ (k 1).val ∧ (k 1).val < off 1 + 8 by omega)
    | 2 => exact (show off 2 ≤ (k 2).val ∧ (k 2).val < off 2 + 2048 by omega)

theorem set_oWin {off : Fin 4 → ℕ} (h) {w r : ℕ} (e : off = ![0, 8 * w, 8 * r, 0]) : (oWin oV off h).view.set = oPiece w r := by
  have o0 : off 0 = 0 := by rw [e]; rfl
  have o1 : off 1 = 8 * w := by rw [e]; rfl
  have o2 : off 2 = 8 * r := by rw [e]; rfl
  have o3 : off 3 = 0 := by rw [e]; rfl
  show (((View.whole (main_v0_scv : Ref sig .scVector)).slice (oRect off h)).reshape S8x8x256 squeezes_S1x8x8x256_S8x8x256.numel_eq).set = _
  rw [View.set_reshape, View.set_slice_whole]
  ext j
  have h0 : (j 0).val < 1 := (j 0).isLt
  have h3 : (j 3).val < 256 := (j 3).isLt
  rw [Rect.mem_set_unit, mem_oPiece]
  constructor
  · intro H
    have h1 : off 1 ≤ (j 1).val ∧ (j 1).val < off 1 + 8 := H 1
    have h2 : off 2 ≤ (j 2).val ∧ (j 2).val < off 2 + 8 := H 2
    omega
  · rintro ⟨h1, h2⟩ a
    match a with
    | 0 => exact (show off 0 ≤ (j 0).val ∧ (j 0).val < off 0 + 1 by omega)
    | 1 => exact (show off 1 ≤ (j 1).val ∧ (j 1).val < off 1 + 8 by omega)
    | 2 => exact (show off 2 ≤ (j 2).val ∧ (j 2).val < off 2 + 8 by omega)
    | 3 => exact (show off 3 ≤ (j 3).val ∧ (j 3).val < off 3 + 256 by omega)

/-- A place `y` of the fetched block sits in `x` at the block's rows and columns. -/
theorem emb_xWin {off : Fin 3 → ℕ} (h) {w r : ℕ} (e : off = ![0, 8 * w, 2048 * r]) (y : S8x2048.Idx) :
    (((xWin xV off h).view.emb y : S1x256x65536.Idx) 1).val = 8 * w + (y 0).val
      ∧ (((xWin xV off h).view.emb y : S1x256x65536.Idx) 2).val = 2048 * r + (y 1).val := by
  have o0 : off 0 = 0 := by rw [e]; rfl
  have o1 : off 1 = 8 * w := by rw [e]; rfl
  have o2 : off 2 = 2048 * r := by rw [e]; rfl
  have hy0 : (y 0).val < 8 := (y 0).isLt
  have hy1 : (y 1).val < 2048 := (y 1).isLt
  have hz : Shape.reshapeEquiv (s := S1x8x2048) (s' := S8x2048) squeezes_S1x8x2048_S8x2048.numel_eq y
      = (fun | 0 => ⟨0, Nat.one_pos⟩ | 1 => ⟨(y 0).val, hy0⟩ | 2 => ⟨(y 1).val, hy1⟩ : S1x8x2048.Idx) := by
    refine Shape.reshapeEquiv_eq_of_rowMajor _ ?_
    rw [Shape.rowMajor_val_three, Shape.rowMajor_val_two]
    show (0 * 8 + (y 0).val) * 2048 + (y 1).val = (y 0).val * 2048 + (y 1).val
    omega
  show (((xRect off h).emb (Shape.reshapeEquiv (s := S1x8x2048) (s' := S8x2048) squeezes_S1x8x2048_S8x2048.numel_eq y) : S1x256x65536.Idx) 1).val = _
    ∧ (((xRect off h).emb (Shape.reshapeEquiv (s := S1x8x2048) (s' := S8x2048) squeezes_S1x8x2048_S8x2048.numel_eq y) : S1x256x65536.Idx) 2).val = _
  rw [hz]
  constructor
  · show off 1 + 1 * (y 0).val = _; omega
  · show off 2 + 1 * (y 1).val = _; omega

/-- A place `y` of the written-out block sits in the result at the block's rows. -/
theorem emb_oWin {off : Fin 4 → ℕ} (h) {w r : ℕ} (e : off = ![0, 8 * w, 8 * r, 0]) (y : S8x8x256.Idx) :
    (((oWin oV off h).view.emb y : S1x256x256x256.Idx) 1).val = 8 * w + (y 0).val
      ∧ (((oWin oV off h).view.emb y : S1x256x256x256.Idx) 2).val = 8 * r + (y 1).val
      ∧ (((oWin oV off h).view.emb y : S1x256x256x256.Idx) 3).val = (y 2).val := by
  have o0 : off 0 = 0 := by rw [e]; rfl
  have o1 : off 1 = 8 * w := by rw [e]; rfl
  have o2 : off 2 = 8 * r := by rw [e]; rfl
  have o3 : off 3 = 0 := by rw [e]; rfl
  have hy0 : (y 0).val < 8 := (y 0).isLt
  have hy1 : (y 1).val < 8 := (y 1).isLt
  have hy2 : (y 2).val < 256 := (y 2).isLt
  have hz : Shape.reshapeEquiv (s := S1x8x8x256) (s' := S8x8x256) squeezes_S1x8x8x256_S8x8x256.numel_eq y
      = (fun | 0 => ⟨0, Nat.one_pos⟩ | 1 => ⟨(y 0).val, hy0⟩ | 2 => ⟨(y 1).val, hy1⟩ | 3 => ⟨(y 2).val, hy2⟩ : S1x8x8x256.Idx) := by
    refine Shape.reshapeEquiv_eq_of_rowMajor _ ?_
    rw [Shape.rowMajor_val_four, Shape.rowMajor_val_three]
    show ((0 * 8 + (y 0).val) * 8 + (y 1).val) * 256 + (y 2).val = ((y 0).val * 8 + (y 1).val) * 256 + (y 2).val
    omega
  show (((oRect off h).emb (Shape.reshapeEquiv (s := S1x8x8x256) (s' := S8x8x256) squeezes_S1x8x8x256_S8x8x256.numel_eq y) : S1x256x256x256.Idx) 1).val = _
    ∧ (((oRect off h).emb (Shape.reshapeEquiv (s := S1x8x8x256) (s' := S8x8x256) squeezes_S1x8x8x256_S8x8x256.numel_eq y) : S1x256x256x256.Idx) 2).val = _
    ∧ (((oRect off h).emb (Shape.reshapeEquiv (s := S1x8x8x256) (s' := S8x8x256) squeezes_S1x8x8x256_S8x8x256.numel_eq y) : S1x256x256x256.Idx) 3).val = _
  rw [hz]
  refine ⟨?_, ?_, ?_⟩
  · show off 1 + 1 * (y 0).val = _; omega
  · show off 2 + 1 * (y 1).val = _; omega
  · show off 3 + 1 * (y 2).val = _; omega

/-- What a fetch reads is the block of `x` it should be. -/
theorem loaded_read {off : Fin 3 → ℕ} (h) {w r : ℕ} (e : off = ![0, 8 * w, 2048 * r]) (x : S1x256x65536.Idx → F .f32) :
    Loaded x w r ((xWin xV off h).view.read (Elt F) x) := by
  intro y k h1 h2
  obtain ⟨e1, e2⟩ := emb_xWin h e y
  show x ((xWin xV off h).view.emb y) = x k
  refine congrArg x (funext fun a => Fin.ext ?_)
  match a with
  | 0 =>
    have a0 : (((xWin xV off h).view.emb y : S1x256x65536.Idx) 0).val < 1 := (((xWin xV off h).view.emb y : S1x256x65536.Idx) 0).isLt
    have b0 : (k 0).val < 1 := (k 0).isLt
    omega
  | 1 => exact e1.trans h1.symm
  | 2 => exact e2.trans h2.symm

/-- A block clipped in full, written through the result's window, is the result on that window. -/
theorem write_oWin {off : Fin 4 → ℕ} (h) {w r : ℕ} (e : off = ![0, 8 * w, 8 * r, 0]) (x : S1x256x65536.Idx → F .f32)
    (f : S1x256x256x256.Idx → F .f32) (v : S8x8x256.Idx → F .f32) (hv : ClippedTo x w r 1024 v) :
    ∀ j ∈ (oWin oV off h).view.set, (oWin oV off h).view.write (Elt F) f v Finset.univ j = result x j := by
  intro j hj
  obtain ⟨y, -, rfl⟩ := Finset.mem_map.mp hj
  obtain ⟨e1, e2, e3⟩ := emb_oWin h e y
  have hy0 : (y 0).val < 8 := (y 0).isLt
  have hy1 : (y 1).val < 8 := (y 1).isLt
  have hy2 : (y 2).val < 256 := (y 2).isLt
  rw [View.write_emb_of_mem _ _ (Finset.mem_univ _)]
  show v y = _
  exact hv y _ (by unfold flat; omega) e1 e2 e3

end Cert.Proof.Clip

end
-- ==== Proof.ClipLoop.lean ====
/-
  The clip loop: 1024 trips, each taking sixteen elements of the input buffer, clipping them and storing them at the same row-major
  position of the output buffer. The program prints the loop thirty-two times, once per round, over one or the other pair of
  buffers; every printed loop is the one below, so the loop is proved once, at any pair of buffers.
-/
module

public import proofs.«01_k».proof.Proof.Spec

@[expose] public section

noncomputable section

namespace Cert.Proof.Clip

open Cert.KernelIdeal Facts₀ Facts

open Idealize.ShloMosaic
open Idealize.ShloMosaic.SparseCore (S V)
open Idealize.SL Idealize.SL.RA Idealize.SL.BI
open scoped Idealize.SL.BI
open Idealize.SL.BI.BIBase Idealize.SL.BI.Laws Idealize.SL.ProofMode Idealize.SL.Sem

variable {F : FTy → Type} [FloatOps F] [Cert.KernelIdeal.Facts]

/-! ## One trip's values -/

/-- The offsets of trip `t` in the `(8, 2048)` input buffer and in the `(8, 8, 256)` output buffer: element `16t` of each. -/
theorem off3_eq : ∀ t : Fin k0_t1_loop.trips, k0_off3 t = ![16 * t.val / 2048, 16 * t.val % 2048] := by decide +kernel
theorem off4_eq : ∀ t : Fin k0_t1_loop.trips, k0_off4 t = ![16 * t.val / 2048, 16 * t.val % 2048 / 256, 16 * t.val % 256] := by decide +kernel

theorem trips_eq : k0_t1_loop.trips = 1024 := by decide +kernel

/-- The sixteen elements a trip loads, and the sixteen it stores. -/
abbrev ldRect (t : Fin k0_t1_loop.trips) : Rect S8x2048 := Rect.unit (s := S8x2048) (k0_off3 t) S1x16.size (k0_off3_inb t)
abbrev stRect (t : Fin k0_t1_loop.trips) : Rect S8x8x256 := Rect.unit (s := S8x8x256) (k0_off4 t) S1x1x16.size (k0_off4_inb t)

/-- What a trip stores, of the sixteen elements it loads. -/
def clipPay (v : Vec F S1x16 .f32) : FVec F S1x1x16 .f32 :=
  shapeCast S1x1x16 (minimumf (maximumf (shapeCast S16 v shapeCasts_S1x16_S16) (broadcast S16 (Scalar.ofBits .f32 0xC0C00000#32)))
    (broadcast S16 (Scalar.ofBits .f32 0x40C00000#32))) shapeCasts_S16_S1x1x16

/-- A lane of it: the loaded lane, clipped. -/
theorem pay_apply (v : Vec F S1x16 .f32) (z : S1x1x16.Idx) (z' : S1x16.Idx) (h : (z' 1).val = (z 2).val) : clipPay v z = clipV (v z') := by
  show clipV (v (Shape.reshapeEquiv shapeCasts_S1x16_S16 (Shape.reshapeEquiv shapeCasts_S16_S1x1x16 z))) = _
  rw [Shape.reshapeEquiv_reshapeEquiv]
  refine congrArg clipV (congrArg v (Shape.reshapeEquiv_eq_of_rowMajor _ ?_))
  rw [Shape.rowMajor_val_two, Shape.rowMajor_val_three]
  have h0 : (z 0).val < 1 := (z 0).isLt
  have h1 : (z 1).val < 1 := (z 1).isLt
  have h0' : (z' 0).val < 1 := (z' 0).isLt
  show (z' 0).val * 16 + (z' 1).val = ((z 0).val * 1 + (z 1).val) * 16 + (z 2).val
  omega

/-- One trip takes the output buffer from `16t` right elements to `16(t+1)`. -/
theorem clippedTo_succ {κ : Kind} (x : S1x256x65536.Idx → F .f32) {w r : ℕ} (t : Fin k0_t1_loop.trips)
    (src : Memref sig κ .vmem S8x2048 .f32) (dst : Memref sig κ .vmem S8x8x256 .f32)
    (f : src.view.ty.Contents (Elt F)) (g : dst.view.ty.Contents (Elt F))
    (hw : Loaded x w r (src.view.read (Elt F) f)) (hg : ClippedTo x w r t.val (dst.view.read (Elt F) g)) :
    ClippedTo x w r (t.val + 1)
      (dst.view.read (Elt F) ((dst.access (stRect t)).write (Elt F) g (clipPay (src.view.readAt (Elt F) (ldRect t).toLoadRect f)) Finset.univ)) := by
  have ht : t.val < 1024 := trips_eq ▸ t.isLt
  intro y j hy h1 h2 h3
  have hy0 : (y 0).val < 8 := (y 0).isLt
  have hy1 : (y 1).val < 8 := (y 1).isLt
  have hy2 : (y 2).val < 256 := (y 2).isLt
  have hj2 : (j 2).val < 256 := (j 2).isLt
  have hj3 : (j 3).val < 256 := (j 3).isLt
  have o0 : k0_off4 t 0 = 16 * t.val / 2048 := by rw [off4_eq]; rfl
  have o1 : k0_off4 t 1 = 16 * t.val % 2048 / 256 := by rw [off4_eq]; rfl
  have o2 : k0_off4 t 2 = 16 * t.val % 256 := by rw [off4_eq]; rfl
  have p0 : k0_off3 t 0 = 16 * t.val / 2048 := by rw [off3_eq]; rfl
  have p1 : k0_off3 t 1 = 16 * t.val % 2048 := by rw [off3_eq]; rfl
  unfold flat at hy
  by_cases hm : y ∈ (stRect t).set
  · obtain ⟨z, rfl⟩ : ∃ z, (stRect t).emb z = y := (stRect t).exists_idx_of_mem hm
    have z0 : (z 0).val < 1 := (z 0).isLt
    have z1 : (z 1).val < 1 := (z 1).isLt
    have z2 : (z 2).val < 16 := (z 2).isLt
    have e0 : ((stRect t).emb z 0).val = k0_off4 t 0 + 1 * (z 0).val := rfl
    have e1 : ((stRect t).emb z 1).val = k0_off4 t 1 + 1 * (z 1).val := rfl
    have e2 : ((stRect t).emb z 2).val = k0_off4 t 2 + 1 * (z 2).val := rfl
    -- the loaded lane, and where it sits in `x`
    have hr : dst.view.read (Elt F) ((dst.access (stRect t)).write (Elt F) g (clipPay (src.view.readAt (Elt F) (ldRect t).toLoadRect f)) Finset.univ) ((stRect t).emb z)
        = clipPay (src.view.readAt (Elt F) (ldRect t).toLoadRect f) z :=
      View.read_slice_write_emb (v := dst.view) (stRect t) g _ (Finset.mem_univ z)
    rw [hr, pay_apply _ z (fun | 0 => ⟨0, Nat.one_pos⟩ | 1 => ⟨(z 2).val, z2⟩) rfl]
    have hk : 256 * (j 2).val + (j 3).val < 65536 := by omega
    rw [result_eq x j (fun | 0 => ⟨0, Nat.one_pos⟩ | 1 => j 1 | 2 => ⟨256 * (j 2).val + (j 3).val, hk⟩) rfl rfl]
    refine congrArg clipV (hw _ _ ?_ ?_)
    · show (j 1).val = 8 * w + (k0_off3 t 0 + 1 * 0)
      omega
    · show 256 * (j 2).val + (j 3).val = 2048 * r + (k0_off3 t 1 + 1 * (z 2).val)
      omega
  · have hr : dst.view.read (Elt F) ((dst.access (stRect t)).write (Elt F) g (clipPay (src.view.readAt (Elt F) (ldRect t).toLoadRect f)) Finset.univ) y
        = dst.view.read (Elt F) g y :=
      View.read_slice_write_of_not_mem (v := dst.view) (stRect t) g _ _ (by rwa [Rect.map_emb_univ])
    rw [hr]
    refine hg y j ?_ h1 h2 h3
    unfold flat
    by_contra hlt
    refine hm (Rect.mem_set_unit.mpr fun a => ?_)
    match a with
    | 0 => exact (show k0_off4 t 0 ≤ (y 0).val ∧ (y 0).val < k0_off4 t 0 + 1 by omega)
    | 1 => exact (show k0_off4 t 1 ≤ (y 1).val ∧ (y 1).val < k0_off4 t 1 + 1 by omega)
    | 2 => exact (show k0_off4 t 2 ≤ (y 2).val ∧ (y 2).val < k0_off4 t 2 + 16 by omega)

/-! ## The loop -/

section Loop

variable {U : Type} [URA U] {Ix : Type} [DecidableEq Ix]

local notation "𝕄" => MT nD τ sig Ix (Elt F) ℕ U ℕ

variable (d : Dev nD) (L : grid0.Coords)

/-- The vector subcore that grid point `L` runs on, and the processor as the printed bodies spell it. -/
abbrev cV : Fin τ.nSC := (L 0).castLE hcore0
abbrev jV : Fin τ.nSub := (L 1).castLE hsub0
abbrev pV : Proc τ := .scVector (cV L) (jV L)
abbrev thr : Thread nD τ := V d (cV L) (jV L)

/-- One trip, as the program prints it. -/
def clipTrip (src : Memref sig .scVector .vmem S8x2048 .f32) (dst : Memref sig .scVector .vmem S8x8x256 .f32) (t : Fin k0_t1_loop.trips) :
    Prog (TpuEff nD τ sig (Elt F) Λ₀ (pV L)) Unit :=
  .op (.load src (ldRect t).toLoadRect (View.loadsAt_vmem h_S1x16)) fun v =>
    .op (.load dst (stRect t).toLoadRect (View.loadsAt_vmem h_S1x1x16)) fun _ =>
      .op (.store dst (stRect t) (clipPay v) Finset.univ (View.stores_vmem_bits_univ h_S1x1x16 rfl) (.inl rfl)) fun _ => .ret ⟨⟩

variable {𝒱₀ : Variants} (x : S1x256x65536.Idx → F .f32) (w r : ℕ)

/-- The input buffer holding the block of round `r`; the output buffer right at its first `16t` places; the output buffer at anything. -/
def inHas (src : Memref sig .scVector .vmem S8x2048 .f32) : sProp 𝕄 :=
  iprop(∃ f : Buf (Elt F) (src.view.loc (thr d L)), ⌜Loaded x w r (src.view.read (Elt F) f)⌝ ∗ (src.view.loc (thr d L) ↦[src.view.set]{fullShare} f))
def outTo (dst : Memref sig .scVector .vmem S8x8x256 .f32) (t : ℕ) : sProp 𝕄 :=
  iprop(∃ g : Buf (Elt F) (dst.view.loc (thr d L)), ⌜ClippedTo x w r t (dst.view.read (Elt F) g)⌝ ∗ (dst.view.loc (thr d L) ↦[dst.view.set]{fullShare} g))

theorem wp_clipTrip (src : Memref sig .scVector .vmem S8x2048 .f32) (dst : Memref sig .scVector .vmem S8x8x256 .f32) (t : Fin k0_t1_loop.trips) :
    iprop(inHas d L x w r src ∗ outTo d L x w r dst t.val : sProp 𝕄)
      ⊢ wp frame (wpE (defs₀ (F := F)) 𝒱₀ (thr d L) none) Set.univ (clipTrip L src dst t)
          fun _ => iprop(inHas d L x w r src ∗ outTo d L x w r dst (t.val + 1)) := by
  unfold clipTrip inHas outTo
  iintro ⟨⟨%f, %hf, Hs⟩, ⟨%g, %hg, Hd⟩⟩
  iapply (wp_load 𝒱₀ (thr d L) none Set.univ (View.setOn_subset_set src.view _)) $$ Hs
  iintro Hs
  iapply (wp_load 𝒱₀ (thr d L) none Set.univ (View.setOn_subset_set dst.view _)) $$ Hd
  iintro Hd
  iapply (wp_store 𝒱₀ (thr d L) none Set.univ (m := dst) (r := stRect t) (View.set_slice_subset dst.view (stRect t))) $$ Hd
  iintro Hd
  iapply le_wp_ret
  isplitl [Hs]
  · iexists f
    isplitr; · ipureintro; exact hf
    iexact Hs
  iexists _
  isplitr
  swap; · iexact Hd
  ipureintro
  exact clippedTo_succ x t src dst f g hf hg

/-- The loop of one round, at the head of a program: the input buffer holding the round's block, whatever the output buffer held
    the program goes on with the output buffer holding the result's block. -/
theorem wp_clipLoop (src : Memref sig .scVector .vmem S8x2048 .f32) (dst : Memref sig .scVector .vmem S8x8x256 .f32)
    (hok : k0_t1_loop.OK) (body : Fin k0_t1_loop.trips → Unit → Prog (TpuEff nD τ sig (Elt F) Λ₀ (pV L)) Unit)
    (hbody : ∀ t u, body t u = clipTrip L src dst t)
    {β : Type} {kk : Unit → Prog (TpuEff nD τ sig (Elt F) Λ₀ (pV L)) β} {Q : β → sProp 𝕄} :
    iprop(inHas d L x w r src ∗ outTo d L x w r dst 0 : sProp 𝕄)
      ⊢ iprop((iprop(inHas d L x w r src ∗ outTo d L x w r dst 1024) -∗ wp frame (wpE (defs₀ (F := F)) 𝒱₀ (thr d L) none) Set.univ (kk ⟨⟩) Q)
          -∗ wp frame (wpE (defs₀ (F := F)) 𝒱₀ (thr d L) none) Set.univ (Scf.Loop.for k0_t1_loop hok ⟨⟩ body >>= kk) Q) := by
  iintro H Hk
  iapply (Scf.wp_for_bind frame (wpE (defs₀ (F := F)) 𝒱₀ (thr d L) none) Set.univ k0_t1_loop.lb k0_t1_loop.ub k0_t1_loop.st hok ⟨⟩ body
    (fun t _ => iprop(inHas d L x w r src ∗ outTo d L x w r dst t))
    (fun t u => by rw [hbody]; exact wp_clipTrip d L x w r src dst t)) $$ H
  iintro %u H
  iapply Hk
  rw [show Scf.trips k0_t1_loop.lb k0_t1_loop.ub k0_t1_loop.st = 1024 from trips_eq]
  iexact H

end Loop

end Cert.Proof.Clip

end
-- ==== Proof.Rounds.lean ====
/-
  A tile's thirty-two rounds. The tile fetches the block of round `r + 1` while it clips the block of round `r`, and the write-out of
  round `r` is waited for only two rounds later; two input buffers and two output buffers take turns. Each operation is proved once,
  at any buffer, any cell and any offsets that are the round's; a round is those operations one after another, and is proved once for
  rounds `2 … 30` (with the two pairs of buffers exchanged from one round to the next), once for rounds `0` and `1`, which wait for no
  earlier write-out, and once for round `31`, which fetches nothing.
-/
module

public import proofs.«01_k».proof.Proof.ClipLoop

@[expose] public section

noncomputable section

namespace Cert.Proof.Clip

open Cert.KernelIdeal Facts₀ Facts

open Idealize.ShloMosaic
open Idealize.ShloMosaic.SparseCore (S V)
open Idealize.ShloMosaic.Transfers (Flight MayWaits)
open Idealize.SL Idealize.SL.RA Idealize.SL.BI
open scoped Idealize.SL.BI
open Idealize.SL.BI.BIBase Idealize.SL.BI.Laws Idealize.SL.ProofMode Idealize.SL.Sem

variable {F : FTy → Type} [FloatOps F] [Cert.KernelIdeal.Facts]

/-- `x` (the argument) and the result, as locations of device `d`. -/
abbrev xLoc (d : Dev nD) : Loc nD τ sig := (SparseCore.T d).loc main_arg0
abbrev oLoc (d : Dev nD) : Loc nD τ sig := (SparseCore.T d).loc main_v0

section Rounds

variable {U : Type} [URA U] {Ix : Type} [DecidableEq Ix]

local notation "𝕄" => MT nD τ sig Ix (Elt F) ℕ U ℕ
local notation "InBuf" => Memref sig Kind.scVector Space.vmem S8x2048 EltTy.f32
local notation "OutBuf" => Memref sig Kind.scVector Space.vmem S8x8x256 EltTy.f32

variable (EC : UEmb Counters (MT nD τ sig Ix (Elt F) ℕ U ℕ)) [EC.LandsIn (upEmb : UEmb _ (MT nD τ sig Ix (Elt F) ℕ U ℕ))]
variable (d : Dev nD) (L : grid0.Coords) (ι : Ix) {𝒱₀ : Variants} (O : CellTallies nD τ sig Ix)
variable (x : S1x256x65536.Idx → F .f32) (o : S1x256x256x256.Idx → F .f32) (w : ℕ)

/-! ## What the tile holds -/

/-- The part of `x` that round `r` reads; the part of the result it writes, before it is written and after. -/
def xPts (r : ℕ) : sProp 𝕄 := (xLoc d : Loc nD τ sig) ↦[xPiece w r]{fullShare} (x : Buf (Elt F) (xLoc d))
def oTodo (r : ℕ) : sProp 𝕄 := (oLoc d : Loc nD τ sig) ↦[oPiece w r]{fullShare} (o : Buf (Elt F) (oLoc d))
def oDone (r : ℕ) : sProp 𝕄 := (oLoc d : Loc nD τ sig) ↦[oPiece w r]{fullShare} (result x : Buf (Elt F) (oLoc d))

/-- A write-out's credit. -/
abbrev oCredit : ℕ := (main_v0_scv : Ref sig .scVector).dmaCredit S8x8x256 .f32

/-- An input buffer with its cell: idle; being filled with the block of round `r`; holding it. -/
def inFree (src : InBuf) (sem : DmaSem sig) : sProp 𝕄 :=
  iprop((∃ f : Buf (Elt F) (src.view.loc (thr d L)), src.view.loc (thr d L) ↦[src.view.set]{fullShare} f) ∗ semVal (thr d L, .dma sem) 0)
def inFly (src : InBuf) (sem : DmaSem sig) (r : ℕ) : sProp 𝕄 :=
  Flight EC (thr d L) (.dma sem) ι src.view.dmaCredit iprop(inHas d L x w r src ∗ xPts d x w r)
def inFull (src : InBuf) (sem : DmaSem sig) (r : ℕ) : sProp 𝕄 := iprop(inHas d L x w r src ∗ semVal (thr d L, .dma sem) 0)

/-- An output buffer with its cell: idle; holding the result's block of round `r`, which is being written out. -/
def outFree (dst : OutBuf) (sem : DmaSem sig) : sProp 𝕄 :=
  iprop((∃ g : Buf (Elt F) (dst.view.loc (thr d L)), dst.view.loc (thr d L) ↦[dst.view.set]{fullShare} g) ∗ semVal (thr d L, .dma sem) 0)
def outFly (dst : OutBuf) (sem : DmaSem sig) (r : ℕ) : sProp 𝕄 :=
  Flight EC (thr d L) (.dma sem) ι oCredit
    iprop((∃ g : Buf (Elt F) (dst.view.loc (thr d L)), dst.view.loc (thr d L) ↦[dst.view.set]{fullShare} g) ∗ oDone d x w r)

/-- What a wait needs and keeps: everything the tile owes lies above its own cells. -/
def may : sProp 𝕄 := iprop(MayWaits (thr d L) ι O ∗ ∃ W, owes (thr d L) O W)

/-! ## The operations -/

/-- The fetch of round `r`'s block is issued. -/
theorem wp_fetch (src : InBuf) (sem : DmaSem sig) {off : Fin 3 → ℕ} {h} {r : ℕ} (e : off = ![0, 8 * w, 2048 * r])
    {β : Type} {k : PUnit → Prog (TpuEff nD τ sig (Elt F) Λ₀ (pV L)) β} {Q : β → sProp 𝕄} {hs hd ht} :
    iprop(inFree d L src sem ∗ xPts d x w r : sProp 𝕄)
      ⊢ iprop((inFly EC d L ι x w src sem r -∗ wp frame (wpE (defs₀ (F := F)) 𝒱₀ (thr d L) none) Set.univ (k ⟨⟩) Q)
          -∗ wp frame (wpE (defs₀ (F := F)) 𝒱₀ (thr d L) none) Set.univ (.op (.enqueueDma (xWin xV off h) (.here src) (.dma sem) hs hd ht) k) Q) := by
  unfold inFree inFly xPts
  iintro ⟨⟨⟨%f, Hf⟩, Hv⟩, Hx⟩ Hk
  ihave Hx' := (Entails.of_eq (show ((xLoc d : Loc nD τ sig) ↦[xPiece w r]{fullShare} (x : Buf (Elt F) (xLoc d)) : sProp 𝕄)
    = ((xWin xV off h).view.loc (thr d L) ↦[(xWin xV off h).view.set]{fullShare} (x : Buf (Elt F) (xLoc d))) by rw [set_xWin h e])) $$ Hx
  iapply (Transfers.wp_dmaLocal EC 𝒱₀ (thr d L) none ι src.view.dmaCredit rfl
    (View.amount_pos src.view (.dma sem) (show 0 < S8x2048.numel by decide)) (Finset.Subset.refl _)) $$ [Hx' Hf Hv]
  · isplitl [Hx']; · iexact Hx'
    isplitl [Hf] <;> iassumption
  iintro HF
  iapply Hk
  iapply (Transfers.Flight_mono EC (thr d L) (show _ ⊢ _ from ?_)) $$ HF
  iintro ⟨Hd, Hs⟩
  isplitl [Hd]
  · unfold inHas
    iexists _
    isplitr
    swap; · iexact Hd
    ipureintro
    rw [View.read_write_univ]
    exact loaded_read h e x
  · rw [set_xWin h e]; iexact Hs

/-- The fetch of round `r`'s block is waited for. -/
theorem wp_fetched (src : InBuf) (sem : DmaSem sig) {off : Fin 3 → ℕ} {h} {r : ℕ}
    {β : Type} {k : PUnit → Prog (TpuEff nD τ sig (Elt F) Λ₀ (pV L)) β} {Q : β → sProp 𝕄} {hs hd} :
    iprop(inFly EC d L ι x w src sem r ∗ may d L ι O : sProp 𝕄)
      ⊢ iprop((iprop(inFull d L x w src sem r ∗ xPts d x w r ∗ may d L ι O) -∗ wp frame (wpE (defs₀ (F := F)) 𝒱₀ (thr d L) none) Set.univ (k ⟨⟩) Q)
          -∗ wp frame (wpE (defs₀ (F := F)) 𝒱₀ (thr d L) none) Set.univ (.op (.waitDma2 sem (xWin xV off h) src hs hd) k) Q) := by
  unfold inFly inFull may
  iintro ⟨HF, ⟨#Hm, %W, HO⟩⟩ Hk
  iapply (Transfers.wp_waitLocalO EC 𝒱₀ (thr d L) none ι rfl) $$ [HF HO]
  · isplitl [HF]; · iexact HF
    isplitl [HO]; · iexact HO
    iapply (MayWaits.elim (.dma sem)) $$ Hm
  iintro ⟨⟨Hi, Hx⟩, Hv, HO⟩
  iapply Hk
  isplitl [Hi Hv]; · isplitl [Hi] <;> iassumption
  isplitl [Hx]; · iexact Hx
  isplitr; · iexact Hm
  iexists _; iexact HO

/-- Round `r`'s block is clipped and its write-out issued. -/
theorem wp_clipOut (src : InBuf) (lsem : DmaSem sig) (dst : OutBuf) (sem : DmaSem sig) {off : Fin 4 → ℕ} {h} {r : ℕ}
    (e : off = ![0, 8 * w, 8 * r, 0]) (hok : k0_t1_loop.OK) (body : Fin k0_t1_loop.trips → Unit → Prog (TpuEff nD τ sig (Elt F) Λ₀ (pV L)) Unit)
    (hbody : ∀ t u, body t u = clipTrip L src dst t)
    {β : Type} {k : PUnit → Prog (TpuEff nD τ sig (Elt F) Λ₀ (pV L)) β} {Q : β → sProp 𝕄} {hs hd ht} :
    iprop(inFull d L x w src lsem r ∗ outFree d L dst sem ∗ oTodo d o w r : sProp 𝕄)
      ⊢ iprop((iprop(inFree d L src lsem ∗ outFly EC d L ι x w dst sem r) -∗ wp frame (wpE (defs₀ (F := F)) 𝒱₀ (thr d L) none) Set.univ (k ⟨⟩) Q)
          -∗ wp frame (wpE (defs₀ (F := F)) 𝒱₀ (thr d L) none) Set.univ
              (Scf.Loop.for k0_t1_loop hok ⟨⟩ body >>= fun _ => .op (.enqueueDma dst (.here (oWin oV off h)) (.dma sem) hs hd ht) k) Q) := by
  unfold inFull outFree outFly oTodo
  iintro ⟨⟨Hi, Hl⟩, ⟨⟨%g, Hg⟩, Hv⟩, Ho⟩ Hk
  iapply (wp_clipLoop d L x w r src dst hok body hbody) $$ [Hi Hg]
  · isplitl [Hi]; · iexact Hi
    unfold outTo
    iexists g
    isplitr; · ipureintro; exact clippedTo_zero _ _ _ _
    iexact Hg
  unfold outTo
  iintro ⟨Hi, ⟨%g', %hg, Hg⟩⟩
  ihave Ho' := (Entails.of_eq (show ((oLoc d : Loc nD τ sig) ↦[oPiece w r]{fullShare} (o : Buf (Elt F) (oLoc d)) : sProp 𝕄)
    = ((oWin oV off h).view.loc (thr d L) ↦[(oWin oV off h).view.set]{fullShare} (o : Buf (Elt F) (oLoc d))) by rw [set_oWin h e])) $$ Ho
  iapply (Transfers.wp_dmaLocal EC 𝒱₀ (thr d L) none ι oCredit rfl
    (View.amount_pos (oWin oV off h).view (.dma sem) (show 0 < S8x8x256.numel by decide)) (Finset.Subset.refl _)) $$ [Hg Ho' Hv]
  · isplitl [Hg]; · iexact Hg
    isplitl [Ho'] <;> iassumption
  iintro HF
  iapply Hk
  isplitl [Hi Hl]
  · unfold inFree inHas
    icases Hi with ⟨%f, -, Hf⟩
    isplitl [Hf]; · iexists f; iexact Hf
    iexact Hl
  iapply (Transfers.Flight_mono EC (thr d L) (show _ ⊢ _ from ?_)) $$ HF
  iintro ⟨Hd, Hs⟩
  isplitl [Hs]; · iexists _; iexact Hs
  unfold oDone
  rw [← set_oWin h e]
  iapply (Entails.of_eq (pointsTo_congr (write_oWin h e x _ _ hg))) $$ Hd

/-- The write-out of round `r` is waited for. -/
theorem wp_written (dst : OutBuf) (sem : DmaSem sig) {off : Fin 4 → ℕ} {h} {r : ℕ}
    {β : Type} {k : PUnit → Prog (TpuEff nD τ sig (Elt F) Λ₀ (pV L)) β} {Q : β → sProp 𝕄} {hs hd} :
    iprop(outFly EC d L ι x w dst sem r ∗ may d L ι O : sProp 𝕄)
      ⊢ iprop((iprop(outFree d L dst sem ∗ oDone d x w r ∗ may d L ι O) -∗ wp frame (wpE (defs₀ (F := F)) 𝒱₀ (thr d L) none) Set.univ (k ⟨⟩) Q)
          -∗ wp frame (wpE (defs₀ (F := F)) 𝒱₀ (thr d L) none) Set.univ (.op (.waitDma2 sem dst (oWin oV off h) hs hd) k) Q) := by
  unfold outFly outFree may
  iintro ⟨HF, ⟨#Hm, %W, HO⟩⟩ Hk
  iapply (Transfers.wp_waitLocalO EC 𝒱₀ (thr d L) none ι rfl) $$ [HF HO]
  · isplitl [HF]; · iexact HF
    isplitl [HO]; · iexact HO
    iapply (MayWaits.elim (.dma sem)) $$ Hm
  iintro ⟨⟨Hg, Ho⟩, Hv, HO⟩
  iapply Hk
  isplitl [Hg Hv]; · isplitl [Hg] <;> iassumption
  isplitl [Ho]; · iexact Ho
  isplitr; · iexact Hm
  iexists _; iexact HO

/-! ## The blocks not in flight -/

/-- Of thirty-two blocks, `Ψ` of the ones below `a` and `Φ` of the ones from `b` on. -/
def pool (Φ Ψ : ℕ → sProp 𝕄) (a b : ℕ) : sProp 𝕄 := iprop(bigSep (Finset.range a) Ψ ∗ bigSep (Finset.Ico b 32) Φ)

theorem pool_take (Φ Ψ : ℕ → sProp 𝕄) {a b : ℕ} (hb : b < 32) : pool Φ Ψ a b ⊢ iprop(Φ b ∗ pool Φ Ψ a (b + 1)) := by
  unfold pool
  rw [show Finset.Ico b 32 = insert b (Finset.Ico (b + 1) 32) from by ext k; simp only [Finset.mem_Ico, Finset.mem_insert]; omega,
    SparseCore.bigSep_insert' (by simp)]
  iintro ⟨Ha, Hb, Hc⟩
  isplitl [Hb]; · iexact Hb
  isplitl [Ha] <;> iassumption

theorem pool_put (Φ Ψ : ℕ → sProp 𝕄) (a b : ℕ) : iprop(Ψ a ∗ pool Φ Ψ a b) ⊢ pool Φ Ψ (a + 1) b := by
  unfold pool
  rw [Finset.range_add_one, SparseCore.bigSep_insert' (by simp)]
  iintro ⟨Hb, Ha, Hc⟩
  isplitl [Ha Hb]; · isplitl [Hb] <;> iassumption
  iexact Hc

/-- The blocks of `x`, and of the result. -/
abbrev xs (a b : ℕ) : sProp 𝕄 := pool (xPts d x w) (xPts d x w) a b
abbrev os (a b : ℕ) : sProp 𝕄 := pool (oTodo d o w) (oDone d x w) a b

/-! ## The rounds -/

section Whole

variable (inA : InBuf) (lA : DmaSem sig) (outA : OutBuf) (sA : DmaSem sig) (inB : InBuf) (lB : DmaSem sig) (outB : OutBuf) (sB : DmaSem sig)

/-- All four buffers idle, the blocks of `x` home, those of the result written below `a`. -/
def idle (a b : ℕ) : sProp 𝕄 :=
  iprop(inFree d L inA lA ∗ inFree d L inB lB ∗ outFree d L outA sA ∗ outFree d L outB sB ∗ xs d x w a b ∗ os d x o w a b ∗ may d L ι O)

/-- Before round `n + 2`, whose buffers are the pair `A`: its block is on its way in, the blocks of the two rounds before it on their way out. -/
def mid (n : ℕ) : sProp 𝕄 :=
  iprop(inFly EC d L ι x w inA lA (n + 2) ∗ inFree d L inB lB ∗ outFly EC d L ι x w outA sA n ∗ outFly EC d L ι x w outB sB (n + 1)
    ∗ xs d x w (n + 2) (n + 3) ∗ os d x o w n (n + 2) ∗ may d L ι O)

/-- Rounds `0` and `1`, with the fetches of blocks `0`, `1` and `2`. -/
theorem wp_first
    {off0 : Fin 3 → ℕ} {h0} (e0 : off0 = ![0, 8 * w, 2048 * 0]) {off1 : Fin 3 → ℕ} {h1} (e1 : off1 = ![0, 8 * w, 2048 * 1])
    {off2 : Fin 3 → ℕ} {h2} (e2 : off2 = ![0, 8 * w, 2048 * 2]) {offA : Fin 4 → ℕ} {hA} (eA : offA = ![0, 8 * w, 8 * 0, 0])
    {offB : Fin 4 → ℕ} {hB} (eB : offB = ![0, 8 * w, 8 * 1, 0])
    {hok hok' : k0_t1_loop.OK} {bodyA bodyB : Fin k0_t1_loop.trips → Unit → Prog (TpuEff nD τ sig (Elt F) Λ₀ (pV L)) Unit}
    (hbA : ∀ t u, bodyA t u = clipTrip L inA outA t) (hbB : ∀ t u, bodyB t u = clipTrip L inB outB t)
    {a1 a2 a3 b1 b2 b3 c1 c2 d1 d2 d3 f1 f2 f3 g1 g2 i1 i2 i3}
    {β : Type} {k : PUnit → Prog (TpuEff nD τ sig (Elt F) Λ₀ (pV L)) β} {Q : β → sProp 𝕄} :
    (idle d L ι O x o w inA lA outA sA inB lB outB sB 0 0 : sProp 𝕄)
      ⊢ iprop((mid EC d L ι O x o w inA lA outA sA inB lB outB sB 0 -∗ wp frame (wpE (defs₀ (F := F)) 𝒱₀ (thr d L) none) Set.univ (k ⟨⟩) Q)
          -∗ wp frame (wpE (defs₀ (F := F)) 𝒱₀ (thr d L) none) Set.univ
              (.op (.enqueueDma (xWin xV off0 h0) (.here inA) (.dma lA) a1 a2 a3) fun _ =>
                .op (.enqueueDma (xWin xV off1 h1) (.here inB) (.dma lB) b1 b2 b3) fun _ =>
                .op (.waitDma2 lA (xWin xV off0 h0) inA c1 c2) fun _ =>
                Scf.Loop.for k0_t1_loop hok ⟨⟩ bodyA >>= fun _ =>
                .op (.enqueueDma outA (.here (oWin oV offA hA)) (.dma sA) d1 d2 d3) fun _ =>
                .op (.enqueueDma (xWin xV off2 h2) (.here inA) (.dma lA) f1 f2 f3) fun _ =>
                .op (.waitDma2 lB (xWin xV off1 h1) inB g1 g2) fun _ =>
                Scf.Loop.for k0_t1_loop hok' ⟨⟩ bodyB >>= fun _ =>
                .op (.enqueueDma outB (.here (oWin oV offB hB)) (.dma sB) i1 i2 i3) k) Q) := by
  unfold idle mid
  iintro ⟨HA, HB, HoA, HoB, Hx, Ho, Hm⟩ Hk
  ihave Hx := (pool_take _ _ (by omega)) $$ Hx
  icases Hx with ⟨H0, Hx⟩
  iapply (wp_fetch EC d L ι x w inA lA e0) $$ [HA H0]
  · isplitl [HA] <;> iassumption
  iintro HA
  ihave Hx := (pool_take _ _ (by omega)) $$ Hx
  icases Hx with ⟨H1, Hx⟩
  iapply (wp_fetch EC d L ι x w inB lB e1) $$ [HB H1]
  · isplitl [HB] <;> iassumption
  iintro HB
  iapply (wp_fetched EC d L ι O x w inA lA) $$ [HA Hm]
  · isplitl [HA] <;> iassumption
  iintro ⟨HA, H0, Hm⟩
  ihave Hx := (pool_put (xPts d x w) (xPts d x w) 0 _) $$ [H0 Hx]
  · isplitl [H0] <;> iassumption
  ihave Ho := (pool_take _ _ (by omega)) $$ Ho
  icases Ho with ⟨H0, Ho⟩
  iapply (wp_clipOut EC d L ι x o w inA lA outA sA eA hok bodyA hbA) $$ [HA HoA H0]
  · isplitl [HA]; · iexact HA
    isplitl [HoA] <;> iassumption
  iintro ⟨HA, HoA⟩
  ihave Hx := (pool_take _ _ (by omega)) $$ Hx
  icases Hx with ⟨H2, Hx⟩
  iapply (wp_fetch EC d L ι x w inA lA e2) $$ [HA H2]
  · isplitl [HA] <;> iassumption
  iintro HA
  iapply (wp_fetched EC d L ι O x w inB lB) $$ [HB Hm]
  · isplitl [HB] <;> iassumption
  iintro ⟨HB, H1, Hm⟩
  ihave Hx := (pool_put (xPts d x w) (xPts d x w) 1 _) $$ [H1 Hx]
  · isplitl [H1] <;> iassumption
  ihave Ho := (pool_take _ _ (by omega)) $$ Ho
  icases Ho with ⟨H1, Ho⟩
  iapply (wp_clipOut EC d L ι x o w inB lB outB sB eB hok' bodyB hbB) $$ [HB HoB H1]
  · isplitl [HB]; · iexact HB
    isplitl [HoB] <;> iassumption
  iintro ⟨HB, HoB⟩
  iapply Hk
  isplitl [HA]; · iexact HA
  isplitl [HB]; · iexact HB
  isplitl [HoA]; · iexact HoA
  isplitl [HoB]; · iexact HoB
  isplitl [Hx]; · iexact Hx
  isplitl [Ho] <;> iassumption

/-- Round `n + 2`, for every `n` but the last: the two pairs of buffers have changed places after it. -/
theorem wp_round {n : ℕ} (hn : n + 3 < 32)
    {offN offR : Fin 3 → ℕ} {hN hR} (eN : offN = ![0, 8 * w, 2048 * (n + 3)]) {offP offS : Fin 4 → ℕ} {hP hS} (eS : offS = ![0, 8 * w, 8 * (n + 2), 0])
    {hok : k0_t1_loop.OK} {body : Fin k0_t1_loop.trips → Unit → Prog (TpuEff nD τ sig (Elt F) Λ₀ (pV L)) Unit}
    (hb : ∀ t u, body t u = clipTrip L inA outA t) {a1 a2 a3 b1 b2 c1 c2 d1 d2 d3}
    {β : Type} {k : PUnit → Prog (TpuEff nD τ sig (Elt F) Λ₀ (pV L)) β} {Q : β → sProp 𝕄} :
    (mid EC d L ι O x o w inA lA outA sA inB lB outB sB n : sProp 𝕄)
      ⊢ iprop((mid EC d L ι O x o w inB lB outB sB inA lA outA sA (n + 1) -∗ wp frame (wpE (defs₀ (F := F)) 𝒱₀ (thr d L) none) Set.univ (k ⟨⟩) Q)
          -∗ wp frame (wpE (defs₀ (F := F)) 𝒱₀ (thr d L) none) Set.univ
              (.op (.enqueueDma (xWin xV offN hN) (.here inB) (.dma lB) a1 a2 a3) fun _ =>
                .op (.waitDma2 lA (xWin xV offR hR) inA b1 b2) fun _ =>
                .op (.waitDma2 sA outA (oWin oV offP hP) c1 c2) fun _ =>
                Scf.Loop.for k0_t1_loop hok ⟨⟩ body >>= fun _ =>
                .op (.enqueueDma outA (.here (oWin oV offS hS)) (.dma sA) d1 d2 d3) k) Q) := by
  unfold mid
  iintro ⟨HA, HB, HoA, HoB, Hx, Ho, Hm⟩ Hk
  ihave Hx := (pool_take _ _ hn) $$ Hx
  icases Hx with ⟨H1, Hx⟩
  iapply (wp_fetch EC d L ι x w inB lB eN) $$ [HB H1]
  · isplitl [HB] <;> iassumption
  iintro HB
  iapply (wp_fetched EC d L ι O x w inA lA) $$ [HA Hm]
  · isplitl [HA] <;> iassumption
  iintro ⟨HA, H0, Hm⟩
  ihave Hx := (pool_put (xPts d x w) (xPts d x w) (n + 2) _) $$ [H0 Hx]
  · isplitl [H0] <;> iassumption
  iapply (wp_written EC d L ι O x w outA sA) $$ [HoA Hm]
  · isplitl [HoA] <;> iassumption
  iintro ⟨HoA, H0, Hm⟩
  ihave Ho := (pool_put (oTodo d o w) (oDone d x w) n _) $$ [H0 Ho]
  · isplitl [H0] <;> iassumption
  ihave Ho := (pool_take _ _ (show n + 2 < 32 by omega)) $$ Ho
  icases Ho with ⟨H0, Ho⟩
  iapply (wp_clipOut EC d L ι x o w inA lA outA sA eS hok body hb) $$ [HA HoA H0]
  · isplitl [HA]; · iexact HA
    isplitl [HoA] <;> iassumption
  iintro ⟨HA, HoA⟩
  iapply Hk
  isplitl [HB]; · iexact HB
  isplitl [HA]; · iexact HA
  isplitl [HoB]; · iexact HoB
  isplitl [HoA]; · iexact HoA
  isplitl [Hx]; · iexact Hx
  isplitl [Ho] <;> iassumption

/-- Round `31`, and the last two write-outs' waits. -/
theorem wp_last
    {offR : Fin 3 → ℕ} {hR} {offP offS offQ : Fin 4 → ℕ} {hP hS hQ} (eS : offS = ![0, 8 * w, 8 * 31, 0])
    {hok : k0_t1_loop.OK} {body : Fin k0_t1_loop.trips → Unit → Prog (TpuEff nD τ sig (Elt F) Λ₀ (pV L)) Unit}
    (hb : ∀ t u, body t u = clipTrip L inA outA t) {b1 b2 c1 c2 d1 d2 d3 f1 f2 g1 g2}
    {β : Type} {k : PUnit → Prog (TpuEff nD τ sig (Elt F) Λ₀ (pV L)) β} {Q : β → sProp 𝕄} :
    (mid EC d L ι O x o w inA lA outA sA inB lB outB sB 29 : sProp 𝕄)
      ⊢ iprop((idle d L ι O x o w inB lB outB sB inA lA outA sA 32 32 -∗ wp frame (wpE (defs₀ (F := F)) 𝒱₀ (thr d L) none) Set.univ (k ⟨⟩) Q)
          -∗ wp frame (wpE (defs₀ (F := F)) 𝒱₀ (thr d L) none) Set.univ
              (.op (.waitDma2 lA (xWin xV offR hR) inA b1 b2) fun _ =>
                .op (.waitDma2 sA outA (oWin oV offP hP) c1 c2) fun _ =>
                Scf.Loop.for k0_t1_loop hok ⟨⟩ body >>= fun _ =>
                .op (.enqueueDma outA (.here (oWin oV offS hS)) (.dma sA) d1 d2 d3) fun _ =>
                .op (.waitDma2 sB outB (oWin oV offQ hQ) f1 f2) fun _ =>
                .op (.waitDma2 sA outA (oWin oV offS hS) g1 g2) k) Q) := by
  unfold mid idle
  iintro ⟨HA, HB, HoA, HoB, Hx, Ho, Hm⟩ Hk
  iapply (wp_fetched EC d L ι O x w inA lA) $$ [HA Hm]
  · isplitl [HA] <;> iassumption
  iintro ⟨HA, H0, Hm⟩
  ihave Hx := (pool_put (xPts d x w) (xPts d x w) 31 _) $$ [H0 Hx]
  · isplitl [H0] <;> iassumption
  iapply (wp_written EC d L ι O x w outA sA) $$ [HoA Hm]
  · isplitl [HoA] <;> iassumption
  iintro ⟨HoA, H0, Hm⟩
  ihave Ho := (pool_put (oTodo d o w) (oDone d x w) 29 _) $$ [H0 Ho]
  · isplitl [H0] <;> iassumption
  ihave Ho := (pool_take _ _ (show 31 < 32 by omega)) $$ Ho
  icases Ho with ⟨H0, Ho⟩
  iapply (wp_clipOut EC d L ι x o w inA lA outA sA eS hok body hb) $$ [HA HoA H0]
  · isplitl [HA]; · iexact HA
    isplitl [HoA] <;> iassumption
  iintro ⟨HA, HoA⟩
  iapply (wp_written EC d L ι O x w outB sB) $$ [HoB Hm]
  · isplitl [HoB] <;> iassumption
  iintro ⟨HoB, H0, Hm⟩
  ihave Ho := (pool_put (oTodo d o w) (oDone d x w) 30 _) $$ [H0 Ho]
  · isplitl [H0] <;> iassumption
  iapply (wp_written EC d L ι O x w outA sA) $$ [HoA Hm]
  · isplitl [HoA] <;> iassumption
  iintro ⟨HoA, H0, Hm⟩
  ihave Ho := (pool_put (oTodo d o w) (oDone d x w) 31 _) $$ [H0 Ho]
  · isplitl [H0] <;> iassumption
  iapply Hk
  isplitl [HB]; · iexact HB
  isplitl [HA]; · iexact HA
  isplitl [HoB]; · iexact HoB
  isplitl [HoA]; · iexact HoA
  isplitl [Hx]; · iexact Hx
  isplitl [Ho] <;> iassumption

end Whole

end Rounds

end Cert.Proof.Clip

end
-- ==== Proof.Body.lean ====
/-
  The kernel's body is the thirty-two rounds: the two first, rounds `2 … 30` with the pairs of buffers taking turns, the last.
-/
module

public import proofs.«01_k».proof.Proof.Rounds
public import proofs.«01_k».proof.Proof.Gen.KernelIdeal
public import proofs.«01_k».proof.Proof.Gen.KernelIdeal.Skeleton

@[expose] public section

noncomputable section

namespace Cert.Proof.Clip

open Cert.KernelIdeal Cert.KernelIdeal.Gen Facts₀ Facts

open Idealize.ShloMosaic
open Idealize.ShloMosaic.SparseCore (S V)
open Idealize.SL Idealize.SL.RA Idealize.SL.BI
open scoped Idealize.SL.BI
open Idealize.SL.BI.BIBase Idealize.SL.BI.Laws Idealize.SL.ProofMode Idealize.SL.Sem

variable {F : FTy → Type} [FloatOps F] [Cert.KernelIdeal.Facts]

section Body

variable {U : Type} [URA U] {Ix : Type} [DecidableEq Ix]

local notation "𝕄" => MT nD τ sig Ix (Elt F) ℕ U ℕ
local notation "InBuf" => Memref sig Kind.scVector Space.vmem S8x2048 EltTy.f32
local notation "OutBuf" => Memref sig Kind.scVector Space.vmem S8x8x256 EltTy.f32

variable (EC : UEmb Counters (MT nD τ sig Ix (Elt F) ℕ U ℕ)) [EC.LandsIn (upEmb : UEmb _ (MT nD τ sig Ix (Elt F) ℕ U ℕ))]
variable (d : Dev nD) (L : grid0.Coords) (ι : Ix) {𝒱₀ : Variants} (O : CellTallies nD τ sig Ix)
variable (x : S1x256x65536.Idx → F .f32) (o : S1x256x256x256.Idx → F .f32)

/-- The tile's number: its block of eight rows. -/
def wid : ℕ := 2 * (L 1).val + (L 0).val

theorem vec3_ext {b b' c c' : ℕ} (hb : b = b') (hc : c = c') : ![0, b, c] = ![0, b', c'] := by rw [hb, hc]
theorem vec4_ext {b b' c c' : ℕ} (hb : b = b') (hc : c = c') : ![0, b, c, 0] = ![0, b', c', 0] := by rw [hb, hc]

/-- A printed offsets chain is the round's, by its closed form. -/
theorem xOff {off : Fin 3 → ℕ} [h : ClosedOff off] {c r : ℕ} (hf : h.form = ![0, 16 * (L 1).val + 8 * (L 0).val, c]) (hc : c = 2048 * r) :
    off = ![0, 8 * wid L, 2048 * r] := by
  rw [h.eq, hf]; exact vec3_ext (by unfold wid; omega) hc
theorem oOff {off : Fin 4 → ℕ} [h : ClosedOff off] {c r : ℕ} (hf : h.form = ![0, 16 * (L 1).val + 8 * (L 0).val, c, 0]) (hc : c = 8 * r) :
    off = ![0, 8 * wid L, 8 * r, 0] := by
  rw [h.eq, hf]; exact vec4_ext (by unfold wid; omega) hc

include EC in
theorem wp_body (arg4 : InBuf) (h4 : arg4.IsWhole) (arg5 : InBuf) (h5 : arg5.IsWhole) (arg6 : OutBuf) (h6 : arg6.IsWhole)
    (arg7 : OutBuf) (h7 : arg7.IsWhole) (arg8 arg9 arg10 arg11 : DmaSems sig S_) {Q : PUnit → sProp 𝕄} :
    iprop(idle d L ι O x o (wid L) arg4 arg8.sem arg6 arg10.sem arg5 arg9.sem arg7 arg11.sem 0 0
        ∗ (idle d L ι O x o (wid L) arg4 arg8.sem arg6 arg10.sem arg5 arg9.sem arg7 arg11.sem 32 32 -∗ Q ⟨⟩))
      ⊢ wp frame (wpE (defs₀ (F := F)) 𝒱₀ (thr d L) none) Set.univ
          (cc0__sc_body (F := F) L xV (Memref.isWhole_whole _) oV (Memref.isWhole_whole _) arg4 h4 arg5 h5 arg6 h6 arg7 h7 arg8 arg9 arg10 arg11) Q := by
  rw [cc0__sc_body_eq_skeleton]
  unfold cc0__sc_body_skel
  rw [k0_part33_eq_skeleton, k0_part34_eq_skeleton, k0_part35_eq_skeleton, k0_part36_eq_skeleton, k0_part37_eq_skeleton,
    k0_part38_eq_skeleton, k0_part39_eq_skeleton, k0_part40_eq_skeleton, k0_part41_eq_skeleton, k0_part42_eq_skeleton,
    k0_part43_eq_skeleton, k0_part44_eq_skeleton, k0_part45_eq_skeleton, k0_part46_eq_skeleton, k0_part47_eq_skeleton,
    k0_part48_eq_skeleton, k0_part49_eq_skeleton, k0_part50_eq_skeleton, k0_part51_eq_skeleton, k0_part52_eq_skeleton,
    k0_part53_eq_skeleton, k0_part54_eq_skeleton]
  unfold k0_part33_skel k0_part34_skel k0_part35_skel k0_part36_skel k0_part37_skel k0_part38_skel k0_part39_skel k0_part40_skel
    k0_part41_skel k0_part42_skel k0_part43_skel k0_part44_skel k0_part45_skel k0_part46_skel k0_part47_skel k0_part48_skel k0_part49_skel
    k0_part50_skel k0_part51_skel k0_part52_skel k0_part53_skel k0_part54_skel
  simp only [Prog.bind_op, Prog.bind_lift, Prog.bind_ret, Prog.pure_eq_ret, bind_assoc]
  iintro ⟨H, Hk⟩
  iapply (wp_first EC d L ι O x o (wid L) arg4 arg8.sem arg6 arg10.sem arg5 arg9.sem arg7 arg11.sem ?_ ?_ ?_ ?_ ?_ (fun _ _ => rfl) (fun _ _ => rfl)) $$ H
    <;> first | exact xOff L rfl (by omega) | exact oOff L rfl (by omega) | skip
  iterate 29
    iintro H
    iapply (wp_round EC d L ι O x o (wid L) _ _ _ _ _ _ _ _ (by omega) ?_ ?_ (fun _ _ => rfl)) $$ H
      <;> first | exact xOff L rfl (by omega) | exact oOff L rfl (by omega) | skip
  iintro H
  iapply (wp_last EC d L ι O x o (wid L) _ _ _ _ _ _ _ _ ?_ (fun _ _ => rfl)) $$ H
    <;> first | exact oOff L rfl (by omega) | skip
  iintro H
  iapply le_wp_ret
  iapply Hk
  iexact H

end Body

end Cert.Proof.Clip

end
-- ==== Proof.Launch.lean ====
/-
  The launch. The TensorCore's one call hands every tile its thirty-two blocks of `x` and of the result, and takes them back with the
  result's blocks written; nothing is divided further, so a SparseCore's sequencer hands on what it is given tile by tile. The tile's
  task is the rounds of Proof/Body.lean over the tile's own four buffers and four cells. From it the whole run: the result array ends
  at `result x`, the three arguments and every semaphore counter at their initial values, for any float values.
-/
module

public import proofs.«01_k».proof.Proof.Body
public import Idealize.ShloMosaic.Lib.StableHlo.Run

@[expose] public section

noncomputable section

namespace Cert.Proof.Clip

open Cert.KernelIdeal Cert.KernelIdeal.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem hfacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds, and the transfers' counters. -/
abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL
abbrev EC : UEmb Counters (MT nD τ sig (HIx 1) (Elt F) ℕ UU ℕ) := countersEmb

/-! ## An array is its tiles' blocks -/

/-- An array whole is its pieces over SparseCores, tiles and rounds, when every place lies in exactly one piece. -/
theorem pts_pieces {ℓ : Loc nD τ sig} (A : ℕ → ℕ → Finset (Idx ℓ))
    (hcov : ∀ j, ∃ w r, w < 32 ∧ r < 32 ∧ j ∈ A w r) (hdis : ∀ {w r w' r' j}, j ∈ A w r → j ∈ A w' r' → w = w' ∧ r = r') (f : Buf (Elt F) ℓ) :
    (ℓ ↦{fullShare} f : sProp 𝕄)
      = bigSep Finset.univ fun c : Fin 2 => bigSep Finset.univ fun i : Fin 16 => bigSep (Finset.range 32) fun r =>
          ℓ ↦[A (2 * i.val + c.val) r]{fullShare} f := by
  have hu : (Finset.univ : Finset (Idx ℓ)) = (Finset.univ : Finset (Fin 2)).biUnion fun c => (Finset.univ : Finset (Fin 16)).biUnion fun i =>
      (Finset.range 32).biUnion fun r => A (2 * i.val + c.val) r := by
    ext j
    simp only [Finset.mem_univ, Finset.mem_biUnion, Finset.mem_range, true_and, true_iff]
    obtain ⟨w, r, hw, hr, hj⟩ := hcov j
    refine ⟨⟨w % 2, by omega⟩, ⟨w / 2, by omega⟩, r, hr, ?_⟩
    rwa [show 2 * (w / 2) + w % 2 = w by omega]
  have hd : ∀ {s t : Finset (Idx ℓ)}, (∀ j, j ∈ s → j ∈ t → False) → Disjoint s t := fun h => Finset.disjoint_left.mpr h
  rw [hu, pointsTo_biUnion]
  · refine bigSep_congr fun c _ => ?_
    rw [pointsTo_biUnion]
    · refine bigSep_congr fun i _ => ?_
      rw [pointsTo_biUnion]
      exact fun r _ r' _ hne => hd fun j h h' => hne (hdis h h').2
    · refine fun i _ i' _ hne => hd fun j h h' => ?_
      simp only [Finset.mem_biUnion] at h h'
      obtain ⟨⟨r, _, h⟩, r', _, h'⟩ := And.intro h h'
      have := (hdis h h').1
      exact hne (Fin.ext (by omega))
  · refine fun c _ c' _ hne => hd fun j h h' => ?_
    simp only [Finset.mem_biUnion] at h h'
    obtain ⟨⟨i, _, r, _, h⟩, i', _, r', _, h'⟩ := And.intro h h'
    have := (hdis h h').1
    exact hne (Fin.ext (by have := c.isLt; have := c'.isLt; omega))

theorem xPts_pieces (d : Dev nD) (f : Buf (Elt F) (xLoc d)) :
    (xLoc d ↦{fullShare} f : sProp 𝕄)
      = bigSep Finset.univ fun c : Fin 2 => bigSep Finset.univ fun i : Fin 16 => bigSep (Finset.range 32) fun r =>
          xLoc d ↦[xPiece (2 * i.val + c.val) r]{fullShare} f :=
  pts_pieces (ℓ := xLoc d) xPiece
    (fun (j : S1x256x65536.Idx) => ⟨(j 1).val / 8, (j 2).val / 2048,
      by have h : (j 1).val < 256 := (j 1).isLt; omega, by have h : (j 2).val < 65536 := (j 2).isLt; omega, mem_xPiece.mpr ⟨rfl, rfl⟩⟩)
    (fun h h' => ⟨(mem_xPiece.mp h).1.symm.trans (mem_xPiece.mp h').1, (mem_xPiece.mp h).2.symm.trans (mem_xPiece.mp h').2⟩) f

theorem oPts_pieces (d : Dev nD) (f : Buf (Elt F) (oLoc d)) :
    (oLoc d ↦{fullShare} f : sProp 𝕄)
      = bigSep Finset.univ fun c : Fin 2 => bigSep Finset.univ fun i : Fin 16 => bigSep (Finset.range 32) fun r =>
          oLoc d ↦[oPiece (2 * i.val + c.val) r]{fullShare} f :=
  pts_pieces (ℓ := oLoc d) oPiece
    (fun (j : S1x256x256x256.Idx) => ⟨(j 1).val / 8, (j 2).val / 8,
      by have h : (j 1).val < 256 := (j 1).isLt; omega, by have h : (j 2).val < 256 := (j 2).isLt; omega, mem_oPiece.mpr ⟨rfl, rfl⟩⟩)
    (fun h h' => ⟨(mem_oPiece.mp h).1.symm.trans (mem_oPiece.mp h').1, (mem_oPiece.mp h).2.symm.trans (mem_oPiece.mp h').2⟩) f

theorem pool_start (Φ Ψ : ℕ → sProp 𝕄) : pool Φ Ψ 0 0 = bigSep (Finset.range 32) Φ := by
  unfold pool
  rw [Finset.range_zero, bigSep_empty, ← Finset.range_eq_Ico]
  exact emp_sep_eq _
theorem pool_end (Φ Ψ : ℕ → sProp 𝕄) : pool Φ Ψ 32 32 = bigSep (Finset.range 32) Ψ := by
  unfold pool
  rw [Finset.Ico_self, bigSep_empty]
  exact sep_emp_eq _

/-! ## What the handshakes carry -/

variable (m : (ℓ : Loc nD τ sig) → Buf (Elt F) ℓ) (ρ : Dev nD → PrngReg)
variable [FloatOps F]

/-- A tile's blocks of the two arrays, as the call hands them out (`n = 0`) and takes them back (`n = 32`). -/
abbrev tilePts (d : Dev nD) (w n : ℕ) : sProp 𝕄 := iprop(xs d (m (xLoc d)) w n n ∗ os d (m (xLoc d)) (m (oLoc d)) w n n)

/-- The one call's payloads: to each task its tile's blocks, to each SparseCore its tiles'. -/
def P : (K (F := F)).Pay (nD := nD) (Val := Elt F) (Name := ℕ) (U := UU) where
  st := fun q d c => match q with | 0 => bigSep Finset.univ fun i : Fin ((K (F := F)).nSub 0) => tilePts m d (2 * i.val + c.val) 0
  dn := fun q d c => match q with | 0 => bigSep Finset.univ fun i : Fin ((K (F := F)).nSub 0) => tilePts m d (2 * i.val + c.val) 32
  go := fun q d c i => match q with | 0 => tilePts m d (2 * i.val + c.val) 0
  td := fun q d c i => match q with | 0 => tilePts m d (2 * i.val + c.val) 32
  x := fun _ _ => iprop(emp)

instance tilePts_storable (d : Dev nD) (w n : ℕ) : BI.Storable (upEmb : UEmb _ 𝕄) (tilePts m d w n) := by
  unfold tilePts xs os pool xPts oTodo oDone; infer_instance

instance P_storable : (P (F := F) m).IsStorable where
  st q d c := match q with
    | 0 => (inferInstance : BI.Storable (upEmb : UEmb _ 𝕄) (bigSep Finset.univ fun i : Fin ((K (F := F)).nSub 0) => tilePts m d (2 * i.val + c.val) 0))
  dn q d c := match q with
    | 0 => (inferInstance : BI.Storable (upEmb : UEmb _ 𝕄) (bigSep Finset.univ fun i : Fin ((K (F := F)).nSub 0) => tilePts m d (2 * i.val + c.val) 32))
  go q d c i := match q with | 0 => tilePts_storable m d (2 * i.val + c.val) 0
  td q d c i := match q with | 0 => tilePts_storable m d (2 * i.val + c.val) 32

/-! ## The task -/

section Tile

variable (d : Dev nD) (L : grid0.Coords)

/-- Four members of an indexed family, and the rest. -/
theorem bigSep_four {I : Type} [DecidableEq I] {A : Finset I} {a b c e : I} (ha : a ∈ A) (hb : b ∈ A) (hc : c ∈ A) (he : e ∈ A)
    (hba : b ≠ a) (hca : c ≠ a) (hcb : c ≠ b) (hea : e ≠ a) (heb : e ≠ b) (hec : e ≠ c) (Φ : I → sProp 𝕄) :
    bigSep A Φ = iprop(Φ a ∗ Φ b ∗ Φ c ∗ Φ e ∗ bigSep ((((A.erase a).erase b).erase c).erase e) Φ) := by
  rw [SparseCore.bigSep_erase' ha, SparseCore.bigSep_erase' (Finset.mem_erase.mpr ⟨hba, hb⟩),
    SparseCore.bigSep_erase' (Finset.mem_erase.mpr ⟨hcb, Finset.mem_erase.mpr ⟨hca, hc⟩⟩),
    SparseCore.bigSep_erase' (Finset.mem_erase.mpr ⟨hec, Finset.mem_erase.mpr ⟨heb, Finset.mem_erase.mpr ⟨hea, he⟩⟩⟩)]

/-- The cell of one of the tile's semaphores. -/
abbrev cell (s : DmaSems sig S_) : GSem nD τ sig := (thr d L, .dma s.sem)
/-- The tile's copy of one of its buffers, on the device. -/
abbrev ownRef (b : Ref sig .scVector) : DevRef τ sig := (pV L).devRef b

theorem cell_mem (s : DmaSems sig S_) (h : (SemLoc.dma s.sem : SemLoc sig).isScoped .scVector = true) : cell d L s ∈ ownCells (thr d L) :=
  (mem_ownCells (g := cell d L s)).mpr ⟨rfl, h⟩
theorem cell_ne {s t : DmaSems sig S_} (h : (SemLoc.dma s.sem : SemLoc sig) ≠ .dma t.sem) : cell d L s ≠ cell d L t :=
  fun e => h (congrArg Prod.snd e)
theorem ref_ne {a b : Ref sig .scVector} (h : a ≠ b) : ownRef L a ≠ ownRef L b := fun e => h (Proc.devRef_injective _ e)

/-- A buffer of the tile's, whole, in the spelling of the views the body takes. -/
theorem buf_whole (b : Ref sig .scVector) :
    (iprop(∃ f, (thr d L).loc b ↦{fullShare} f) : sProp 𝕄)
      = iprop(∃ f : Buf (Elt F) ((View.whole b).loc (thr d L)), (View.whole b).loc (thr d L) ↦[(View.whole b).set]{fullShare} f) := by
  rw [View.set_whole]

/-- The tile's own cells, at zero, are the four the body names and the rest. -/
theorem ownSems0_V : ∃ R : sProp 𝕄, (ownSems0 (thr d L) : sProp 𝕄)
      = iprop(semVal (cell d L cc0_scratch4) 0 ∗ semVal (cell d L cc0_scratch5) 0 ∗ semVal (cell d L cc0_scratch6) 0 ∗ semVal (cell d L cc0_scratch7) 0 ∗ R) :=
  ⟨_, bigSep_four (cell_mem d L _ (by decide)) (cell_mem d L _ (by decide)) (cell_mem d L _ (by decide)) (cell_mem d L _ (by decide))
    (cell_ne d L (by decide)) (cell_ne d L (by decide)) (cell_ne d L (by decide)) (cell_ne d L (by decide)) (cell_ne d L (by decide))
    (cell_ne d L (by decide)) fun g => semVal g 0⟩

/-- The tile's own buffers, each at some contents, are the four the body takes and the rest. -/
theorem ownBufs_V : ∃ R : sProp 𝕄, (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f) ∗ (∃ f, (thr d L).loc cc0_scratch3 ↦{fullShare} f) ∗ R) :=
  ⟨_, bigSep_four (a := ownRef L cc0_scratch0) (b := ownRef L cc0_scratch1) (c := ownRef L cc0_scratch2) (e := ownRef L cc0_scratch3)
    (SparseCore.Cfg.mem_ownRefs_of_owner (p := pV L) rfl) (SparseCore.Cfg.mem_ownRefs_of_owner (p := pV L) rfl)
    (SparseCore.Cfg.mem_ownRefs_of_owner (p := pV L) rfl) (SparseCore.Cfg.mem_ownRefs_of_owner (p := pV L) rfl)
    (ref_ne L (by decide)) (ref_ne L (by decide)) (ref_ne L (by decide)) (ref_ne L (by decide)) (ref_ne L (by decide)) (ref_ne L (by decide))
    fun b => iprop(∃ f, ((d, b) : Loc nD τ sig) ↦{fullShare} f)⟩

/-- The task on a tile: the rounds, from the tile's blocks to the same with the result's written. -/
theorem tile_body (hF : (K (F := F)).Facts) (O : CellTallies nD τ sig (HIx 1)) (W : Waits sig (HIx 1)) (hO : ∀ g, O g none = 0) :
    iprop(levAts (K (F := F)).L (K (F := F)).lev ∗ emp ∗ tilePts m d (wid L) 0
        ∗ scopedBufs (thr d L) ∗ scopedSems0 (thr d L) ∗ owes (thr d L) O W)
      ⊢ wp frame (wpE (defs₀ (F := F)) 𝒱₀ (thr d L) none) Set.univ
          (cc0__sc_body (F := F) L xV (Memref.isWhole_whole _) oV (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) cc0_scratch4 cc0_scratch5 cc0_scratch6 cc0_scratch7)
          fun _ => iprop(tilePts m d (wid L) 32
            ∗ scopedBufs (thr d L) ∗ scopedSems0 (thr d L)
            ∗ ∃ W', ⌜∀ p ∈ W', p ∈ W ∨ p.2 = none ∨ p.2 = some (0 : Fin 1)⌝ ∗ owes (thr d L) O W') := by
  obtain ⟨RS, hS⟩ := ownSems0_V (F := F) d L
  obtain ⟨RB, hB⟩ := ownBufs_V (F := F) d L
  rw [(K (F := F)).scopedBufs_V hF d (cV L) (jV L), SparseCore.Cfg.scopedSems0_V (Val := Elt F) d (cV L) (jV L), hS, hB,
    buf_whole d L cc0_scratch0, buf_whole d L cc0_scratch1, buf_whole d L cc0_scratch2, buf_whole d L cc0_scratch3]
  iintro ⟨#Hlv, -, ⟨Hx, Ho⟩, ⟨H0, H1, H2, H3, Hbufs⟩, ⟨S4, S5, S6, S7, Hsems⟩, HO⟩
  ihave Hmw := (show levAts (K (F := F)).L (K (F := F)).lev ⊢ Transfers.MayWaits (thr d L) (none : HIx 1) O from
    (K (F := F)).mayWaits_none (thr := thr d L) hO) $$ Hlv
  iapply (wp_body EC d L (none : HIx 1) O (m (xLoc d)) (m (oLoc d)) _ _ _ _ _ _ _ _ _ _ _ _) $$ [-]
  unfold idle inFree outFree may
  isplitl [Hx Ho H0 H1 H2 H3 S4 S5 S6 S7 HO]
  · isplitl [H0 S4]; · isplitl [H0] <;> iassumption
    isplitl [H1 S5]; · isplitl [H1] <;> iassumption
    isplitl [H2 S6]; · isplitl [H2] <;> iassumption
    isplitl [H3 S7]; · isplitl [H3] <;> iassumption
    isplitl [Hx]; · iexact Hx
    isplitl [Ho]; · iexact Ho
    isplitr; · iexact Hmw
    iexists W; iexact HO
  iintro ⟨⟨H0, S4⟩, ⟨H1, S5⟩, ⟨H2, S6⟩, ⟨H3, S7⟩, Hx, Ho, -, %W', HO⟩
  isplitl [Hx Ho]; · isplitl [Hx] <;> iassumption
  isplitl [H0 H1 H2 H3 Hbufs]
  · isplitl [H0]; · iexact H0
    isplitl [H1]; · iexact H1
    isplitl [H2]; · iexact H2
    isplitl [H3]; · iexact H3
    iexact Hbufs
  isplitl [S4 S5 S6 S7 Hsems]
  · isplitl [S4]; · iexact S4
    isplitl [S5]; · iexact S5
    isplitl [S6]; · iexact S6
    isplitl [S7]; · iexact S7
    iexact Hsems
  iexists W'; isplitr
  swap; · iexact HO
  ipureintro; intro p _
  rcases p.2 with _ | q
  · exact .inr (.inl rfl)
  · exact .inr (.inr (congrArg some (Subsingleton.elim q 0)))

end Tile

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_body (F := F) (coordsV c s) xV (Memref.isWhole_whole _) oV (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          cc0_scratch4 cc0_scratch5 cc0_scratch6 cc0_scratch7) ⟨⟩ c s := rfl

theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hbody := tile_body m d (coordsV ⟨_, hci.1⟩ ⟨_, hci.2⟩) hF O W hO
  rw [defs₀_vector]; simp only [SparseCore.onTile, hci, and_self, ↓reduceDIte]
  generalize cc0__sc_body (F := F) _ _ _ _ _ _ _ _ _ _ _ _ _ _ _ _ _ = prog at hbody ⊢
  exact hbody

/-- A SparseCore's payloads are its tasks'. -/
theorem P_st (d : Dev nD) (c : Fin ((K (F := F)).nCore 0)) :
    (P m).st 0 d c = bigSep Finset.univ fun i : Fin ((K (F := F)).nSub 0) => (P m).go 0 d c i := rfl
theorem P_dn (d : Dev nD) (c : Fin ((K (F := F)).nCore 0)) :
    (P m).dn 0 d c = bigSep Finset.univ fun i : Fin ((K (F := F)).nSub 0) => (P m).td 0 d c i := rfl

theorem vecSplit : (K (F := F)).VecSplit' (P m) 0 := by
  intro d c
  rw [P_st, P_dn]
  iintro H; imodintro
  isplitl [H]; · iexact H
  iintro H; iexact H

/-! ## The launch element: the handshakes' rounds; nothing of the kernel's own -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

/-- The two arguments the kernel does not touch. -/
abbrev yLoc (d : Dev nD) : Loc nD τ sig := (SparseCore.T d).loc main_arg1
abbrev zLoc (d : Dev nD) : Loc nD τ sig := (SparseCore.T d).loc main_arg2

theorem unscopedBufs_eq (d : Dev nD) (W : (b : Ref sig .tc) → Buf (Elt F) ((d.tc : Thread nD τ).loc b)) :
    (unscopedBufs d W : sProp 𝕄)
      = iprop((xLoc d ↦{fullShare} W main_arg0) ∗ (yLoc d ↦{fullShare} W main_arg1) ∗ (zLoc d ↦{fullShare} W main_arg2) ∗ oLoc d ↦{fullShare} W main_v0) := by
  unfold unscopedBufs
  rw [show (Finset.univ.filter fun b : Ref sig .tc => ¬ b.isScoped) = {main_arg0, main_arg1, main_arg2, main_v0} by decide,
    SparseCore.bigSep_insert' (by decide), SparseCore.bigSep_insert' (by decide), SparseCore.bigSep_insert' (by decide), bigSep_singleton]

/-- What the call is given is `x` and the result array whole; what it gives back is them with the result written. -/
theorem st0_eq (d : Dev nD) :
    (bigSep Finset.univ fun c : Fin ((K (F := F)).nCore 0) => (P m).st 0 d c)
      = iprop((xLoc d ↦{fullShare} m (xLoc d)) ∗ oLoc d ↦{fullShare} m (oLoc d)) := by
  show (bigSep Finset.univ fun c : Fin 2 => bigSep Finset.univ fun i : Fin 16 => tilePts m d (2 * i.val + c.val) 0) = _
  rw [xPts_pieces, oPts_pieces]
  simp only [tilePts, xs, os, pool_start, bigSep_sep']; rfl
theorem dn0_eq (d : Dev nD) :
    (bigSep Finset.univ fun c : Fin ((K (F := F)).nCore 0) => (P m).dn 0 d c)
      = iprop((xLoc d ↦{fullShare} m (xLoc d)) ∗ oLoc d ↦{fullShare} (result (F := F) (m (xLoc d)) : Buf (Elt F) (oLoc d))) := by
  show (bigSep Finset.univ fun c : Fin 2 => bigSep Finset.univ fun i : Fin 16 => tilePts m d (2 * i.val + c.val) 32) = _
  rw [xPts_pieces, oPts_pieces]
  simp only [tilePts, xs, os, pool_end, bigSep_sep']; rfl

/-- The four arrays at the end: the arguments as they were, the result written. -/
abbrev FIN (d : Dev nD) : sProp 𝕄 :=
  iprop((xLoc d ↦{fullShare} m (xLoc d)) ∗ (yLoc d ↦{fullShare} m (yLoc d)) ∗ (zLoc d ↦{fullShare} m (zLoc d))
    ∗ oLoc d ↦{fullShare} (result (F := F) (m (xLoc d)) : Buf (Elt F) (oLoc d)))

/-- @main on device `d`'s TensorCore: the one call, from the four arrays to the same with the result written. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hx, Hy, Hz, Ho⟩, Hts, -⟩, -⟩
  iapply ((K (F := F)).wp_run (D (F := F)) 𝒱 (EH := EH) (P := P m) κ d 0) $$ [Hst Hx Hy Hz Ho Hb Hts]
  isplitr; · iexact Hctx
  isplitl [Hst]; · iexact Hst
  isplitl [Hx Ho]
  · rw [st0_eq]
    isplitl [Hx]; · iexact Hx
    iexact Ho
  iintro ⟨Hst, Hdn⟩
  ihave Hdn' := (Entails.of_eq (dn0_eq m d)) $$ Hdn
  icases Hdn' with ⟨Hx, Ho⟩
  imodintro
  isplitl [Hst]; · iexact Hst
  isplitr [Hb Hts]
  · isplitl [Hx]; · iexact Hx
    isplitl [Hy]; · iexact Hy
    isplitl [Hz]; · iexact Hz
    iexact Ho
  isplitl [Hb] <;> iassumption

/-- An array held whole is what the final memory holds. -/
theorem read_whole {ℓ : Loc nD τ sig} (f : Buf (Elt F) ℓ) (s' : Phys nD τ sig (Elt F)) :
    iprop((ℓ ↦{fullShare} f) ∗ SI s') ⊢ (iprop(⌜s'.mem.mem ℓ = f⌝ ∗ SI s') : sProp 𝕄) := by
  iintro ⟨Hf, HSI⟩
  ihave H := (persistent_entails_right (SI_pointsTo_agree (st := s') (ℓ := ℓ) (I := Finset.univ) (q := fullShare) (f := f))) $$ [HSI Hf]
  · isplitl [HSI] <;> iassumption
  icases H with ⟨%h, HSI, -⟩
  isplitr; · ipureintro; exact funext fun i => h i (Finset.mem_univ i)
  iexact HSI

/-- What a final memory is shown to be, on device `d`. -/
def fq (d : Dev nD) (s' : MemSt nD τ sig (Elt F)) : Prop :=
  s'.mem (oLoc d) = (result (F := F) (m (xLoc d)) : Buf (Elt F) (oLoc d)) ∧ s'.mem (xLoc d) = m (xLoc d) ∧ s'.mem (yLoc d) = m (yLoc d)
    ∧ s'.mem (zLoc d) = m (zLoc d)

theorem hfin (d : Dev nD) (s' : Phys nD τ sig (Elt F)) : iprop(FIN m d ∗ SI s') ⊢ (⌜fq m d s'.mem⌝ : sProp 𝕄) := by
  iintro ⟨⟨Hx, Hy, Hz, Ho⟩, HSI⟩
  ihave H := (read_whole _ s') $$ [Hx HSI]; · isplitl [Hx] <;> iassumption
  icases H with ⟨%hx, HSI⟩
  ihave H := (read_whole _ s') $$ [Hy HSI]; · isplitl [Hy] <;> iassumption
  icases H with ⟨%hy, HSI⟩
  ihave H := (read_whole _ s') $$ [Hz HSI]; · isplitl [Hz] <;> iassumption
  icases H with ⟨%hz, HSI⟩
  ihave H := (read_whole _ s') $$ [Ho HSI]; · isplitl [Ho] <;> iassumption
  icases H with ⟨%ho, HSI⟩
  ipureintro; exact ⟨ho, hx, hy, hz⟩

/-! ## The program's run -/

/-- The whole run, for any float values: every weakly fair execution of all the threads ends, with the result array at the clipped
    argument laid out as grids, the three arguments unchanged, every semaphore counter at zero. -/
theorem run_main [∀ e, Nonempty (Elt F e)] : θ_run (Cert.KernelIdeal.defs (F := F)) (Cert.KernelIdeal.threads (F := F)) ⟨m, fun _ => 0, ρ⟩
    (fun r => (∀ d : Dev nD, fq m d r.2) ∧ r.2.sem = fun _ => 0) :=
  SparseCore.Cfg.θ_run_sc_quiescent (K := K (F := F)) (D := D (F := F)) (𝒱 := 𝒱) (EH := EH) (P := P m) (A := ∅) hfacts v₀
    (fun q hq => match q with | 0 => nomatch hq)
    (fun q _ => match q with | 0 => tileObl m hfacts)
    (fun q _ => match q with | 0 => SparseCore.Cfg.VecSplit.of_plain (vecSplit m))
    m ρ main (fun _ => iprop(emp)) (FIN m) (u₀ (F := F)) (sep_elim_left.trans (hu₀ m)) (hmain m ρ) (fun d s' => fq m d s'.mem) (hfin m)
    (fun r => (∀ d : Dev nD, fq m d r.2) ∧ r.2.sem = fun _ => 0) (fun _ h hz => ⟨h, hz⟩)

end Cert.Proof.Clip

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Launch
public import Idealize.ShloMosaic.Lib.Quiescent
public import Idealize.ShloMosaic.PureOps.Ideal.Laws
public import Idealize.ShloMosaic.Adequacy
public import Idealize.ShloMosaic.Init

@[expose] public section

noncomputable section

namespace Cert.Proof

open Idealize.ShloMosaic Idealize.ShloMosaic.TcCoe Idealize.SL.Sem
open Cert.Proof.Clip (result clipV run_main)

/-! ## The frames -/

/-- The kernel over floats: the one run at bit patterns, read at the arguments and the counters. -/
theorem frame_kernel : Cert.quiescent_Kernel := fun m ρ _ =>
  (θ_run Cert.KernelIdeal.defs _ _).mono (fun _ h => ⟨fun c => (h.1 c).2, h.2⟩) (run_main (F := Bits) m ρ)

/-- The kernel over the extended reals: the same run there. -/
theorem frame_kernelIdeal : Cert.quiescent_KernelIdeal := fun m ρ _ =>
  (θ_run Cert.KernelIdeal.defs _ _).mono (fun _ h => ⟨fun c => (h.1 c).2, h.2⟩) (run_main (F := Ideal) m ρ)

/-- The reference: its run read at the arguments; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-! ## The value -/

/-- Over the extended reals the reference's element, the lesser of the upper bound and the greater of the lower bound and `a`, is the
    kernel's. -/
theorem clip_eq (a : Ideal .f32) :
    FloatOps.minimumf (Scalar.ofBits .f32 0x40C00000#32 : Ideal .f32) (FloatOps.maximumf (Scalar.ofBits .f32 0xC0C00000#32 : Ideal .f32) a) = clipV a := by
  unfold clipV
  rw [Std.Commutative.comm (op := FloatOps.maximumf) a]
  exact Std.Commutative.comm (op := FloatOps.minimumf) _ _

/-- The kernel and the reference, over the extended reals and from equal arguments, both end with the result array at the clipped
    argument laid out as grids. -/
theorem algebraic : Cert.algebraic_KernelIdeal_ReferenceIdeal := by
  intro m ρ m' ρ' _ hagree
  refine ⟨fun c => result (F := Ideal) (m ((c.tc : Thread Cert.KernelIdeal.nD Cert.KernelIdeal.τ).loc Cert.KernelIdeal.main_arg0)), ?_, ?_⟩
  · exact (θ_run Cert.KernelIdeal.defs _ _).mono (fun _ h c => h.1 c) (run_main (F := Ideal) m ρ)
  refine (θ_run Cert.ReferenceIdeal.defs _ _).mono (fun _ h c => ⟨(h c).1.trans ?_, (h c).2⟩) (Cert.ReferenceIdeal.Value.run (F := Ideal) m' ρ')
  rw [(hagree c).1]
  exact funext fun j => clip_eq _

theorem claim : Cert.Claim := ⟨Cert.Kernel.Gen.facts, Cert.KernelIdeal.Gen.facts, Cert.ReferenceIdeal.Gen.facts,
  frame_kernel, frame_kernelIdeal, frame_reference, trivial, algebraic⟩

end Cert.Proof

end
